-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v119) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S512x2048 : Shape := ⟨2, ![512, 2048]⟩
abbrev S6x512x1024 : Shape := ⟨3, ![6, 512, 1024]⟩
abbrev S6x512 : Shape := ⟨2, ![6, 512]⟩
abbrev S8x512 : Shape := ⟨2, ![8, 512]⟩
abbrev S6 : Shape := ⟨1, ![6]⟩
abbrev S1 : Shape := ⟨1, ![1]⟩
abbrev S_ : Shape := ⟨0, ![]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1x512 : Shape := ⟨2, ![1, 512]⟩

abbrev nBuf : Space → Nat
  | .hbm => 3
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S512x2048, .f32⟩
  | .local _ .vmem, ⟨0, _⟩ => ⟨S512x2048, .f32⟩
  | .local _ .vmem, ⟨1, _⟩ => ⟨S2048x1024, .f32⟩
  | .local _ .vmem, ⟨2, _⟩ => ⟨S1024x2048, .f32⟩
  | .local _ .vmem, ⟨3, _⟩ => ⟨S2048x1024, .bf16⟩
  | .local _ .vmem, ⟨4, _⟩ => ⟨S1024x2048, .bf16⟩
  | .local _ .vmem, ⟨5, _⟩ => ⟨S6x512x1024, .i8⟩
  | .local _ .vmem, ⟨6, _⟩ => ⟨S6x512x1024, .i8⟩
  | .local _ .vmem, ⟨7, _⟩ => ⟨S6x512, .f32⟩
  | .local _ .vmem, ⟨8, _⟩ => ⟨S8x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let v9 : BitVec 32 := Scalar.remsi v8 c4_i32_5
  let c512_i32_6 : BitVec 32 := 512#32
  let v11 : BitVec 32 := Scalar.muli v9 c512_i32_6
  let c0_i32_17 : BitVec 32 := 0#32
  ![v11.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c512_i32_10 : BitVec 32 := 512#32
  let v15 : BitVec 32 := Scalar.muli v5 c512_i32_10
  let c0_i32_27 : BitVec 32 := 0#32
  ![v15.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_12 : BitVec 32 := 512#32
  let v17 : BitVec 32 := Scalar.muli v2 c512_i32_12
  let c0_i32_29 : BitVec 32 := 0#32
  ![v17.toNat, 0]
def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_32 : BitVec 32 := 1#32
  let v43 : BitVec 32 := Scalar.muli v5 c1_i32_32
  let v44 : BitVec 32 := Scalar.addi c0_i32_33 v43
  v44.toNat
def k0_dev2 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_35 : BitVec 32 := 1#32
  let v45 : BitVec 32 := Scalar.muli v7 c1_i32_35
  let v46 : BitVec 32 := Scalar.addi c0_i32_36 v45
  v46.toNat
def k0_off4 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let v9 : BitVec 32 := Scalar.remsi v8 c4_i32_5
  let c512_i32_47 : BitVec 32 := 512#32
  let v60 : BitVec 32 := Scalar.muli v9 c512_i32_47
  let v61 : Index := Scalar.indexCast v60
  let c0_48 : Index := 0#32
  ![v61.toNat, 0]
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_69 : BitVec 32 := 1#32
  let v93 : BitVec 32 := Scalar.muli v7 c1_i32_69
  let v94 : BitVec 32 := Scalar.addi c0_i32_70 v93
  v94.toNat
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_79 : BitVec 32 := 1#32
  let v103 : BitVec 32 := Scalar.muli v7 c1_i32_79
  let v104 : BitVec 32 := Scalar.addi c0_i32_80 v103
  v104.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_109 : BitVec 32 := 1#32
  let v146 : BitVec 32 := Scalar.muli v5 c1_i32_109
  let v147 : BitVec 32 := Scalar.addi c0_i32_110 v146
  v147.toNat
def k0_dev6 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_119 : BitVec 32 := 1#32
  let v156 : BitVec 32 := Scalar.muli v5 c1_i32_119
  let v157 : BitVec 32 := Scalar.addi c0_i32_120 v156
  v157.toNat
def k0_dev7 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_147 : BitVec 32 := 1#32
  let v203 : BitVec 32 := Scalar.muli v7 c1_i32_147
  let v204 : BitVec 32 := Scalar.addi c0_i32_148 v203
  v204.toNat
def k0_dev8 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_157 : BitVec 32 := 1#32
  let v213 : BitVec 32 := Scalar.muli v7 c1_i32_157
  let v214 : BitVec 32 := Scalar.addi c0_i32_158 v213
  v214.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c512_i32_164 : BitVec 32 := 512#32
  let v227 : BitVec 32 := Scalar.muli v5 c512_i32_164
  let v228 : Index := Scalar.indexCast v227
  let c0_165 : Index := 0#32
  ![v228.toNat, 0]
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_185 : BitVec 32 := 1#32
  let v260 : BitVec 32 := Scalar.muli v5 c1_i32_185
  let v261 : BitVec 32 := Scalar.addi c0_i32_186 v260
  v261.toNat
def k0_dev10 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_195 : BitVec 32 := 1#32
  let v270 : BitVec 32 := Scalar.muli v5 c1_i32_195
  let v271 : BitVec 32 := Scalar.addi c0_i32_196 v270
  v271.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_212 : BitVec 32 := 512#32
  let v294 : BitVec 32 := Scalar.muli v2 c512_i32_212
  let v295 : Index := Scalar.indexCast v294
  let c0_213 : Index := 0#32
  ![v295.toNat, 0]
def k0_dev11 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_277 : BitVec 32 := 1#32
  let v369 : BitVec 32 := Scalar.muli v7 c1_i32_277
  let v370 : BitVec 32 := Scalar.addi c0_i32_278 v369
  v370.toNat
def k0_dev12 (d0 : Dev nD) : Nat :=
  let c0_i32_288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_287 : BitVec 32 := 1#32
  let v379 : BitVec 32 := Scalar.muli v7 c1_i32_287
  let v380 : BitVec 32 := Scalar.addi c0_i32_288 v379
  v380.toNat
def k0_dev13 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_342 : BitVec 32 := 1#32
  let v445 : BitVec 32 := Scalar.muli v5 c1_i32_342
  let v446 : BitVec 32 := Scalar.addi c0_i32_343 v445
  v446.toNat
def k0_dev14 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_352 : BitVec 32 := 1#32
  let v455 : BitVec 32 := Scalar.muli v5 c1_i32_352
  let v456 : BitVec 32 := Scalar.addi c0_i32_353 v455
  v456.toNat
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x4096 : Shape := ⟨2, ![2048, 4096]⟩
abbrev S4096x2048 : Shape := ⟨2, ![4096, 2048]⟩
abbrev S512x1024 : Shape := ⟨2, ![512, 1024]⟩
abbrev S1024x2048 : Shape := ⟨2, ![1024, 2048]⟩
abbrev S512x2048 : Shape := ⟨2, ![512, 2048]⟩
abbrev S2048x2048 : Shape := ⟨2, ![2048, 2048]⟩
abbrev S2048x2x1024 : Shape := ⟨3, ![2048, 2, 1024]⟩
abbrev S2048x1x1024 : Shape := ⟨3, ![2048, 1, 1024]⟩
abbrev S_ : Shape := ⟨0, ![]⟩
abbrev S2048x2 : Shape := ⟨2, ![2048, 2]⟩
abbrev S2048x2x1 : Shape := ⟨3, ![2048, 2, 1]⟩

abbrev nBuf : Space → Nat
  | .hbm => 134
  | .vmem => 0
  | .smem => 0
  | _ => 0

abbrev hbmTy0_0 (i : Nat) : BufTy := match i % 128 with
  | 0 => ⟨S2048x4096, .f32⟩
  | 1 => ⟨S4096x2048, .f32⟩
  | 2 => ⟨S512x1024, .f32⟩
  | 3 => ⟨S1024x2048, .f32⟩
  | 4 => ⟨S512x2048, .f32⟩
  | 5 => ⟨S512x1024, .f32⟩
  | 6 => ⟨S1024x2048, .f32⟩
  | 7 => ⟨S512x2048, .f32⟩
  | 8 => ⟨S512x1024, .f32⟩
  | 9 => ⟨S1024x2048, .f32⟩
  | 10 => ⟨S512x2048, .f32⟩
  | 11 => ⟨S512x1024, .f32⟩
  | 12 => ⟨S1024x2048, .f32⟩
  | 13 => ⟨S512x2048, .f32⟩
  | 14 => ⟨S2048x2048, .f32⟩
  | 15 => ⟨S2048x2x1024, .f32⟩
  | 16 => ⟨S512x1024, .f32⟩
  | 17 => ⟨S1024x2048, .f32⟩
  | 18 => ⟨S512x2048, .f32⟩
  | 19 => ⟨S512x1024, .f32⟩
  | 20 => ⟨S1024x2048, .f32⟩
  | 21 => ⟨S512x2048, .f32⟩
  | 22 => ⟨S512x1024, .f32⟩
  | 23 => ⟨S1024x2048, .f32⟩
  | 24 => ⟨S512x2048, .f32⟩
  | 25 => ⟨S512x1024, .f32⟩
  | 26 => ⟨S1024x2048, .f32⟩
  | 27 => ⟨S512x2048, .f32⟩
  | 28 => ⟨S2048x2048, .f32⟩
  | 29 => ⟨S2048x2x1024, .f32⟩
  | 30 => ⟨S512x1024, .f32⟩
  | 31 => ⟨S1024x2048, .f32⟩
  | 32 => ⟨S512x2048, .f32⟩
  | 33 => ⟨S512x1024, .f32⟩
  | 34 => ⟨S1024x2048, .f32⟩
  | 35 => ⟨S512x2048, .f32⟩
  | 36 => ⟨S512x1024, .f32⟩
  | 37 => ⟨S1024x2048, .f32⟩
  | 38 => ⟨S512x2048, .f32⟩
  | 39 => ⟨S512x1024, .f32⟩
  | 40 => ⟨S1024x2048, .f32⟩
  | 41 => ⟨S512x2048, .f32⟩
  | 42 => ⟨S2048x2048, .f32⟩
  | 43 => ⟨S2048x2x1024, .f32⟩
  | 44 => ⟨S512x1024, .f32⟩
  | 45 => ⟨S1024x2048, .f32⟩
  | 46 => ⟨S512x2048, .f32⟩
  | 47 => ⟨S512x1024, .f32⟩
  | 48 => ⟨S1024x2048, .f32⟩
  | 49 => ⟨S512x2048, .f32⟩
  | 50 => ⟨S512x1024, .f32⟩
  | 51 => ⟨S1024x2048, .f32⟩
  | 52 => ⟨S512x2048, .f32⟩
  | 53 => ⟨S512x1024, .f32⟩
  | 54 => ⟨S1024x2048, .f32⟩
  | 55 => ⟨S512x2048, .f32⟩
  | 56 => ⟨S2048x2048, .f32⟩
  | 57 => ⟨S2048x2x1024, .f32⟩
  | 58 => ⟨S2048x1x1024, .f32⟩
  | 59 => ⟨S2048x1x1024, .f32⟩
  | 60 => ⟨S2048x2x1024, .f32⟩
  | 61 => ⟨S2048x1x1024, .f32⟩
  | 62 => ⟨S2048x1x1024, .f32⟩
  | 63 => ⟨S2048x2x1024, .f32⟩
  | 64 => ⟨S2048x2x1024, .f32⟩
  | 65 => ⟨S_, .f32⟩
  | 66 => ⟨S2048x2, .f32⟩
  | 67 => ⟨S2048x2x1, .f32⟩
  | 68 => ⟨S_, .f32⟩
  | 69 => ⟨S2048x2x1, .f32⟩
  | 70 => ⟨S2048x2x1, .f32⟩
  | 71 => ⟨S_, .f32⟩
  | 72 => ⟨S2048x2x1, .f32⟩
  | 73 => ⟨S2048x2x1, .f32⟩
  | 74 => ⟨S2048x2x1024, .f32⟩
  | 75 => ⟨S2048x2x1024, .f32⟩
  | 76 => ⟨S2048x2x1024, .f32⟩
  | 77 => ⟨S2048x2x1024, .i32⟩
  | 78 => ⟨S2048x2x1024, .i8⟩
  | 79 => ⟨S2048x2x1024, .i32⟩
  | 80 => ⟨S2048x2x1024, .f32⟩
  | 81 => ⟨S_, .f32⟩
  | 82 => ⟨S2048x2x1, .f32⟩
  | 83 => ⟨S2048x2x1, .f32⟩
  | 84 => ⟨S2048x2x1024, .f32⟩
  | 85 => ⟨S2048x2x1024, .f32⟩
  | 86 => ⟨S2048x2x1024, .f32⟩
  | 87 => ⟨S2048x2x1024, .f32⟩
  | 88 => ⟨S_, .f32⟩
  | 89 => ⟨S2048x2, .f32⟩
  | 90 => ⟨S2048x2x1, .f32⟩
  | 91 => ⟨S_, .f32⟩
  | 92 => ⟨S2048x2x1, .f32⟩
  | 93 => ⟨S2048x2x1, .f32⟩
  | 94 => ⟨S_, .f32⟩
  | 95 => ⟨S2048x2x1, .f32⟩
  | 96 => ⟨S2048x2x1, .f32⟩
  | 97 => ⟨S2048x2x1024, .f32⟩
  | 98 => ⟨S2048x2x1024, .f32⟩
  | 99 => ⟨S2048x2x1024, .f32⟩
  | 100 => ⟨S2048x2x1024, .i32⟩
  | 101 => ⟨S2048x2x1024, .i8⟩
  | 102 => ⟨S2048x2x1024, .i32⟩
  | 103 => ⟨S2048x2x1024, .f32⟩
  | 104 => ⟨S_, .f32⟩
  | 105 => ⟨S2048x2x1, .f32⟩
  | 106 => ⟨S2048x2x1, .f32⟩
  | 107 => ⟨S2048x2x1024, .f32⟩
  | 108 => ⟨S2048x2x1024, .f32⟩
  | 109 => ⟨S2048x2x1024, .f32⟩
  | 110 => ⟨S2048x2x1024, .f32⟩
  | 111 => ⟨S_, .f32⟩
  | 112 => ⟨S2048x2, .f32⟩
  | 113 => ⟨S2048x2x1, .f32⟩
  | 114 => ⟨S_, .f32⟩
  | 115 => ⟨S2048x2x1, .f32⟩
  | 116 => ⟨S2048x2x1, .f32⟩
  | 117 => ⟨S_, .f32⟩
  | 118 => ⟨S2048x2x1, .f32⟩
  | 119 => ⟨S2048x2x1, .f32⟩
  | 120 => ⟨S2048x2x1024, .f32⟩
  | 121 => ⟨S2048x2x1024, .f32⟩
  | 122 => ⟨S2048x2x1024, .f32⟩
  | 123 => ⟨S2048x2x1024, .i32⟩
  | 124 => ⟨S2048x2x1024, .i8⟩
  | 125 => ⟨S2048x2x1024, .i32⟩
  | 126 => ⟨S2048x2x1024, .f32⟩
  | 127 => ⟨S_, .f32⟩
  | _ => ⟨S2048x4096, .f32⟩

abbrev hbmTy0_1 (i : Nat) : BufTy := match i % 128 with
  | 0 => ⟨S2048x2x1, .f32⟩
  | 1 => ⟨S2048x2x1, .f32⟩
  | 2 => ⟨S2048x2x1024, .f32⟩
  | 3 => ⟨S2048x2x1024, .f32⟩
  | 4 => ⟨S2048x2x1024, .f32⟩
  | 5 => ⟨S2048x2048, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_cst : Ref sig .tc := ⟨.hbm, 65, rfl⟩
abbrev main_v63 : Ref sig .tc := ⟨.hbm, 66, rfl⟩
abbrev main_v64 : Ref sig .tc := ⟨.hbm, 67, rfl⟩
abbrev main_cst_0 : Ref sig .tc := ⟨.hbm, 68, rfl⟩
abbrev main_v65 : Ref sig .tc := ⟨.hbm, 69, rfl⟩
abbrev main_v66 : Ref sig .tc := ⟨.hbm, 70, rfl⟩
abbrev main_cst_1 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_cst_2 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_cst_3 : Ref sig .tc := ⟨.hbm, 88, rfl⟩
abbrev main_v82 : Ref sig .tc := ⟨.hbm, 89, rfl⟩
abbrev main_v83 : Ref sig .tc := ⟨.hbm, 90, rfl⟩
abbrev main_cst_4 : Ref sig .tc := ⟨.hbm, 91, rfl⟩
abbrev main_v84 : Ref sig .tc := ⟨.hbm, 92, rfl⟩
abbrev main_v85 : Ref sig .tc := ⟨.hbm, 93, rfl⟩
abbrev main_cst_5 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_cst_6 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_cst_7 : Ref sig .tc := ⟨.hbm, 111, rfl⟩
abbrev main_v101 : Ref sig .tc := ⟨.hbm, 112, rfl⟩
abbrev main_v102 : Ref sig .tc := ⟨.hbm, 113, rfl⟩
abbrev main_cst_8 : Ref sig .tc := ⟨.hbm, 114, rfl⟩
abbrev main_v103 : Ref sig .tc := ⟨.hbm, 115, rfl⟩
abbrev main_v104 : Ref sig .tc := ⟨.hbm, 116, rfl⟩
abbrev main_cst_9 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_cst_10 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩

abbrev nD : Nat := 1
abbrev τ : Topo := Topo.v7x

variable {F : FTy → Type} [FloatOps F]
-- ==== Proof.Ops.lean ====
/-
  01_k — the memory steps of the kernel over owned slices.

  Every buffer of the kernel is held as slices, each owned at the value that it holds. A load or a store of such a slice
  is one step that names the value; a copy between slices hands the value on.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ViewIndex
public import Idealize.ShloMosaic.Lib.Tactic

@[expose] public section

noncomputable section

namespace Cert.Mk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program of device `c`'s core. -/
abbrev run (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-- The unit-stride slice of `M` at `off` of extents `size`. -/
abbrev sl {sp : Space} {sh : Shape} {e : EltTy} (M : Memref sig .tc sp sh e) (off size : Fin sh.rank → ℕ)
    (h : ∀ a, off a + size a ≤ sh.size a) : Memref sig .tc sp (Rect.unit (s := sh) off size h).shape e :=
  M.slice (Rect.unit (s := sh) off size h) (fun _ => rfl)

/-- Device `c` owns the memref at `X`. -/
abbrev own (c : Dev nD) {sp : Space} {sh : Shape} {e : EltTy} (M : Memref sig .tc sp sh e) (X : sh.Idx → Elt F e) : sProp 𝕄 :=
  owns (c : Thread nD τ) M fullShare X

/-- Device `c` owns the memref at some value. -/
abbrev anyv (c : Dev nD) {sp : Space} {sh : Shape} {e : EltTy} (M : Memref sig .tc sp sh e) : sProp 𝕄 :=
  iprop(∃ X, own (F := F) c M X)

section Mem

variable (c : Dev nD) {sh : Shape} {e : EltTy} {M : Memref sig .tc .vmem sh e} {off size : Fin sh.rank → ℕ} {h : ∀ a, off a + size a ≤ sh.size a}

theorem wp_ld {α : Type} {Q : α → sProp 𝕄} (off' : Fin sh.rank → ℕ) (ho : off' = off) {h' : ∀ a, off' a + size a ≤ sh.size a}
    {hl : M.view.LoadsAt (Rect.unit (s := sh) off' size h').toLoadRect} (X : (Rect.unit (s := sh) off size h).shape.Idx → Elt F e)
    {k : ((Rect.unit (s := sh) off' size h').toLoadRect.shape.Idx → Elt F e) → Prog (TpuEff nD τ sig (Elt F) Λ₀ .tc) α} :
    own c (sl M off size h) X ⊢ iprop((own c (sl M off size h) X -∗ run c (k X) Q)
      -∗ run c (.op (.load (cs := .vmem) M (Rect.unit (s := sh) off' size h').toLoadRect hl) k) Q) := by
  subst ho
  unfold own owns
  iintro ⟨%f, %hf, H⟩ Hk
  subst hf
  iapply (wp_load 𝒱₀ (c : Thread nD τ) none Set.univ (cs := .vmem) (m := M) (hl := hl) (S := (sl M off' size h).view.set)
    (show M.view.setOn (Rect.unit (s := sh) off' size h').set ⊆ (M.view.slice (Rect.unit (s := sh) off' size h')).set by rw [View.set_slice]; exact Finset.Subset.refl _)) $$ H
  iintro H
  iapply Hk
  iexists f
  isplitr; · ipureintro; rfl
  iexact H

theorem wp_ldAny {α : Type} {Q : α → sProp 𝕄} (off' : Fin sh.rank → ℕ) (ho : off' = off) {h' : ∀ a, off' a + size a ≤ sh.size a}
    {hl : M.view.LoadsAt (Rect.unit (s := sh) off' size h').toLoadRect}
    {k : ((Rect.unit (s := sh) off' size h').toLoadRect.shape.Idx → Elt F e) → Prog (TpuEff nD τ sig (Elt F) Λ₀ .tc) α} :
    anyv c (sl M off size h) ⊢ iprop((∀ X, anyv c (sl M off size h) -∗ run c (k X) Q)
      -∗ run c (.op (.load (cs := .vmem) M (Rect.unit (s := sh) off' size h').toLoadRect hl) k) Q) := by
  subst ho
  iintro ⟨%X, H⟩ Hk
  iapply (wp_ld c off' rfl X) $$ H
  iintro H
  iapply Hk
  iexists X; iexact H

theorem wp_stAny {α : Type} {Q : α → sProp 𝕄} (off' : Fin sh.rank → ℕ) (ho : off' = off) {h' : ∀ a, off' a + size a ≤ sh.size a}
    (w : (Rect.unit (s := sh) off' size h').shape.Idx → Elt F e) {Mk : Finset (Rect.unit (s := sh) off' size h').shape.Idx} (hMk : Mk = Finset.univ)
    {hx : (M.access (Rect.unit (s := sh) off' size h')).Stores Mk}
    {hm : Mk = Finset.univ ∨ ∀ a, (Rect.unit (s := sh) off' size h').stride a = 1}
    {k : PUnit → Prog (TpuEff nD τ sig (Elt F) Λ₀ .tc) α} :
    anyv (F := F) c (sl M off size h) ⊢ iprop((own c (sl M off size h) w -∗ run c (k ⟨⟩) Q)
      -∗ run c (.op (.store (cs := .vmem) M (Rect.unit (s := sh) off' size h') w Mk hx hm) k) Q) := by
  subst ho hMk
  unfold anyv own owns
  iintro ⟨%X, %f, %hf, H⟩ Hk
  iapply (wp_store 𝒱₀ (c : Thread nD τ) none Set.univ (cs := .vmem) (m := M) (r := Rect.unit (s := sh) off' size h') (w := w) (Mk := Finset.univ)
    (hx := hx) (hm := hm) (S := (sl M off' size h).view.set) (Finset.Subset.refl _)) $$ H
  iintro H
  iapply Hk
  iexists _
  isplitr
  rotate_left; · iexact H
  ipureintro
  exact View.read_write_univ (v := (sl M off' size h).view) f w

theorem wp_st {α : Type} {Q : α → sProp 𝕄} (off' : Fin sh.rank → ℕ) (ho : off' = off) {h' : ∀ a, off' a + size a ≤ sh.size a}
    (w : (Rect.unit (s := sh) off' size h').shape.Idx → Elt F e) {Mk : Finset (Rect.unit (s := sh) off' size h').shape.Idx} (hMk : Mk = Finset.univ)
    {hx : (M.access (Rect.unit (s := sh) off' size h')).Stores Mk}
    {hm : Mk = Finset.univ ∨ ∀ a, (Rect.unit (s := sh) off' size h').stride a = 1}
    {X : (Rect.unit (s := sh) off size h).shape.Idx → Elt F e}
    {k : PUnit → Prog (TpuEff nD τ sig (Elt F) Λ₀ .tc) α} :
    own c (sl M off size h) X ⊢ iprop((own c (sl M off size h) w -∗ run c (k ⟨⟩) Q)
      -∗ run c (.op (.store (cs := .vmem) M (Rect.unit (s := sh) off' size h') w Mk hx hm) k) Q) := by
  iintro H Hk
  iapply (wp_stAny c off' ho w hMk) $$ [H]
  · iexists X; iexact H
  iexact Hk

end Mem

end Cert.Mk

end
-- ==== Proof.Protocol.lean ====
/-
  01_k — who sends what, and what each semaphore hands over.

  Device c computes with c + 1 (its right neighbour), c - 1 (its left) and c + 2 (the opposite one). It sends six messages,
  each a block of int8 codes and a vector of scales: messages 0, 2, 4 to the right, messages 1, 3, 5 to the left, each in a slot
  of its own with semaphores of its own. Messages 0 and 1 carry the opposite device's rows (to be relayed), 2 and 3 the neighbour's
  rows, 4 and 5 the relayed sums. Before the first one each device signals both neighbours' barrier semaphore, which hands them its
  landing slots, and waits for both.

  Every semaphore is a cell with one round: the barrier's has two duties of a unit, one for each neighbour, any other cell
  one duty, the credit of its copy.
-/
module

public import proofs.«01_k».proof.Proof.Ops

@[expose] public section

noncomputable section

namespace Cert.Mk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩
set_option backward.proofsInPublic true in
/-- The opposite device. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide

/-- Who message `i` of device `c` goes to. -/
def rcp (i : Fin 6) (c : Dev nD) : Dev nD := if i.val % 2 = 0 then nxt c else prv c
/-- Who message `i` that lands on device `c` comes from. -/
def snd (i : Fin 6) (c : Dev nD) : Dev nD := if i.val % 2 = 0 then prv c else nxt c

theorem snd_rcp (i : Fin 6) (c : Dev nD) : snd i (rcp i c) = c := by revert i c; decide
theorem rcp_snd (i : Fin 6) (c : Dev nD) : rcp i (snd i c) = c := by revert i c; decide

/-! ## Memrefs and slices -/

abbrev aH : Memref sig .tc .hbm S2048x1024 .f32 := Memref.whole main_arg0
abbrev bH : Memref sig .tc .hbm S1024x2048 .f32 := Memref.whole main_arg1
abbrev oM : Memref sig .tc .vmem S512x2048 .f32 := Memref.whole cc0_stg0_0
abbrev aM : Memref sig .tc .vmem S2048x1024 .f32 := Memref.whole cc0_scratch0
abbrev bM : Memref sig .tc .vmem S1024x2048 .f32 := Memref.whole cc0_scratch1
abbrev aB : Memref sig .tc .vmem S2048x1024 .bf16 := Memref.whole cc0_scratch2
abbrev bB : Memref sig .tc .vmem S1024x2048 .bf16 := Memref.whole cc0_scratch3
abbrev xs : Memref sig .tc .vmem S6x512x1024 .i8 := Memref.whole cc0_scratch4
abbrev xd : Memref sig .tc .vmem S6x512x1024 .i8 := Memref.whole cc0_scratch5
abbrev ss : Memref sig .tc .vmem S6x512 .f32 := Memref.whole cc0_scratch6
abbrev sd : Memref sig .tc .vmem S8x512 .f32 := Memref.whole cc0_scratch7

theorem inA (j : Dev nD) : ∀ a, (![512 * j.val, 0] : Fin 2 → ℕ) a + S512x1024.size a ≤ S2048x1024.size a := by revert j; decide
theorem inB (h : Fin 2) : ∀ a, (![0, 1024 * h.val] : Fin 2 → ℕ) a + S1024x1024.size a ≤ S1024x2048.size a := by revert h; decide
theorem inO (h : Fin 2) : ∀ a, (![0, 1024 * h.val] : Fin 2 → ℕ) a + S512x1024.size a ≤ S512x2048.size a := by revert h; decide
theorem inX (i : Fin 6) : ∀ a, (![i.val, 0, 0] : Fin 3 → ℕ) a + S1x512x1024.size a ≤ S6x512x1024.size a := by revert i; decide
theorem inS (i : Fin 6) : ∀ a, (![i.val, 0] : Fin 2 → ℕ) a + S1x512.size a ≤ S6x512.size a := by revert i; decide
theorem inD (i : Fin 6) : ∀ a, (![i.val, 0] : Fin 2 → ℕ) a + S1x512.size a ≤ S8x512.size a := by revert i; decide

/-- The rows of device `j`'s block in a 2048×1024 buffer. -/
abbrev aSl {sp : Space} {e : EltTy} (M : Memref sig .tc sp S2048x1024 e) (j : Dev nD) := sl M ![512 * j.val, 0] S512x1024.size (inA j)
/-- A half of the columns of a 1024×2048 buffer. -/
abbrev bSl {sp : Space} {e : EltTy} (M : Memref sig .tc sp S1024x2048 e) (h : Fin 2) := sl M ![0, 1024 * h.val] S1024x1024.size (inB h)
/-- A half of the columns of the result block. -/
abbrev oSl (h : Fin 2) := sl oM ![0, 1024 * h.val] S512x1024.size (inO h)
/-- Slot `i` of a message buffer. -/
abbrev xSl (M : Memref sig .tc .vmem S6x512x1024 .i8) (i : Fin 6) := sl M ![i.val, 0, 0] S1x512x1024.size (inX i)
/-- Slot `i` of the scales to send. -/
abbrev sSl (i : Fin 6) := sl ss ![i.val, 0] S1x512.size (inS i)
/-- Slot `i` of the scales that land. -/
abbrev dSl (i : Fin 6) := sl sd ![i.val, 0] S1x512.size (inD i)

theorem off1_2 (c : Dev nD) : k0_off1 c 2#32 = ![512 * (opp c).val, 0] := k0_off1_eq c 1
theorem off1_1 (c : Dev nD) : k0_off1 c 1#32 = ![512 * (nxt c).val, 0] := k0_off1_eq c 0
theorem off4_2 (c : Dev nD) : k0_off4 c 2#32 = ![512 * (opp c).val, 0] := k0_off4_eq c 1
theorem off4_1 (c : Dev nD) : k0_off4 c 1#32 = ![512 * (nxt c).val, 0] := k0_off4_eq c 0
theorem off2 (c : Dev nD) : k0_off2 c = ![512 * (prv c).val, 0] := k0_off2_eq c
theorem off5 (c : Dev nD) : k0_off5 c = ![512 * (prv c).val, 0] := k0_off5_eq c
theorem off3 (c : Dev nD) : k0_off3 c = ![512 * c.val, 0] := k0_off3_eq c
theorem off6 (c : Dev nD) : k0_off6 c = ![512 * c.val, 0] := k0_off6_eq c

/-! ## Contents -/

/-- Row block `j` of device `c`'s block of A. -/
def Am (c j : Dev nD) : Vec F S512x1024 .f32 := (aSl aH j).view.read (Elt F) (m ((c : Thread nD τ).loc main_arg0))
/-- Column half `h` of device `c`'s block of B. -/
def Bm (c : Dev nD) (h : Fin 2) : Vec F S1024x1024 .f32 := (bSl bH h).view.read (Elt F) (m ((c : Thread nD τ).loc main_arg1))
/-- The same in bf16. -/
def Ab (c j : Dev nD) : Vec F S512x1024 .bf16 := k0_pay3 (Am m c j)
/-- The same in bf16. -/
def Bb (c : Dev nD) (h : Fin 2) : Vec F S1024x1024 .bf16 := k0_pay2 (Bm m c h)

/-- The codes of messages 0 to 3. -/
def D0 (c : Dev nD) : Vec F S1x512x1024 .i8 := k0_pay6 (Ab m c (opp c)) (Bb m c 1)
def D1 (c : Dev nD) : Vec F S1x512x1024 .i8 := k0_pay13 (Ab m c (opp c)) (Bb m c 0)
def D2 (c : Dev nD) : Vec F S1x512x1024 .i8 :=
  k0_pay19 (k0_pay16 (Ab m c (nxt c)) (Bb m c 0)) (k0_pay17 (Ab m c (nxt c)) (Bb m c 0))
def D3 (c : Dev nD) : Vec F S1x512x1024 .i8 := k0_pay24 (Ab m c (prv c)) (Bb m c 1)
/-- The scales of messages 0 to 3. -/
def S0 (c : Dev nD) : Vec F S1x512 .f32 := k0_pay8 (k0_pay7 (Ab m c (opp c)) (Bb m c 1))
def S1' (c : Dev nD) : Vec F S1x512 .f32 := k0_pay14 (Ab m c (opp c)) (Bb m c 0)
def S2 (c : Dev nD) : Vec F S1x512 .f32 := k0_pay20 (k0_pay17 (Ab m c (nxt c)) (Bb m c 0))
def S3 (c : Dev nD) : Vec F S1x512 .f32 := k0_pay25 (k0_pay23 (Ab m c (prv c)) (Bb m c 1))
/-- The relayed sums, messages 4 and 5. -/
def D4 (c : Dev nD) : Vec F S1x512x1024 .i8 := k0_pay33 (k0_pay26 (Ab m c (nxt c)) (Bb m c 1)) (D0 m (prv c)) (S0 m (prv c))
def S4 (c : Dev nD) : Vec F S1x512 .f32 := k0_pay34 (k0_pay26 (Ab m c (nxt c)) (Bb m c 1)) (D0 m (prv c)) (S0 m (prv c))
def D5 (c : Dev nD) : Vec F S1x512x1024 .i8 := k0_pay38 (k0_pay37 (k0_pay27 (Ab m c (prv c)) (Bb m c 0)) (D1 m (nxt c)) (S1' m (nxt c)))
def S5 (c : Dev nD) : Vec F S1x512 .f32 := k0_pay39 (k0_pay36 (k0_pay27 (Ab m c (prv c)) (Bb m c 0)) (D1 m (nxt c)) (S1' m (nxt c)))

/-- The codes of message `i` of device `c`, -/
def Dv (c : Dev nD) : Fin 6 → Vec F S1x512x1024 .i8
  | 0 => D0 m c | 1 => D1 m c | 2 => D2 m c | 3 => D3 m c | 4 => D4 m c | 5 => D5 m c
/-- and its scales. -/
def Sv (c : Dev nD) : Fin 6 → Vec F S1x512 .f32
  | 0 => S0 m c | 1 => S1' m c | 2 => S2 m c | 3 => S3 m c | 4 => S4 m c | 5 => S5 m c

/-- The left half of the result after the direct part, and at the end. -/
def lo0 (c : Dev nD) : Vec F S512x1024 .f32 := k0_pay40 (k0_pay29 (Ab m c c) (Bb m c 0)) (D2 m (prv c)) (S2 m (prv c))
def lo (c : Dev nD) : Vec F S512x1024 .f32 := k0_pay45 (k0_pay42 (lo0 m c)) (k0_pay43 (D5 m (nxt c))) (k0_pay44 (S5 m (nxt c)))
/-- The right half of the result after the direct part, and at the end. -/
def hi0 (c : Dev nD) : Vec F S512x1024 .f32 := k0_pay41 (k0_pay30 (Ab m c c) (Bb m c 1)) (D3 m (nxt c)) (S3 m (nxt c))
def hi (c : Dev nD) : Vec F S512x1024 .f32 := k0_pay1 (hi0 m c) (D4 m (prv c)) (S4 m (prv c))

/-! ## Cells -/

abbrev barS : Sem sig := (SemArray.scalar (sig.barrier 0 rfl) : Sems sig S_).sem
/-- DMA semaphore number `k`: 1 to 6 the copies in, 7 to 12 codes sent, 13 to 18 codes landed, 19 to 24 scales sent, 25 to 30 scales landed. -/
abbrev dq (k : Fin 31) : DmaSem sig := k
abbrev bar (c : Dev nD) : GSem nD τ sig := ((c : Thread nD τ), .reg barS)
abbrev dc (c : Dev nD) (k : Fin 31) : GSem nD τ sig := ((c : Thread nD τ), .dma (dq k))

abbrev kDS (i : Fin 6) : Fin 31 := ⟨7 + i.val, by omega⟩
abbrev kDR (i : Fin 6) : Fin 31 := ⟨13 + i.val, by omega⟩
abbrev kSS (i : Fin 6) : Fin 31 := ⟨19 + i.val, by omega⟩
abbrev kSR (i : Fin 6) : Fin 31 := ⟨25 + i.val, by omega⟩

/-- The kernel's semaphores: its barrier and thirty of its own. -/
abbrev csem (k : Fin 31) : SemLoc sig := if k = 0 then .reg barS else .dma (dq k)
abbrev kcell (ck : Dev nD × Fin 31) : GSem nD τ sig := ((ck.1 : Thread nD τ), csem ck.2)

theorem csem_dma {k : Fin 31} (hk : k ≠ 0) : csem k = .dma (dq k) := if_neg hk

theorem sqX : S1x512x1024.Squeezes S512x1024 := squeezes_S1x512x1024_S512x1024
theorem sqS : S1x512.Squeezes S512 := squeezes_S1x512_S512

/-- Slot `i` as a matrix, a vector. -/
abbrev xQ (M : Memref sig .tc .vmem S6x512x1024 .i8) (i : Fin 6) : Memref sig .tc .vmem S512x1024 .i8 := (xSl M i).squeeze S512x1024 sqX
abbrev sQ (i : Fin 6) : Memref sig .tc .vmem S512 .f32 := (sSl i).squeeze S512 sqS
abbrev dQ (i : Fin 6) : Memref sig .tc .vmem S512 .f32 := (dSl i).squeeze S512 sqS

/-- The credits of the copies: of a half of B, of a row block of A, of a message's codes and scales. -/
abbrev NB : ℕ := (bSl bM 0).view.dmaCredit
abbrev NA : ℕ := (aSl aM 0).view.dmaCredit
abbrev ND : ℕ := (xQ xd 0).view.dmaCredit
abbrev NS : ℕ := (dQ 0).view.dmaCredit

theorem NB_pos : 0 < NB := View.dmaCredit_pos _ (by decide)
theorem NA_pos : 0 < NA := View.dmaCredit_pos _ (by decide)
theorem ND_pos : 0 < ND := View.dmaCredit_pos _ (by decide)
theorem NS_pos : 0 < NS := View.dmaCredit_pos _ (by decide)

def amt (n : ℕ) : ℕ := if n = 1 ∨ n = 3 then NB else if n < 7 then NA else if n < 19 then ND else NS

theorem amt_pos (n : ℕ) : 0 < amt n := by
  unfold amt
  split
  · exact NB_pos
  split
  · exact NA_pos
  split
  · exact ND_pos
  · exact NS_pos

/-! ## Payloads -/

/-- The elements of a slice of an argument in HBM, at the launch's contents. -/
abbrev hbm (c : Dev nD) (b : Ref sig .tc) {s : Shape} {e : EltTy} (M : Memref sig .tc .hbm s e)
    (f : Buf (Elt F) (M.view.loc (c : Thread nD τ))) : sProp 𝕄 :=
  (M.view.loc (c : Thread nD τ)) ↦[M.view.set]{fullShare} f

/-- Row block `j` copied in: in VMEM, and still in HBM. -/
def payA (c j : Dev nD) : sProp 𝕄 :=
  iprop(own c (aSl aM j) (Am m c j) ∗ hbm c main_arg0 (aSl aH j) (m ((c : Thread nD τ).loc main_arg0)))
/-- A half of B copied in. -/
def payB (c : Dev nD) (h : Fin 2) : sProp 𝕄 :=
  iprop(own c (bSl bM h) (Bm m c h) ∗ hbm c main_arg1 (bSl bH h) (m ((c : Thread nD τ).loc main_arg1)))

/-- What copy `k` hands over when it has landed. -/
def payIn (c : Dev nD) : ℕ → sProp 𝕄
  | 1 => payB m c 1
  | 2 => payA m c (opp c)
  | 3 => payB m c 0
  | 4 => payA m c (nxt c)
  | 5 => payA m c (prv c)
  | _ => payA m c c

/-- Slot `i` on the landing side, at any contents. -/
def slot (c : Dev nD) (i : Fin 6) : sProp 𝕄 := iprop(anyv c (xSl xd i) ∗ anyv c (dSl i))

/-- What a barrier signal hands to `c`: from the left neighbour its slots for the odd messages, from the right one its slots for the even ones. -/
def barPay (c : Dev nD) (d : Bool) : sProp 𝕄 :=
  if d then iprop(slot (nxt c) 0 ∗ slot (nxt c) 2 ∗ slot (nxt c) 4) else iprop(slot (prv c) 1 ∗ slot (prv c) 3 ∗ slot (prv c) 5)

def fin6 (n : ℕ) : Fin 6 := ⟨n % 6, Nat.mod_lt _ (by decide)⟩

/-- What DMA semaphore `n` of device `c` hands over. -/
def pay (c : Dev nD) (n : ℕ) : sProp 𝕄 :=
  if n < 7 then payIn m c n
  else if n < 13 then anyv c (xSl xs (fin6 (n - 7)))
  else if n < 19 then own c (xSl xd (fin6 (n - 13))) (Dv m (snd (fin6 (n - 13)) c) (fin6 (n - 13)))
  else if n < 25 then anyv c (sSl (fin6 (n - 19)))
  else own c (dSl (fin6 (n - 25))) (Sv m (snd (fin6 (n - 25)) c) (fin6 (n - 25)))

instance slot_storable (c : Dev nD) (i : Fin 6) : BI.Storable (upEmb : UEmb _ 𝕄) (slot (F := F) c i) := by unfold slot; infer_instance
instance barPay_storable (c : Dev nD) (d : Bool) : BI.Storable (upEmb : UEmb _ 𝕄) (barPay (F := F) c d) := by
  unfold barPay; split <;> infer_instance
instance payA_storable (c j : Dev nD) : BI.Storable (upEmb : UEmb _ 𝕄) (payA m c j) := by unfold payA; infer_instance
instance payB_storable (c : Dev nD) (h : Fin 2) : BI.Storable (upEmb : UEmb _ 𝕄) (payB m c h) := by unfold payB; infer_instance
instance payIn_storable (c : Dev nD) (n : ℕ) : BI.Storable (upEmb : UEmb _ 𝕄) (payIn m c n) := by unfold payIn; split <;> infer_instance
instance pay_storable (c : Dev nD) (n : ℕ) : BI.Storable (upEmb : UEmb _ 𝕄) (pay m c n) := by
  unfold pay; (repeat' split) <;> infer_instance

/-! ## The schedule -/

def dutiesOf : SemLoc sig → Finset Bool
  | .reg _ => Finset.univ
  | .dma q => if q.val = 0 then ∅ else {false}
def amountOf' : SemLoc sig → ℕ
  | .reg _ => 1
  | .dma q => amt q.val
def payOf (c : Dev nD) (d : Bool) : SemLoc sig → sProp 𝕄
  | .reg _ => barPay c d
  | .dma q => pay m c q.val

def sched : Rounds.Schedule (GSem nD τ sig) Bool 𝕄 where
  duties g r := if r = 0 ∧ g.1.2 = .tc then dutiesOf g.2 else ∅
  unitless _ := False
  amount g _ _ := amountOf' g.2
  payload g _ d := payOf m g.1.1 d g.2
  amount_pos g _ _ _ := by
    rcases g with ⟨_, _ | q⟩
    · exact Nat.one_pos
    · exact amt_pos _

instance sched_storable (g : GSem nD τ sig) (r : ℕ) (d : Bool) : BI.Storable (upEmb : UEmb _ 𝕄) ((sched m).payload g r d) := by
  rcases g with ⟨c, _ | q⟩
  · exact barPay_storable c.1 d
  · exact pay_storable m c.1 q.val

section Sched
variable (c : Dev nD)

theorem duties_bar : (sched m).duties (bar c) 0 = Finset.univ := by dsimp only [sched]; exact if_pos ⟨rfl, rfl⟩
theorem duties_dma {k : Fin 31} (hk : k ≠ 0) : (sched m).duties (dc c k) 0 = {false} :=
  by dsimp only [sched]; rw [if_pos ⟨rfl, rfl⟩]; exact if_neg fun h => hk (Fin.ext h)
theorem duties_later (g : GSem nD τ sig) : ∀ r, 1 ≤ r → (sched m).duties g r = ∅ := fun r hr => by
  dsimp only [sched]; exact if_neg fun h => by omega
theorem amount_dma (k : Fin 31) (d : Bool) : (sched m).amount (dc c k) 0 d = amt k.val := rfl
theorem expect_bar : (sched m).expect (bar c) 0 = 2 := by
  unfold Schedule.expect Schedule.amountOf
  rw [duties_bar]; rfl
theorem expect_dma {k : Fin 31} (hk : k ≠ 0) : (sched m).expect (dc c k) 0 = amt k.val := by
  unfold Schedule.expect Schedule.amountOf; rw [duties_dma m c hk, Finset.sum_singleton]; rfl
theorem rest_bar : bigSep ((sched m).duties (bar c) 0 \ ∅) (fun d => (sched m).payload (bar c) 0 d)
    = iprop(barPay (F := F) c false ∗ barPay c true) := by
  rw [Finset.sdiff_empty, duties_bar, bigSep_univ_eq_bigSepL [false, true] (by decide) (by decide), bigSepL_cons_cons, bigSepL_singleton]
  rfl
theorem rest_dma {k : Fin 31} (hk : k ≠ 0) : bigSep ((sched m).duties (dc c k) 0 \ ∅) (fun d => (sched m).payload (dc c k) 0 d) = pay m c k.val := by
  rw [Finset.sdiff_empty, duties_dma m c hk, bigSep_singleton]; rfl
end Sched

/-! ## What is owed, and the order of the waits -/

/-- The tally of a list of payments. -/
def tal : List (GSem nD τ sig × ℕ) → CellTallies nD τ sig Unit
  | [] => 0
  | x :: l => tal l + tallyAt x.1 () x.2

theorem tal_pos {l : List (GSem nD τ sig × ℕ)} {g : GSem nD τ sig} {u : Unit} (h : 0 < tal l g u) : ∃ x ∈ l, g = x.1 := by
  induction l with
  | nil => exact absurd h (Nat.lt_irrefl 0)
  | cons x l ih =>
    rw [tal, Pi.add_apply, Finsupp.add_apply] at h
    rcases Nat.add_pos_iff_pos_or_pos.mp h with h | h
    · obtain ⟨y, hy, e⟩ := ih h
      exact ⟨y, List.mem_cons_of_mem _ hy, e⟩
    · rw [tallyAt_apply] at h
      by_cases hx : g = x.1 ∧ u = ()
      · exact ⟨x, List.mem_cons_self, hx.1⟩
      · rw [if_neg hx] at h; exact absurd h (Nat.lt_irrefl 0)

/-- The two credits of message `i`. -/
abbrev duePair (c : Dev nD) (i : Fin 6) : List (GSem nD τ sig × ℕ) := [(dc (rcp i c) (kDR i), ND), (dc (rcp i c) (kSR i), NS)]
/-- What device `c` pays to other devices, in order, from message `n` on. -/
def due (c : Dev nD) (n : ℕ) : List (GSem nD τ sig × ℕ) := ((List.finRange 6).drop n).flatMap (duePair c)
/-- All of it: the two barrier signals first. -/
abbrev dueAll (c : Dev nD) : List (GSem nD τ sig × ℕ) := (bar (prv c), 1) :: (bar (nxt c), 1) :: due c 0

theorem due_step (c : Dev nD) (i : Fin 6) :
    due c i.val = (dc (rcp i c) (kDR i), ND) :: (dc (rcp i c) (kSR i), NS) :: due c (i.val + 1) := by
  fin_cases i <;> rfl
theorem due_end (c : Dev nD) : due c 6 = [] := rfl
theorem mem_due (c : Dev nD) (n : Fin 7) {x : GSem nD τ sig × ℕ} (hx : x ∈ due c n.val) : ∃ i : Fin 6, n.val ≤ i.val ∧ x ∈ duePair c i := by
  obtain ⟨i, hi, hx⟩ := List.mem_flatMap.mp hx
  have h : ∀ n : Fin 7, ∀ i : Fin 6, i ∈ (List.finRange 6).drop n.val → n.val ≤ i.val := by decide
  exact ⟨i, h n i hi, hx⟩

def L (g : GSem nD τ sig) : Finset Unit := if g.1.2 = .tc then {()} else ∅
def lvN (n : ℕ) : ℕ := if (13 ≤ n ∧ n < 17) ∨ (25 ≤ n ∧ n < 29) then 2 else if (17 ≤ n ∧ n < 19) ∨ 29 ≤ n then 3 else 0
/-- Barrier cells at 1, landings of messages 0 to 3 at 2, of the relayed messages 4 and 5 at 3, all others at 0. -/
def lv (g : GSem nD τ sig) (_ : Unit) : ℕ := match g.2 with
  | .reg _ => 1
  | .dma q => lvN q.val

theorem L_of_ne (g : GSem nD τ sig) (h : g.1.2 ≠ .tc) : L g = ∅ := if_neg h
theorem L_tc (c : Dev nD) (sm : SemLoc sig) : L ((c : Thread nD τ), sm) = {()} := if_pos rfl

/-- A wait on a cell below everything that is still owed. -/
theorem mayWait_tal (c : Dev nD) (sm : SemLoc sig) (n : ℕ) (hn : lv ((c : Thread nD τ), sm) () ≤ n) (l : List (GSem nD τ sig × ℕ))
    (hl : ∀ x ∈ l, x.1.1.2 = .tc ∧ n < lv x.1 ()) : (levAts L lv : sProp 𝕄) ⊢ MayWait (c : Thread nD τ) sm () (tal l) :=
  MayOwe.of_cut (L := L) (lev := lv) n (fun p hp => by rw [Finset.mem_singleton.mp hp, L_tc]; exact Finset.mem_singleton_self _)
    (fun g u hg => by
      obtain ⟨x, hx, rfl⟩ := tal_pos hg
      rw [L, if_pos (hl x hx).1]; exact Finset.mem_singleton_self _)
    (fun p hp => by rw [Finset.mem_singleton.mp hp]; exact hn)
    (fun g u hg => by
      obtain ⟨x, hx, rfl⟩ := tal_pos hg
      exact (hl x hx).2)

/-- Everything owed from message `n` on is above `v`, if each landing is. -/
theorem due_above (c : Dev nD) (n : Fin 7) (v : ℕ) (h : ∀ i : Fin 6, n.val ≤ i.val → v < lvN (13 + i.val) ∧ v < lvN (25 + i.val)) :
    ∀ x ∈ due c n.val, x.1.1.2 = .tc ∧ v < lv x.1 () := fun x hx => by
  obtain ⟨i, hi, hx⟩ := mem_due c n hx
  rcases List.mem_cons.mp hx with rfl | hx
  · exact ⟨rfl, (h i hi).1⟩
  · rw [List.mem_singleton.mp hx]; exact ⟨rfl, (h i hi).2⟩

/-! ## The records -/

/-- Every cell's invariant and that it has reached its round, and the levels. -/
def records (K : Dev nD × Fin 31 → ℕ) : sProp 𝕄 :=
  iprop((bigSep Finset.univ fun ck : Dev nD × Fin 31 => cellInv ER (sched m) (K ck) (kcell ck))
    ∗ (bigSep Finset.univ fun ck : Dev nD × Fin 31 => reached ER (kcell ck) 0) ∗ levAts L lv)

instance records_persistent (K : Dev nD × Fin 31 → ℕ) : BI.Persistent (records m K) := by unfold records; infer_instance

theorem inv_at (K : Dev nD × Fin 31 → ℕ) (ck : Dev nD × Fin 31) {g : GSem nD τ sig} (hg : kcell ck = g) :
    records m K ⊢ cellInv ER (sched m) (K ck) g := by
  subst hg
  unfold records
  have h : (bigSep Finset.univ fun ck : Dev nD × Fin 31 => (cellInv ER (sched m) (K ck) (kcell ck) : sProp 𝕄)) ⊢ cellInv ER (sched m) (K ck) (kcell ck) := bigSep_elim (Finset.mem_univ ck)
  iintro ⟨H, -, -⟩
  iapply h
  iexact H
theorem reached_at (K : Dev nD × Fin 31 → ℕ) (ck : Dev nD × Fin 31) {g : GSem nD τ sig} (hg : kcell ck = g) :
    records m K ⊢ reached ER g 0 := by
  subst hg
  unfold records
  have h : (bigSep Finset.univ fun ck : Dev nD × Fin 31 => (reached ER (kcell ck) 0 : sProp 𝕄)) ⊢ reached ER (kcell ck) 0 := bigSep_elim (Finset.mem_univ ck)
  iintro ⟨-, H, -⟩
  iapply h
  iexact H
theorem lev_at (K : Dev nD × Fin 31 → ℕ) : records m K ⊢ levAts L lv := by
  unfold records
  iintro ⟨-, -, H⟩
  iexact H

theorem kcell_dma (c : Dev nD) {k : Fin 31} (hk : k ≠ 0) : kcell (c, k) = dc c k := by
  show ((c : Thread nD τ), csem k) = _
  rw [csem_dma hk]

/-- What device `c` still owes, its past waits forgotten. -/
def ow (c : Dev nD) (l : List (GSem nD τ sig × ℕ)) : sProp 𝕄 := iprop(∃ W, owes (c : Thread nD τ) (tal l) W)

end Cert.Mk

end
-- ==== Proof.Moves.lean ====
/-
  01_k — the copies, the messages, the signals and the waits, each as one rule over the slices of Protocol.lean.
-/
module

public import proofs.«01_k».proof.Proof.Protocol

@[expose] public section

noncomputable section

namespace Cert.Mk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 31 → ℕ) (c : Dev nD)

theorem run_ret {α : Type} {Q : α → sProp 𝕄} (a : α) : Q a ⊢ run (F := F) c (.ret a) Q := by
  unfold run
  rw [wp_ret]
  iintro H
  imodintro
  iexact H

theorem run_bind {α β : Type} {Q : α → sProp 𝕄} (p : Prog (TpuEff nD τ sig (Elt F) Λ₀ .tc) β) (k : β → Prog (TpuEff nD τ sig (Elt F) Λ₀ .tc) α) :
    run c p (fun x => run c (k x) Q) ⊢ run (F := F) c (p >>= k) Q := by
  unfold run
  rw [wp_bind]

/-- A cell of the device's own transfer, not yet started; -/
abbrev idle (k : Fin 31) : sProp 𝕄 := iprop(atPos ER (dc c k) 0 ∅ 0 ∗ dutyTok ER (dc c k) 0 false)
/-- a cell to be waited on, with the credit for it; -/
abbrev ready (k : Fin 31) : sProp 𝕄 := iprop(atPos ER (dc c k) 0 ∅ 0 ∗ cred (tallyAt (dc c k) () (amt k.val)))
/-- and closed. -/
abbrev shut (k : Fin 31) : sProp 𝕄 := semVal (dc c k) 0

/-! ## What the cells hand over -/

theorem pay_DS (i : Fin 6) : pay m c (kDS i).val = anyv c (xSl xs i) := by fin_cases i <;> rfl
theorem pay_DR (i : Fin 6) : pay m c (kDR i).val = own c (xSl xd i) (Dv m (snd i c) i) := by fin_cases i <;> rfl
theorem pay_SS (i : Fin 6) : pay m c (kSS i).val = anyv c (sSl i) := by fin_cases i <;> rfl
theorem pay_SR (i : Fin 6) : pay m c (kSR i).val = own c (dSl i) (Sv m (snd i c) i) := by fin_cases i <;> rfl

theorem amt_DS (i : Fin 6) : amt (kDS i).val = ND := by fin_cases i <;> rfl
theorem amt_DR (i : Fin 6) : amt (kDR i).val = ND := by fin_cases i <;> rfl
theorem amt_SS (i : Fin 6) : amt (kSS i).val = NS := by fin_cases i <;> rfl
theorem amt_SR (i : Fin 6) : amt (kSR i).val = NS := by fin_cases i <;> rfl

theorem kDS_ne (i : Fin 6) : kDS i ≠ 0 := by revert i; decide
theorem kDR_ne (i : Fin 6) : kDR i ≠ 0 := by revert i; decide
theorem kSS_ne (i : Fin 6) : kSS i ≠ 0 := by revert i; decide
theorem kSR_ne (i : Fin 6) : kSR i ≠ 0 := by revert i; decide

/-! ## Waits -/

/-- A wait on DMA cell `k`: what it hands over, and the cell closed. -/
theorem wp_wait_dma {α : Type} {Q : α → sProp 𝕄} (k : Fin 31) (hk : k ≠ 0) (s : Shape) (e : EltTy) {b : Ref sig .tc}
    (hN : RefSig.tileCredit s e = amt k.val) {hb : (Proc.tc : Proc τ) = .tc ∨ b.HasMemref s e} (l : List (GSem nD τ sig × ℕ))
    (hl : ∀ x ∈ l, x.1.1.2 = .tc ∧ lvN k.val < lv x.1 ()) {p : PUnit → Prog (TpuEff nD τ sig (Elt F) Λ₀ .tc) α} :
    iprop(records m K ∗ ready c k ∗ ow c l)
      ⊢ iprop(((ow c l ∗ shut c k ∗ pay m c k.val) -∗ run c (p ⟨⟩) Q) -∗ run c (.op (.waitDma (dq k) b s e hb) p) Q) := by
  have hw : ∀ K' : PUnit → sProp 𝕄, wpE (defs₀ (F := F)) 𝒱₀ (c : Thread nD τ) none Set.univ (.waitDma (dq k) b s e hb) K'
      = waitSpec (c : Thread nD τ) Set.univ (.dma (dq k)) (amt k.val) K' := fun K' =>
    (wpE_waitDma_eq 𝒱₀ (c : Thread nD τ) none Set.univ K').trans
      (congrArg (fun N => waitSpec (c : Thread nD τ) Set.univ (.dma (dq k)) N K') ((show b.dmaCredit s e = RefSig.tileCredit s e from rfl).trans hN))
  unfold ow
  iintro ⟨#HR, ⟨Ha, Hc⟩, ⟨%W, HO⟩⟩ Hk
  ihave #HI := (inv_at m K (c, k) (kcell_dma c hk)) $$ HR
  ihave #HL := (lev_at m K) $$ HR
  iapply (Rounds.wp_wait_rest_token 𝒱₀ ER (sched m) (c : Thread nD τ) none (κ := K (c, k)) (sm := .dma (dq k)) (k' := amt k.val)
      hw (Set.mem_univ _) () (O := tal l) (W := W) (R := 0) (m := 0) (T := ∅)
      (by rw [Nat.zero_add, expect_dma m c hk])) $$ [Hc HO Ha]
  · isplitr; · iexact HI
    isplitl [Hc]; · iexact Hc
    isplitl [HO]; · iexact HO
    isplitr; · iapply (mayWait_tal c (.dma (dq k)) (lvN k.val) le_rfl l hl); iexact HL
    iexact Ha
  iintro ⟨HO, Ha, -, Hp⟩
  ihave Hp := (Entails.of_eq (rest_dma m c hk)) $$ Hp
  imod (Rounds.cell_close ER (sched m) (Set.mem_univ (K (c, k))) (fun h => h) (R := 0 + 1) (duties_later m (dc c k))) $$ [Ha] with Hz
  · isplitr; · iexact HI
    iexact Ha
  iapply Hk
  isplitl [HO]; · iexists _; iexact HO
  isplitl [Hz] <;> iassumption

/-- The wait for both neighbours. -/
theorem wp_wait_bar {α : Type} {Q : α → sProp 𝕄} (l : List (GSem nD τ sig × ℕ))
    (hl : ∀ x ∈ l, x.1.1.2 = .tc ∧ 1 < lv x.1 ()) {p : PUnit → Prog (TpuEff nD τ sig (Elt F) Λ₀ .tc) α} :
    iprop(records m K ∗ (atPos ER (bar c) 0 ∅ 0 ∗ cred (tallyAt (bar c) () 2)) ∗ ow c l)
      ⊢ iprop(((ow c l ∗ semVal (bar c) 0 ∗ barPay c false ∗ barPay c true) -∗ run c (p ⟨⟩) Q) -∗ run c (.op (.semWait barS 2) p) Q) := by
  unfold ow
  iintro ⟨#HR, ⟨Ha, Hc⟩, ⟨%W, HO⟩⟩ Hk
  ihave #HI := (inv_at m K (c, 0) (g := bar c) rfl) $$ HR
  ihave #HL := (lev_at m K) $$ HR
  iapply (Rounds.wp_wait_rest_token 𝒱₀ ER (sched m) (c : Thread nD τ) none (κ := K (c, 0)) (sm := .reg barS) (k' := 2)
      (wpE_semWait_eq 𝒱₀ (c : Thread nD τ) none Set.univ) (Set.mem_univ _) () (O := tal l) (W := W) (R := 0) (m := 0) (T := ∅)
      (by rw [Nat.zero_add, expect_bar])) $$ [Hc HO Ha]
  · isplitr; · iexact HI
    isplitl [Hc]; · iexact Hc
    isplitl [HO]; · iexact HO
    isplitr; · iapply (mayWait_tal c (.reg barS) 1 le_rfl l hl); iexact HL
    iexact Ha
  iintro ⟨HO, Ha, -, Hp⟩
  ihave Hp := (Entails.of_eq (rest_bar m c)) $$ Hp
  imod (Rounds.cell_close ER (sched m) (Set.mem_univ (K (c, 0))) (fun h => h) (R := 0 + 1) (duties_later m (bar c))) $$ [Ha] with Hz
  · isplitr; · iexact HI
    iexact Ha
  iapply Hk
  isplitl [HO]; · iexists _; iexact HO
  isplitl [Hz] <;> iassumption

/-! ## Signals -/

/-- A signal to a neighbour's barrier, paying duty `d` there. -/
theorem wp_sig {α : Type} {Q : α → sProp 𝕄} {n : Dev nD} (n' : Dev nD) (hn : n = n') (d : Bool) (l : List (GSem nD τ sig × ℕ))
    {p : PUnit → Prog (TpuEff nD τ sig (Elt F) Λ₀ .tc) α} :
    iprop(records m K ∗ ow c ((bar n', 1) :: l) ∗ dutyTok ER (bar n') 0 d ∗ barPay n' d)
      ⊢ iprop((ow c l -∗ run c (p ⟨⟩) Q) -∗ run c (.op (.semSignal (n : Thread nD τ) barS 1) p) Q) := by
  subst hn
  unfold ow
  iintro ⟨#HR, ⟨%W, HO⟩, Ht, Hp⟩ Hk
  iapply (Rounds.wp_signal 𝒱₀ ER (sched m) (c : Thread nD τ) none (dst := (n : Thread nD τ)) (κ := K (n, 0)) (r := 0)
      (d := d) (by rw [duties_bar]; exact Finset.mem_univ _) rfl () (tal l) rfl) $$ [HO Ht Hp]
  · isplitr; · iapply (inv_at m K (n, 0) rfl); iexact HR
    isplitl [HO]; · iexact HO
    isplitl [Ht]; · iexact Ht
    isplitl [Hp]; · rw [show (sched m).payload ((n : Thread nD τ), SemLoc.reg barS) 0 d = barPay n d from rfl]; iexact Hp
    iapply (reached_at m K (n, 0) rfl); iexact HR
  iintro HO
  iapply Hk
  iexists W; iexact HO

/-! ## Copies in -/

theorem payC1 : iprop(own c (bSl bM 1) ((bSl bH 1).view.read (Elt F) (m ((c : Thread nD τ).loc main_arg1)))
    ∗ hbm c main_arg1 (bSl bH 1) (m ((c : Thread nD τ).loc main_arg1))) ⊢ pay m c (1 : Fin 31).val := by
  rw [show pay m c (1 : Fin 31).val = payB m c 1 from rfl]
  unfold payB Bm
  exact BI.Entails.refl _
theorem amtC1  : (bSl bM 1).view.dmaCredit = amt (1 : Fin 31).val :=
  (show _ = NB from rfl).trans (if_pos (by decide)).symm
theorem payC2 : iprop(own c (aSl aM (opp c)) ((aSl aH (opp c)).view.read (Elt F) (m ((c : Thread nD τ).loc main_arg0)))
    ∗ hbm c main_arg0 (aSl aH (opp c)) (m ((c : Thread nD τ).loc main_arg0))) ⊢ pay m c (2 : Fin 31).val := by
  rw [show pay m c (2 : Fin 31).val = payA m c (opp c) from rfl]
  unfold payA Am
  exact BI.Entails.refl _
theorem amtC2 {j : Dev nD} : (aSl aM j).view.dmaCredit = amt (2 : Fin 31).val :=
  (show _ = NA from rfl).trans ((if_neg (by decide)).trans (if_pos (by decide))).symm
theorem payC3 : iprop(own c (bSl bM 0) ((bSl bH 0).view.read (Elt F) (m ((c : Thread nD τ).loc main_arg1)))
    ∗ hbm c main_arg1 (bSl bH 0) (m ((c : Thread nD τ).loc main_arg1))) ⊢ pay m c (3 : Fin 31).val := by
  rw [show pay m c (3 : Fin 31).val = payB m c 0 from rfl]
  unfold payB Bm
  exact BI.Entails.refl _
theorem amtC3  : (bSl bM 0).view.dmaCredit = amt (3 : Fin 31).val :=
  (show _ = NB from rfl).trans (if_pos (by decide)).symm
theorem payC4 : iprop(own c (aSl aM (nxt c)) ((aSl aH (nxt c)).view.read (Elt F) (m ((c : Thread nD τ).loc main_arg0)))
    ∗ hbm c main_arg0 (aSl aH (nxt c)) (m ((c : Thread nD τ).loc main_arg0))) ⊢ pay m c (4 : Fin 31).val := by
  rw [show pay m c (4 : Fin 31).val = payA m c (nxt c) from rfl]
  unfold payA Am
  exact BI.Entails.refl _
theorem amtC4 {j : Dev nD} : (aSl aM j).view.dmaCredit = amt (4 : Fin 31).val :=
  (show _ = NA from rfl).trans ((if_neg (by decide)).trans (if_pos (by decide))).symm
theorem payC5 : iprop(own c (aSl aM (prv c)) ((aSl aH (prv c)).view.read (Elt F) (m ((c : Thread nD τ).loc main_arg0)))
    ∗ hbm c main_arg0 (aSl aH (prv c)) (m ((c : Thread nD τ).loc main_arg0))) ⊢ pay m c (5 : Fin 31).val := by
  rw [show pay m c (5 : Fin 31).val = payA m c (prv c) from rfl]
  unfold payA Am
  exact BI.Entails.refl _
theorem amtC5 {j : Dev nD} : (aSl aM j).view.dmaCredit = amt (5 : Fin 31).val :=
  (show _ = NA from rfl).trans ((if_neg (by decide)).trans (if_pos (by decide))).symm
theorem payC6 : iprop(own c (aSl aM c) ((aSl aH c).view.read (Elt F) (m ((c : Thread nD τ).loc main_arg0)))
    ∗ hbm c main_arg0 (aSl aH c) (m ((c : Thread nD τ).loc main_arg0))) ⊢ pay m c (6 : Fin 31).val := by
  rw [show pay m c (6 : Fin 31).val = payA m c c from rfl]
  unfold payA Am
  exact BI.Entails.refl _
theorem amtC6 {j : Dev nD} : (aSl aM j).view.dmaCredit = amt (6 : Fin 31).val :=
  (show _ = NA from rfl).trans ((if_neg (by decide)).trans (if_pos (by decide))).symm

theorem wp_cp {α : Type} {Q : α → sProp 𝕄} (k : Fin 31) (hk : k ≠ 0) {sh : Shape} {e : EltTy} {Ms : Memref sig .tc .hbm sh e} {Md : Memref sig .tc .vmem sh e}
    {off size : Fin sh.rank → ℕ} {h h2 : ∀ a, off a + size a ≤ sh.size a} (off' : Fin sh.rank → ℕ) (ho : off' = off)
    {h' h2' : ∀ a, off' a + size a ≤ sh.size a} (f : Buf (Elt F) ((sl Ms off size h).view.loc (c : Thread nD τ)))
    (hN : (sl Md off size h2).view.dmaCredit = amt k.val)
    (hpay : iprop(own c (sl Md off size h2) ((sl Ms off size h).view.read (Elt F) f)
      ∗ ((sl Ms off size h).view.loc (c : Thread nD τ) ↦[(sl Ms off size h).view.set]{fullShare} f)) ⊢ pay m c k.val)
    {hsrc : (sl Ms off' size h').view.WordExact} {hdst : (sl Md off' size h2').view.WordExact}
    {hsem : DmaTarget.Typed (nD := nD) (τ := τ) (p := Proc.tc) .hbm (.dma (dq k)) (.here (sl Md off' size h2'))}
    {p : PUnit → Prog (TpuEff nD τ sig (Elt F) Λ₀ .tc) α} :
    iprop(records m K ∗ idle c k ∗ anyv (F := F) c (sl Md off size h2) ∗ ((sl Ms off size h).view.loc (c : Thread nD τ) ↦[(sl Ms off size h).view.set]{fullShare} f))
      ⊢ iprop((ready c k -∗ run c (p ⟨⟩) Q)
        -∗ run c (.op (.enqueueDma (sl Ms off' size h') (.here (sl Md off' size h2')) (.dma (dq k)) hsrc hdst hsem) p) Q) := by
  subst ho
  iintro ⟨#HR, ⟨Ha, Ht⟩, Hd, Hs⟩ Hk
  unfold anyv own owns
  icases Hd with ⟨%X, %fd, %hfd, Hd⟩
  have hp : iprop(((sl Md off' size h2').view.loc (c : Thread nD τ) ↦[(sl Md off' size h2').view.set]{fullShare}
        ((sl Md off' size h2').view.write (Elt F) fd ((sl Ms off' size h').view.read (Elt F) f) Finset.univ))
      ∗ ((sl Ms off' size h').view.loc (c : Thread nD τ) ↦[(sl Ms off' size h').view.set]{fullShare} f)) ⊢ pay m c k.val := by
    refine (show _ ⊢ _ from ?_).trans hpay
    unfold own owns
    iintro ⟨H1, H2⟩
    isplitl [H1]
    · iexists _
      isplitr
      rotate_left; · iexact H1
      ipureintro
      exact View.read_write_univ (v := (sl Md off' size h2').view) fd _
    iexact H2
  iapply (Rounds.wp_copy_pointsTo 𝒱₀ ER (sched m) (c : Thread nD τ) none (κ := K (c, k)) (sem := .dma (dq k)) (r := 0) (d := false)
      (src := sl Ms off' size h') (dst := sl Md off' size h2') (fs := f) (fd := fd)
      (by rw [duties_dma m c hk]; exact Finset.mem_singleton_self _) () (amt k.val) hN (amount_dma m c k false)
      hp) $$ [Hs Hd Ht]
  · isplitr; · iapply (inv_at m K (c, k) (kcell_dma c hk)); iexact HR
    isplitl [Hs]; · iexact Hs
    isplitl [Hd]; · iexact Hd
    isplitl [Ht]; · iexact Ht
    iapply (reached_at m K (c, k) (kcell_dma c hk)); iexact HR
  iintro Hc
  iapply Hk
  isplitl [Ha] <;> iassumption

/-! ## Messages -/

section Squeeze
variable {sp : Space} {s s' : Shape} {e : EltTy} (M : Memref sig .tc sp s e) (hq : s.Squeezes s')

theorem set_squeeze : (M.squeeze s' hq).view.set = M.view.set := View.set_reshape (v := M.view) hq.numel_eq

/-- The elements under a squeezed memref are those under the memref. -/
theorem squeeze_pts (f : Buf (Elt F) (M.view.loc (c : Thread nD τ))) :
    ((M.squeeze s' hq).view.loc (c : Thread nD τ) ↦[(M.squeeze s' hq).view.set]{fullShare} f : sProp 𝕄)
      = (M.view.loc (c : Thread nD τ) ↦[M.view.set]{fullShare} f) := by
  have h := set_squeeze M hq
  exact congrArg (fun S => (M.view.loc (c : Thread nD τ) ↦[S]{fullShare} f : sProp 𝕄)) h

variable {sp' : Space} (N : Memref sig .tc sp' s e)

/-- What lands under a squeezed memref, read under the memref itself. -/
theorem read_landed (f : N.view.ty.Contents (Elt F)) (g : M.view.ty.Contents (Elt F)) :
    N.view.read (Elt F) ((N.squeeze s' hq).view.write (Elt F) f ((M.squeeze s' hq).view.read (Elt F) g) Finset.univ) = M.view.read (Elt F) g := by
  funext y
  obtain ⟨x, rfl⟩ := (Shape.reshapeEquiv hq.numel_eq).surjective y
  exact View.read_write_reshape N.view hq.numel_eq f ((M.squeeze s' hq).view.read (Elt F) g) x

end Squeeze

/-- A message part: from `M` here to `N` on `n`, both seen squeezed, through DMA cell `kS` here and `kR` there. -/
theorem wp_msg {α : Type} {Q : α → sProp 𝕄} {n : Dev nD} (n' : Dev nD) (hn : n = n') {s s' : Shape} {e : EltTy} (hq : s.Squeezes s')
    (M N : Memref sig .tc .vmem s e) (kS kR : Fin 31) (hkS : kS ≠ 0) (hkR : kR ≠ 0) (A : ℕ) (hA : (N.squeeze s' hq).view.dmaCredit = A)
    (hS : amt kS.val = A) (hR : amt kR.val = A) (X : s.Idx → Elt F e)
    (hpS : anyv c M ⊢ pay m c kS.val) (hpR : own n' N X ⊢ pay m n' kR.val) (l : List (GSem nD τ sig × ℕ))
    {hsc : (N.squeeze s' hq).view.ref.isScScratch = false} {hsrc : (M.squeeze s' hq).view.WordExact} {hdst : (N.squeeze s' hq).view.WordExact}
    {hsem : DmaTarget.Typed .vmem (.dma (dq kR)) (.remote (Dev.tc n : Thread nD τ) (N.squeeze s' hq) (.dma (dq kS)) hsc)}
    {p : PUnit → Prog (TpuEff nD τ sig (Elt F) Λ₀ .tc) α} :
    iprop(records m K ∗ idle c kS ∗ own c M X ∗ anyv (F := F) n' N ∗ ow c ((dc n' kR, A) :: l) ∗ dutyTok ER (dc n' kR) 0 false)
      ⊢ iprop(((ready c kS ∗ ow c l) -∗ run c (p ⟨⟩) Q)
        -∗ run c (.op (.enqueueDma (M.squeeze s' hq) (.remote (Dev.tc n : Thread nD τ) (N.squeeze s' hq) (.dma (dq kS)) hsc) (.dma (dq kR)) hsrc hdst hsem) p) Q) := by
  subst hn
  unfold ow
  iintro ⟨#HR, ⟨Ha, Ht⟩, HM, HN, ⟨%W, HO⟩, Ht'⟩ Hk
  unfold anyv own owns
  icases HM with ⟨%g, %hg, HM⟩
  icases HN with ⟨%Y, %f, %hf, HN⟩
  subst hg
  have h1 : ((M.squeeze s' hq).view.loc (c : Thread nD τ) ↦[(M.squeeze s' hq).view.set]{fullShare} g : sProp 𝕄) ⊢ pay m c kS.val := by
    refine (show _ ⊢ _ from ?_).trans hpS
    rw [squeeze_pts c M hq]
    unfold anyv own owns
    iintro H
    iexists _, g
    isplitr; · ipureintro; rfl
    iexact H
  have h2 : ((N.squeeze s' hq).view.loc (n : Thread nD τ) ↦[(N.squeeze s' hq).view.set]{fullShare}
      ((N.squeeze s' hq).view.write (Elt F) f ((M.squeeze s' hq).view.read (Elt F) g) Finset.univ) : sProp 𝕄) ⊢ pay m n kR.val := by
    refine (show _ ⊢ _ from ?_).trans hpR
    rw [squeeze_pts n N hq]
    unfold own owns
    iintro H
    iexists _
    isplitr
    rotate_left; · iexact H
    ipureintro
    exact read_landed M hq N f g
  iapply (Rounds.wp_send_pointsTo 𝒱₀ ER (sched m) (c : Thread nD τ) none (c' := (Dev.tc n : Thread nD τ)) (κ₁ := K (c, kS)) (κ₂ := K (n, kR))
      (src := M.squeeze s' hq) (dst := N.squeeze s' hq) (sS := .dma (dq kS)) (sem := .dma (dq kR))
      (r₁ := 0) (r₂ := 0) (d₁ := false) (d₂ := false) (fs := g) (fd := f) (q := fullShare)
      (by rw [duties_dma m c hkS]; exact Finset.mem_singleton_self _) (by rw [duties_dma m n hkR]; exact Finset.mem_singleton_self _)
      () () A hA ((amount_dma m c kS false).trans hS) ((amount_dma m n kR false).trans hR) (tal l) rfl (W := W)
      h1 h2) $$ [HM HN HO Ht Ht']
  · isplitr; · iapply (inv_at m K (c, kS) (kcell_dma c hkS)); iexact HR
    isplitr; · iapply (inv_at m K (n, kR) (kcell_dma n hkR)); iexact HR
    isplitl [HM]; · rw [squeeze_pts c M hq]; iexact HM
    isplitl [HN]; · rw [squeeze_pts n N hq]; iexact HN
    isplitl [HO]; · iexact HO
    isplitl [Ht]; · iexact Ht
    isplitr; · iapply (reached_at m K (c, kS) (kcell_dma c hkS)); iexact HR
    isplitl [Ht']; · iexact Ht'
    iapply (reached_at m K (n, kR) (kcell_dma n hkR)); iexact HR
  iintro ⟨Hc, HO⟩
  iapply Hk
  isplitl [Ha Hc]
  · isplitl [Ha]; · iexact Ha
    rw [hS]; iexact Hc
  iexists W; iexact HO

/-- The codes of message `i`, sent, -/
theorem wp_data {α : Type} {Q : α → sProp 𝕄} (i : Fin 6) {n : Dev nD} (hn : n = rcp i c) (l : List (GSem nD τ sig × ℕ))
    {hsc : (xQ xd i).view.ref.isScScratch = false} {hsrc : (xQ xs i).view.WordExact} {hdst : (xQ xd i).view.WordExact}
    {hsem : DmaTarget.Typed .vmem (.dma (dq (kDR i))) (.remote (Dev.tc n : Thread nD τ) (xQ xd i) (.dma (dq (kDS i))) hsc)}
    {p : PUnit → Prog (TpuEff nD τ sig (Elt F) Λ₀ .tc) α} :
    iprop(records m K ∗ idle c (kDS i) ∗ own c (xSl xs i) (Dv m c i) ∗ anyv (F := F) (rcp i c) (xSl xd i)
        ∗ ow c ((dc (rcp i c) (kDR i), ND) :: l) ∗ dutyTok ER (dc (rcp i c) (kDR i)) 0 false)
      ⊢ iprop(((ready c (kDS i) ∗ ow c l) -∗ run c (p ⟨⟩) Q)
        -∗ run c (.op (.enqueueDma (xQ xs i) (.remote (Dev.tc n : Thread nD τ) (xQ xd i) (.dma (dq (kDS i))) hsc) (.dma (dq (kDR i))) hsrc hdst hsem) p) Q) :=
  wp_msg m K c (rcp i c) hn sqX (xSl xs i) (xSl xd i) (kDS i) (kDR i) (kDS_ne i) (kDR_ne i) ND rfl (amt_DS i) (amt_DR i) (Dv m c i)
    (Entails.of_eq (pay_DS m c i).symm) (Entails.of_eq (by rw [pay_DR, snd_rcp])) l

/-- and its scales. -/
theorem wp_scale {α : Type} {Q : α → sProp 𝕄} (i : Fin 6) {n : Dev nD} (hn : n = rcp i c) (l : List (GSem nD τ sig × ℕ))
    {hsc : (dQ i).view.ref.isScScratch = false} {hsrc : (sQ i).view.WordExact} {hdst : (dQ i).view.WordExact}
    {hsem : DmaTarget.Typed .vmem (.dma (dq (kSR i))) (.remote (Dev.tc n : Thread nD τ) (dQ i) (.dma (dq (kSS i))) hsc)}
    {p : PUnit → Prog (TpuEff nD τ sig (Elt F) Λ₀ .tc) α} :
    iprop(records m K ∗ idle c (kSS i) ∗ own c (sSl i) (Sv m c i) ∗ anyv (F := F) (rcp i c) (dSl i)
        ∗ ow c ((dc (rcp i c) (kSR i), NS) :: l) ∗ dutyTok ER (dc (rcp i c) (kSR i)) 0 false)
      ⊢ iprop(((ready c (kSS i) ∗ ow c l) -∗ run c (p ⟨⟩) Q)
        -∗ run c (.op (.enqueueDma (sQ i) (.remote (Dev.tc n : Thread nD τ) (dQ i) (.dma (dq (kSS i))) hsc) (.dma (dq (kSR i))) hsrc hdst hsem) p) Q) :=
  wp_msg m K c (rcp i c) hn sqS (sSl i) (dSl i) (kSS i) (kSR i) (kSS_ne i) (kSR_ne i) NS rfl (amt_SS i) (amt_SR i) (Sv m c i)
    (Entails.of_eq (pay_SS m c i).symm) (Entails.of_eq (by rw [pay_SR, snd_rcp])) l

theorem ow_step (i : Fin 6) : (ow c (due c i.val) : sProp 𝕄) = ow c ((dc (rcp i c) (kDR i), ND) :: (dc (rcp i c) (kSR i), NS) :: due c (i.val + 1)) := by
  rw [due_step]

/-- What the two barrier waits give. -/
theorem barPay_false : barPay (F := F) c false
    = iprop((anyv (rcp 1 c) (xSl xd 1) ∗ anyv (rcp 1 c) (dSl 1)) ∗ (anyv (rcp 3 c) (xSl xd 3) ∗ anyv (rcp 3 c) (dSl 3))
      ∗ (anyv (rcp 5 c) (xSl xd 5) ∗ anyv (rcp 5 c) (dSl 5))) := rfl
theorem barPay_true : barPay (F := F) c true
    = iprop((anyv (rcp 0 c) (xSl xd 0) ∗ anyv (rcp 0 c) (dSl 0)) ∗ (anyv (rcp 2 c) (xSl xd 2) ∗ anyv (rcp 2 c) (dSl 2))
      ∗ (anyv (rcp 4 c) (xSl xd 4) ∗ anyv (rcp 4 c) (dSl 4))) := rfl

/-- What the two signals carry. -/
theorem barPay_prv : barPay (F := F) (prv c) true
    = iprop((anyv c (xSl xd 0) ∗ anyv c (dSl 0)) ∗ (anyv c (xSl xd 2) ∗ anyv c (dSl 2)) ∗ (anyv c (xSl xd 4) ∗ anyv c (dSl 4))) := by
  show iprop(slot (nxt (prv c)) 0 ∗ slot (nxt (prv c)) 2 ∗ slot (nxt (prv c)) 4) = _
  rw [nxt_prv]; rfl
theorem barPay_nxt : barPay (F := F) (nxt c) false
    = iprop((anyv c (xSl xd 1) ∗ anyv c (dSl 1)) ∗ (anyv c (xSl xd 3) ∗ anyv c (dSl 3)) ∗ (anyv c (xSl xd 5) ∗ anyv c (dSl 5))) := by
  show iprop(slot (prv (nxt c)) 1 ∗ slot (prv (nxt c)) 3 ∗ slot (prv (nxt c)) 5) = _
  rw [prv_nxt]; rfl

end Cert.Mk

end
-- ==== Proof.Parts1.lean ====
/-
  01_k — the body up to the fourth message: copies in, the barrier, messages 0 to 3.
-/
module

public import proofs.«01_k».proof.Proof.Moves

@[expose] public section

noncomputable section

namespace Cert.Mk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 31 → ℕ) (c : Dev nD)

theorem wp_part1 (Kt : _ → sProp 𝕄) :
    iprop(records m K ∗ anyv (F := F) c (aSl aM (opp c)) ∗ hbm c main_arg0 (aSl aH (opp c)) (m ((c : Thread nD τ).loc main_arg0)) ∗ anyv (F := F) c (bSl bM 1) ∗ hbm c main_arg1 (bSl bH 1) (m ((c : Thread nD τ).loc main_arg1)) ∗ idle c 1 ∗ idle c 2
        ∗ ((ready c 1 ∗ ready c 2)
          -∗ Kt ⟨c, Scalar.remsi (Scalar.divsi (Dev.word c) 1#32) 4#32, Scalar.remsi (Scalar.subi (Scalar.addi (Scalar.remsi (Scalar.divsi (Dev.word c) 1#32) 4#32) 4#32) 1#32) 4#32, Scalar.remsi (Scalar.addi (Scalar.remsi (Scalar.divsi (Dev.word c) 1#32) 4#32) 1#32) 4#32, Scalar.remsi (Scalar.addi (Scalar.remsi (Scalar.divsi (Dev.word c) 1#32) 4#32) 2#32) 4#32⟩))
      ⊢ run c (k0_part1 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 ) Kt := by
  simp only [k0_part1_eq_skeleton]; unfold k0_part1_skel
  simp only [semSignalWord, semWaitWord, Prog.lift, Prog.bind_op, Prog.bind_ret, Prog.pure_eq_ret, wp_deviceId]
  iintro ⟨#HR, Hao, HhAo, Hb1, HhB1, HkC1, HkC2, Hk⟩
  iapply (wp_cp m K c 1 (by decide) (Ms := bH) (Md := bM) (off := ![0, 1024 * (1 : Fin 2).val]) (size := S1024x1024.size) (h := inB 1) (h2 := inB 1) ![0, 1024] rfl (m ((c : Thread nD τ).loc main_arg1)) (amtC1) (payC1 m c)) $$ [HkC1 Hb1 HhB1]
  · isplitr; · iexact HR
    isplitl [HkC1]; · iexact HkC1
    isplitl [Hb1]; · iexact Hb1
    iexact HhB1
  iintro HkC1
  iapply (wp_cp m K c 2 (by decide) (Ms := aH) (Md := aM) (off := ![512 * ((opp c)).val, 0]) (size := S512x1024.size) (h := inA (opp c)) (h2 := inA (opp c)) (k0_off1 c 2#32) (off1_2 c) (m ((c : Thread nD τ).loc main_arg0)) (amtC2) (payC2 m c)) $$ [HkC2 Hao HhAo]
  · isplitr; · iexact HR
    isplitl [HkC2]; · iexact HkC2
    isplitl [Hao]; · iexact Hao
    iexact HhAo
  iintro HkC2
  iapply (run_ret c _)
  iapply Hk
  isplitl [HkC1]; · iexact HkC1
  iexact HkC2

theorem wp_part2 (v5 v7 : BitVec 32) (Kt : _ → sProp 𝕄) :
    iprop(records m K ∗ anyv (F := F) c (aSl aM (nxt c)) ∗ hbm c main_arg0 (aSl aH (nxt c)) (m ((c : Thread nD τ).loc main_arg0)) ∗ anyv (F := F) c (aSl aM (prv c)) ∗ hbm c main_arg0 (aSl aH (prv c)) (m ((c : Thread nD τ).loc main_arg0)) ∗ anyv (F := F) c (aSl aM c) ∗ hbm c main_arg0 (aSl aH c) (m ((c : Thread nD τ).loc main_arg0)) ∗ anyv (F := F) c (bSl bM 0) ∗ hbm c main_arg1 (bSl bH 0) (m ((c : Thread nD τ).loc main_arg1)) ∗ anyv (F := F) c (bSl bB 1) ∗ anyv (F := F) c (xSl xd 0) ∗ anyv (F := F) c (dSl 0) ∗ anyv (F := F) c (xSl xd 1) ∗ anyv (F := F) c (dSl 1) ∗ anyv (F := F) c (xSl xd 2) ∗ anyv (F := F) c (dSl 2) ∗ anyv (F := F) c (xSl xd 3) ∗ anyv (F := F) c (dSl 3) ∗ anyv (F := F) c (xSl xd 4) ∗ anyv (F := F) c (dSl 4) ∗ anyv (F := F) c (xSl xd 5) ∗ anyv (F := F) c (dSl 5) ∗ ready c 1 ∗ idle c 3 ∗ idle c 4 ∗ idle c 5 ∗ idle c 6 ∗ ow c (dueAll c) ∗ dutyTok ER (bar (prv c)) 0 true ∗ dutyTok ER (bar (nxt c)) 0 false
        ∗ ((own c (bSl bM 1) (Bm m c 1) ∗ anyv (F := F) c (bSl bB 1) ∗ hbm c main_arg1 (bSl bH 1) (m ((c : Thread nD τ).loc main_arg1)) ∗ shut c 1 ∗ ready c 3 ∗ ready c 4 ∗ ready c 5 ∗ ready c 6 ∗ ow c (due c 0))
          -∗ Kt ⟨(SemArray.scalar (sig.barrier 0 rfl) : Sems sig S_), k0_pay2 (Bm m c 1)⟩))
      ⊢ run c (k0_part2 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 c v5 v7) Kt := by
  simp only [k0_part2_eq_skeleton]; unfold k0_part2_skel
  simp only [semSignalWord, semWaitWord, Prog.lift, Prog.bind_op, Prog.bind_ret, Prog.pure_eq_ret, wp_deviceId]
  iintro ⟨#HR, Han, HhAn, Hap, HhAp, Hac, HhAc, Hb0, HhB0, Hbb1, Hxd0, Hsd0, Hxd1, Hsd1, Hxd2, Hsd2, Hxd3, Hsd3, Hxd4, Hsd4, Hxd5, Hsd5, HkC1, HkC3, HkC4, HkC5, HkC6, How, Htb0, Htb1, Hk⟩
  iapply (wp_cp m K c 3 (by decide) (Ms := bH) (Md := bM) (off := ![0, 1024 * (0 : Fin 2).val]) (size := S1024x1024.size) (h := inB 0) (h2 := inB 0) ![0, 0] rfl (m ((c : Thread nD τ).loc main_arg1)) (amtC3) (payC3 m c)) $$ [HkC3 Hb0 HhB0]
  · isplitr; · iexact HR
    isplitl [HkC3]; · iexact HkC3
    isplitl [Hb0]; · iexact Hb0
    iexact HhB0
  iintro HkC3
  iapply (wp_cp m K c 4 (by decide) (Ms := aH) (Md := aM) (off := ![512 * ((nxt c)).val, 0]) (size := S512x1024.size) (h := inA (nxt c)) (h2 := inA (nxt c)) (k0_off1 c 1#32) (off1_1 c) (m ((c : Thread nD τ).loc main_arg0)) (amtC4) (payC4 m c)) $$ [HkC4 Han HhAn]
  · isplitr; · iexact HR
    isplitl [HkC4]; · iexact HkC4
    isplitl [Han]; · iexact Han
    iexact HhAn
  iintro HkC4
  iapply (wp_cp m K c 5 (by decide) (Ms := aH) (Md := aM) (off := ![512 * ((prv c)).val, 0]) (size := S512x1024.size) (h := inA (prv c)) (h2 := inA (prv c)) (k0_off2 c) (off2 c) (m ((c : Thread nD τ).loc main_arg0)) (amtC5) (payC5 m c)) $$ [HkC5 Hap HhAp]
  · isplitr; · iexact HR
    isplitl [HkC5]; · iexact HkC5
    isplitl [Hap]; · iexact Hap
    iexact HhAp
  iintro HkC5
  iapply (wp_cp m K c 6 (by decide) (Ms := aH) (Md := aM) (off := ![512 * (c).val, 0]) (size := S512x1024.size) (h := inA c) (h2 := inA c) (k0_off3 c) (off3 c) (m ((c : Thread nD τ).loc main_arg0)) (amtC6) (payC6 m c)) $$ [HkC6 Hac HhAc]
  · isplitr; · iexact HR
    isplitl [HkC6]; · iexact HkC6
    isplitl [Hac]; · iexact Hac
    iexact HhAc
  iintro HkC6
  iapply (wp_sig m K c (n := (⟨k0_dev1 c, k0_dev1_lt c⟩ : Dev nD)) (prv c) (Fin.ext (k0_dev1_eq c)) true _) $$ [How Htb0 Hxd0 Hsd0 Hxd2 Hsd2 Hxd4 Hsd4]
  · isplitr; · iexact HR
    isplitl [How]; · iexact How
    isplitl [Htb0]; · iexact Htb0
    rw [barPay_prv]
    isplitl [Hxd0 Hsd0]; · isplitl [Hxd0] <;> iassumption
    isplitl [Hxd2 Hsd2]; · isplitl [Hxd2] <;> iassumption
    isplitl [Hxd4] <;> iassumption
  iintro How
  iapply (wp_sig m K c (n := (⟨k0_dev2 c, k0_dev2_lt c⟩ : Dev nD)) (nxt c) (Fin.ext (k0_dev2_eq c)) false _) $$ [How Htb1 Hxd1 Hsd1 Hxd3 Hsd3 Hxd5 Hsd5]
  · isplitr; · iexact HR
    isplitl [How]; · iexact How
    isplitl [Htb1]; · iexact Htb1
    rw [barPay_nxt]
    isplitl [Hxd1 Hsd1]; · isplitl [Hxd1] <;> iassumption
    isplitl [Hxd3 Hsd3]; · isplitl [Hxd3] <;> iassumption
    isplitl [Hxd5] <;> iassumption
  iintro How
  iapply (wp_wait_dma m K c 1 (by decide) S1024x1024 .f32 rfl (due c 0) (due_above c 0 0 (by decide))) $$ [HkC1 How]
  · isplitr; · iexact HR
    isplitl [HkC1]; · iexact HkC1
    iexact How
  iintro ⟨How, HkC1, Hp⟩
  ihave Hp := (show pay m c (1 : Fin 31).val ⊢ payB m c 1 from BI.Entails.refl _) $$ Hp
  unfold payB; icases Hp with ⟨Hb1, HhB1⟩
  iapply (wp_ld c (M := bM) (size := S1024x1024.size) ![0, 1024] rfl _) $$ Hb1; iintro Hb1
  iapply (wp_ldAny c (M := bB) (size := S1024x1024.size) ![0, 1024] rfl) $$ Hbb1; iintro %u Hbb1
  iapply (run_ret c _)
  iapply Hk
  isplitl [Hb1]; · iexact Hb1
  isplitl [Hbb1]; · iexact Hbb1
  isplitl [HhB1]; · iexact HhB1
  isplitl [HkC1]; · iexact HkC1
  isplitl [HkC3]; · iexact HkC3
  isplitl [HkC4]; · iexact HkC4
  isplitl [HkC5]; · iexact HkC5
  isplitl [HkC6]; · iexact HkC6
  iexact How

theorem wp_part3 (v9 : BitVec 32) (Kt : _ → sProp 𝕄) :
    iprop(records m K ∗ anyv (F := F) c (aSl aB (opp c)) ∗ anyv (F := F) c (bSl bB 1) ∗ anyv (F := F) c (xSl xs 0) ∗ ready c 2 ∗ ow c (due c 0) ∗ (atPos ER (bar c) 0 ∅ 0 ∗ cred (tallyAt (bar c) () 2))
        ∗ ((own c (aSl aM (opp c)) (Am m c (opp c)) ∗ own c (aSl aB (opp c)) (Ab m c (opp c)) ∗ hbm c main_arg0 (aSl aH (opp c)) (m ((c : Thread nD τ).loc main_arg0)) ∗ own c (bSl bB 1) (Bb m c 1) ∗ own c (xSl xs 0) (Dv m c 0) ∗ shut c 2 ∗ ow c (due c 0) ∗ semVal (bar c) 0 ∗ anyv (F := F) (rcp 0 c) (xSl xd 0) ∗ anyv (F := F) (rcp 0 c) (dSl 0) ∗ anyv (F := F) (rcp 1 c) (xSl xd 1) ∗ anyv (F := F) (rcp 1 c) (dSl 1) ∗ anyv (F := F) (rcp 2 c) (xSl xd 2) ∗ anyv (F := F) (rcp 2 c) (dSl 2) ∗ anyv (F := F) (rcp 3 c) (xSl xd 3) ∗ anyv (F := F) (rcp 3 c) (dSl 3) ∗ anyv (F := F) (rcp 4 c) (xSl xd 4) ∗ anyv (F := F) (rcp 4 c) (dSl 4) ∗ anyv (F := F) (rcp 5 c) (xSl xd 5) ∗ anyv (F := F) (rcp 5 c) (dSl 5))
          -∗ Kt (k0_pay7 (Ab m c (opp c)) (Bb m c 1))))
      ⊢ run c (k0_part3 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 c v9 (SemArray.scalar (sig.barrier 0 rfl) : Sems sig S_) (k0_pay2 (Bm m c 1))) Kt := by
  simp only [k0_part3_eq_skeleton]; unfold k0_part3_skel
  simp only [semSignalWord, semWaitWord, Prog.lift, Prog.bind_op, Prog.bind_ret, Prog.pure_eq_ret, wp_deviceId]
  iintro ⟨#HR, Habo, Hbb1, Hxs0, HkC2, How, Hbar, Hk⟩
  iapply (wp_stAny c (M := bB) (size := S1024x1024.size) ![0, 1024] rfl (Bb m c 1) rfl) $$ Hbb1; iintro Hbb1
  iapply (wp_wait_dma m K c 2 (by decide) S512x1024 .f32 rfl (due c 0) (due_above c 0 0 (by decide))) $$ [HkC2 How]
  · isplitr; · iexact HR
    isplitl [HkC2]; · iexact HkC2
    iexact How
  iintro ⟨How, HkC2, Hp⟩
  ihave Hp := (show pay m c (2 : Fin 31).val ⊢ payA m c (opp c) from BI.Entails.refl _) $$ Hp
  unfold payA; icases Hp with ⟨Hao, HhAo⟩
  iapply (wp_ld c (M := aM) (size := S512x1024.size) (k0_off4 c 2#32) (off4_2 c) _) $$ Hao; iintro Hao
  iapply (wp_ldAny c (M := aB) (size := S512x1024.size) (k0_off4 c 2#32) (off4_2 c)) $$ Habo; iintro %u Habo
  iapply (wp_stAny c (M := aB) (size := S512x1024.size) (k0_off4 c 2#32) (off4_2 c) (Ab m c (opp c)) rfl) $$ Habo; iintro Habo
  iapply (wp_ld c (M := aB) (size := S512x1024.size) (k0_off4 c 2#32) (off4_2 c) _) $$ Habo; iintro Habo
  iapply (wp_ld c (M := bB) (size := S1024x1024.size) ![0, 1024] rfl _) $$ Hbb1; iintro Hbb1
  iapply (wp_wait_bar m K c (due c 0) (due_above c 0 1 (by decide))) $$ [Hbar How]
  · isplitr; · iexact HR
    isplitl [Hbar]; · iexact Hbar
    iexact How
  rw [barPay_false, barPay_true]
  iintro ⟨How, Hbar, ⟨⟨Hpxd1, Hpsd1⟩, ⟨Hpxd3, Hpsd3⟩, Hpxd5, Hpsd5⟩, ⟨Hpxd0, Hpsd0⟩, ⟨Hpxd2, Hpsd2⟩, Hpxd4, Hpsd4⟩
  iapply (wp_ldAny c (M := xs) (size := S1x512x1024.size) (off := ![(0 : Fin 6).val, 0, 0]) ![0, 0, 0] rfl) $$ Hxs0; iintro %u Hxs0
  iapply (wp_stAny c (M := xs) (size := S1x512x1024.size) (off := ![(0 : Fin 6).val, 0, 0]) ![0, 0, 0] rfl (Dv m c 0) rfl) $$ Hxs0; iintro Hxs0
  iapply (run_ret c _)
  iapply Hk
  isplitl [Hao]; · iexact Hao
  isplitl [Habo]; · iexact Habo
  isplitl [HhAo]; · iexact HhAo
  isplitl [Hbb1]; · iexact Hbb1
  isplitl [Hxs0]; · iexact Hxs0
  isplitl [HkC2]; · iexact HkC2
  isplitl [How]; · iexact How
  isplitl [Hbar]; · iexact Hbar
  isplitl [Hpxd0]; · iexact Hpxd0
  isplitl [Hpsd0]; · iexact Hpsd0
  isplitl [Hpxd1]; · iexact Hpxd1
  isplitl [Hpsd1]; · iexact Hpsd1
  isplitl [Hpxd2]; · iexact Hpxd2
  isplitl [Hpsd2]; · iexact Hpsd2
  isplitl [Hpxd3]; · iexact Hpxd3
  isplitl [Hpsd3]; · iexact Hpsd3
  isplitl [Hpxd4]; · iexact Hpxd4
  isplitl [Hpsd4]; · iexact Hpsd4
  isplitl [Hpxd5]; · iexact Hpxd5
  iexact Hpsd5

theorem wp_part4 (v7 : BitVec 32) (Kt : _ → sProp 𝕄) :
    iprop(records m K ∗ own c (xSl xs 0) (Dv m c 0) ∗ anyv (F := F) c (sSl 0) ∗ dutyTok ER (dc (rcp 0 c) (kDR 0)) 0 false ∗ dutyTok ER (dc (rcp 0 c) (kSR 0)) 0 false ∗ idle c (kDS 0) ∗ idle c (kSS 0) ∗ ready c 3 ∗ ow c (due c 0) ∗ anyv (F := F) (rcp 0 c) (xSl xd 0) ∗ anyv (F := F) (rcp 0 c) (dSl 0)
        ∗ ((own c (bSl bM 0) (Bm m c 0) ∗ hbm c main_arg1 (bSl bH 0) (m ((c : Thread nD τ).loc main_arg1)) ∗ ready c (kDS 0) ∗ ready c (kSS 0) ∗ shut c 3 ∗ ow c (due c 1))
          -∗ Kt (k0_pay9 (Bm m c 0))))
      ⊢ run c (k0_part4 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 c v7 (k0_pay7 (Ab m c (opp c)) (Bb m c 1))) Kt := by
  simp only [k0_part4_eq_skeleton]; unfold k0_part4_skel
  simp only [semSignalWord, semWaitWord, Prog.lift, Prog.bind_op, Prog.bind_ret, Prog.pure_eq_ret, wp_deviceId]
  iintro ⟨#HR, Hxs0, Hss0, HtX0, HtS0, HkDS0, HkSS0, HkC3, How, Hpxd0, Hpsd0, Hk⟩
  iapply (wp_ldAny c (M := ss) (size := S1x512.size) (off := ![(0 : Fin 6).val, 0]) ![0, 0] rfl) $$ Hss0; iintro %u Hss0
  iapply (wp_stAny c (M := ss) (size := S1x512.size) (off := ![(0 : Fin 6).val, 0]) ![0, 0] rfl (Sv m c 0) rfl) $$ Hss0; iintro Hss0
  ihave How := (show ow c (due c 0) ⊢ _ from Entails.of_eq (ow_step c 0)) $$ How
  iapply (wp_data m K c 0 (n := (⟨k0_dev3 c, k0_dev3_lt c⟩ : Dev nD)) (Fin.ext (k0_dev3_eq c)) _) $$ [HkDS0 Hxs0 Hpxd0 How HtX0]
  · isplitr; · iexact HR
    isplitl [HkDS0]; · iexact HkDS0
    isplitl [Hxs0]; · iexact Hxs0
    isplitl [Hpxd0]; · iexact Hpxd0
    isplitl [How]; · iexact How
    iexact HtX0
  iintro ⟨HkDS0, How⟩
  iapply (wp_scale m K c 0 (n := (⟨k0_dev4 c, k0_dev4_lt c⟩ : Dev nD)) (Fin.ext (k0_dev4_eq c)) _) $$ [HkSS0 Hss0 Hpsd0 How HtS0]
  · isplitr; · iexact HR
    isplitl [HkSS0]; · iexact HkSS0
    isplitl [Hss0]; · iexact Hss0
    isplitl [Hpsd0]; · iexact Hpsd0
    isplitl [How]; · iexact How
    iexact HtS0
  iintro ⟨HkSS0, How⟩
  iapply (wp_wait_dma m K c 3 (by decide) S1024x1024 .f32 rfl (due c 1) (due_above c 1 0 (by decide))) $$ [HkC3 How]
  · isplitr; · iexact HR
    isplitl [HkC3]; · iexact HkC3
    iexact How
  iintro ⟨How, HkC3, Hp⟩
  ihave Hp := (show pay m c (3 : Fin 31).val ⊢ payB m c 0 from BI.Entails.refl _) $$ Hp
  unfold payB; icases Hp with ⟨Hb0, HhB0⟩
  iapply (wp_ld c (M := bM) (size := S1024x1024.size) ![0, 0] rfl _) $$ Hb0; iintro Hb0
  iapply (run_ret c _)
  iapply Hk
  isplitl [Hb0]; · iexact Hb0
  isplitl [HhB0]; · iexact HhB0
  isplitl [HkDS0]; · iexact HkDS0
  isplitl [HkSS0]; · iexact HkSS0
  isplitl [HkC3]; · iexact HkC3
  iexact How

theorem wp_part5 (v5 v9 : BitVec 32) (Kt : _ → sProp 𝕄) :
    iprop(records m K ∗ own c (aSl aB (opp c)) (Ab m c (opp c)) ∗ anyv (F := F) c (bSl bB 0) ∗ anyv (F := F) c (xSl xs 1) ∗ anyv (F := F) c (sSl 1)
        ∗ ((own c (aSl aB (opp c)) (Ab m c (opp c)) ∗ own c (bSl bB 0) (Bb m c 0) ∗ own c (xSl xs 1) (Dv m c 1) ∗ own c (sSl 1) (Sv m c 1))
          -∗ Kt ⟨⟩))
      ⊢ run c (k0_part5 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 c v5 v9 (k0_pay9 (Bm m c 0))) Kt := by
  simp only [k0_part5_eq_skeleton]; unfold k0_part5_skel
  simp only [semSignalWord, semWaitWord, Prog.lift, Prog.bind_op, Prog.bind_ret, Prog.pure_eq_ret, wp_deviceId]
  iintro ⟨#HR, Habo, Hbb0, Hxs1, Hss1, Hk⟩
  iapply (wp_ldAny c (M := bB) (size := S1024x1024.size) ![0, 0] rfl) $$ Hbb0; iintro %u Hbb0
  iapply (wp_stAny c (M := bB) (size := S1024x1024.size) ![0, 0] rfl (Bb m c 0) rfl) $$ Hbb0; iintro Hbb0
  iapply (wp_ld c (M := aB) (size := S512x1024.size) (k0_off4 c 2#32) (off4_2 c) _) $$ Habo; iintro Habo
  iapply (wp_ld c (M := bB) (size := S1024x1024.size) ![0, 0] rfl _) $$ Hbb0; iintro Hbb0
  iapply (wp_ldAny c (M := xs) (size := S1x512x1024.size) (off := ![(1 : Fin 6).val, 0, 0]) ![1, 0, 0] rfl) $$ Hxs1; iintro %u Hxs1
  iapply (wp_stAny c (M := xs) (size := S1x512x1024.size) (off := ![(1 : Fin 6).val, 0, 0]) ![1, 0, 0] rfl (Dv m c 1) rfl) $$ Hxs1; iintro Hxs1
  iapply (wp_ldAny c (M := ss) (size := S1x512.size) (off := ![(1 : Fin 6).val, 0]) ![1, 0] rfl) $$ Hss1; iintro %u Hss1
  iapply (wp_stAny c (M := ss) (size := S1x512.size) (off := ![(1 : Fin 6).val, 0]) ![1, 0] rfl (Sv m c 1) rfl) $$ Hss1; iintro Hss1
  iapply (run_ret c _)
  iapply Hk
  isplitl [Habo]; · iexact Habo
  isplitl [Hbb0]; · iexact Hbb0
  isplitl [Hxs1]; · iexact Hxs1
  iexact Hss1

theorem wp_part6 (v5 v7 : BitVec 32) (Kt : _ → sProp 𝕄) :
    iprop(records m K ∗ anyv (F := F) c (aSl aB (nxt c)) ∗ own c (bSl bB 0) (Bb m c 0) ∗ own c (xSl xs 1) (Dv m c 1) ∗ own c (sSl 1) (Sv m c 1) ∗ dutyTok ER (dc (rcp 1 c) (kDR 1)) 0 false ∗ dutyTok ER (dc (rcp 1 c) (kSR 1)) 0 false ∗ idle c (kDS 1) ∗ idle c (kSS 1) ∗ ready c 4 ∗ ow c (due c 1) ∗ anyv (F := F) (rcp 1 c) (xSl xd 1) ∗ anyv (F := F) (rcp 1 c) (dSl 1)
        ∗ ((own c (aSl aM (nxt c)) (Am m c (nxt c)) ∗ own c (aSl aB (nxt c)) (Ab m c (nxt c)) ∗ hbm c main_arg0 (aSl aH (nxt c)) (m ((c : Thread nD τ).loc main_arg0)) ∗ own c (bSl bB 0) (Bb m c 0) ∗ ready c (kDS 1) ∗ ready c (kSS 1) ∗ shut c 4 ∗ ow c (due c 2))
          -∗ Kt ⟨k0_pay16 (Ab m c (nxt c)) (Bb m c 0), k0_pay17 (Ab m c (nxt c)) (Bb m c 0)⟩))
      ⊢ run c (k0_part6 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 c v5 v7) Kt := by
  simp only [k0_part6_eq_skeleton]; unfold k0_part6_skel
  simp only [semSignalWord, semWaitWord, Prog.lift, Prog.bind_op, Prog.bind_ret, Prog.pure_eq_ret, wp_deviceId]
  iintro ⟨#HR, Habn, Hbb0, Hxs1, Hss1, HtX1, HtS1, HkDS1, HkSS1, HkC4, How, Hpxd1, Hpsd1, Hk⟩
  ihave How := (show ow c (due c 1) ⊢ _ from Entails.of_eq (ow_step c 1)) $$ How
  iapply (wp_data m K c 1 (n := (⟨k0_dev5 c, k0_dev5_lt c⟩ : Dev nD)) (Fin.ext (k0_dev5_eq c)) _) $$ [HkDS1 Hxs1 Hpxd1 How HtX1]
  · isplitr; · iexact HR
    isplitl [HkDS1]; · iexact HkDS1
    isplitl [Hxs1]; · iexact Hxs1
    isplitl [Hpxd1]; · iexact Hpxd1
    isplitl [How]; · iexact How
    iexact HtX1
  iintro ⟨HkDS1, How⟩
  iapply (wp_scale m K c 1 (n := (⟨k0_dev6 c, k0_dev6_lt c⟩ : Dev nD)) (Fin.ext (k0_dev6_eq c)) _) $$ [HkSS1 Hss1 Hpsd1 How HtS1]
  · isplitr; · iexact HR
    isplitl [HkSS1]; · iexact HkSS1
    isplitl [Hss1]; · iexact Hss1
    isplitl [Hpsd1]; · iexact Hpsd1
    isplitl [How]; · iexact How
    iexact HtS1
  iintro ⟨HkSS1, How⟩
  iapply (wp_wait_dma m K c 4 (by decide) S512x1024 .f32 rfl (due c 2) (due_above c 2 0 (by decide))) $$ [HkC4 How]
  · isplitr; · iexact HR
    isplitl [HkC4]; · iexact HkC4
    iexact How
  iintro ⟨How, HkC4, Hp⟩
  ihave Hp := (show pay m c (4 : Fin 31).val ⊢ payA m c (nxt c) from BI.Entails.refl _) $$ Hp
  unfold payA; icases Hp with ⟨Han, HhAn⟩
  iapply (wp_ld c (M := aM) (size := S512x1024.size) (k0_off4 c 1#32) (off4_1 c) _) $$ Han; iintro Han
  iapply (wp_ldAny c (M := aB) (size := S512x1024.size) (k0_off4 c 1#32) (off4_1 c)) $$ Habn; iintro %u Habn
  iapply (wp_stAny c (M := aB) (size := S512x1024.size) (k0_off4 c 1#32) (off4_1 c) (Ab m c (nxt c)) rfl) $$ Habn; iintro Habn
  iapply (wp_ld c (M := aB) (size := S512x1024.size) (k0_off4 c 1#32) (off4_1 c) _) $$ Habn; iintro Habn
  iapply (wp_ld c (M := bB) (size := S1024x1024.size) ![0, 0] rfl _) $$ Hbb0; iintro Hbb0
  iapply (run_ret c _)
  iapply Hk
  isplitl [Han]; · iexact Han
  isplitl [Habn]; · iexact Habn
  isplitl [HhAn]; · iexact HhAn
  isplitl [Hbb0]; · iexact Hbb0
  isplitl [HkDS1]; · iexact HkDS1
  isplitl [HkSS1]; · iexact HkSS1
  isplitl [HkC4]; · iexact HkC4
  iexact How

theorem wp_part7 (v7 : BitVec 32) (Kt : _ → sProp 𝕄) :
    iprop(records m K ∗ anyv (F := F) c (xSl xs 2) ∗ anyv (F := F) c (sSl 2) ∗ dutyTok ER (dc (rcp 2 c) (kDR 2)) 0 false ∗ idle c (kDS 2) ∗ ow c (due c 2) ∗ anyv (F := F) (rcp 2 c) (xSl xd 2)
        ∗ ((own c (sSl 2) (Sv m c 2) ∗ ready c (kDS 2) ∗ ow c ((dc (rcp 2 c) (kSR 2), NS) :: due c 3))
          -∗ Kt ⟨⟩))
      ⊢ run c (k0_part7 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 c v7 (k0_pay16 (Ab m c (nxt c)) (Bb m c 0)) (k0_pay17 (Ab m c (nxt c)) (Bb m c 0))) Kt := by
  simp only [k0_part7_eq_skeleton]; unfold k0_part7_skel
  simp only [semSignalWord, semWaitWord, Prog.lift, Prog.bind_op, Prog.bind_ret, Prog.pure_eq_ret, wp_deviceId]
  iintro ⟨#HR, Hxs2, Hss2, HtX2, HkDS2, How, Hpxd2, Hk⟩
  iapply (wp_ldAny c (M := xs) (size := S1x512x1024.size) (off := ![(2 : Fin 6).val, 0, 0]) ![2, 0, 0] rfl) $$ Hxs2; iintro %u Hxs2
  iapply (wp_stAny c (M := xs) (size := S1x512x1024.size) (off := ![(2 : Fin 6).val, 0, 0]) ![2, 0, 0] rfl (Dv m c 2) rfl) $$ Hxs2; iintro Hxs2
  iapply (wp_ldAny c (M := ss) (size := S1x512.size) (off := ![(2 : Fin 6).val, 0]) ![2, 0] rfl) $$ Hss2; iintro %u Hss2
  iapply (wp_stAny c (M := ss) (size := S1x512.size) (off := ![(2 : Fin 6).val, 0]) ![2, 0] rfl (Sv m c 2) rfl) $$ Hss2; iintro Hss2
  ihave How := (show ow c (due c 2) ⊢ _ from Entails.of_eq (ow_step c 2)) $$ How
  iapply (wp_data m K c 2 (n := (⟨k0_dev7 c, k0_dev7_lt c⟩ : Dev nD)) (Fin.ext (k0_dev7_eq c)) _) $$ [HkDS2 Hxs2 Hpxd2 How HtX2]
  · isplitr; · iexact HR
    isplitl [HkDS2]; · iexact HkDS2
    isplitl [Hxs2]; · iexact Hxs2
    isplitl [Hpxd2]; · iexact Hpxd2
    isplitl [How]; · iexact How
    iexact HtX2
  iintro ⟨HkDS2, How⟩
  iapply (run_ret c _)
  iapply Hk
  isplitl [Hss2]; · iexact Hss2
  isplitl [HkDS2]; · iexact HkDS2
  iexact How

theorem wp_part8 (v5 : BitVec 32) (Kt : _ → sProp 𝕄) :
    iprop(records m K ∗ anyv (F := F) c (aSl aB (prv c)) ∗ own c (bSl bB 1) (Bb m c 1) ∗ own c (sSl 2) (Sv m c 2) ∗ dutyTok ER (dc (rcp 2 c) (kSR 2)) 0 false ∗ idle c (kSS 2) ∗ anyv (F := F) c (xSl xs 3) ∗ ready c 5 ∗ ow c ((dc (rcp 2 c) (kSR 2), NS) :: due c 3) ∗ anyv (F := F) (rcp 2 c) (dSl 2)
        ∗ ((own c (aSl aM (prv c)) (Am m c (prv c)) ∗ own c (aSl aB (prv c)) (Ab m c (prv c)) ∗ hbm c main_arg0 (aSl aH (prv c)) (m ((c : Thread nD τ).loc main_arg0)) ∗ own c (bSl bB 1) (Bb m c 1) ∗ ready c (kSS 2) ∗ anyv (F := F) c (xSl xs 3) ∗ shut c 5 ∗ ow c (due c 3))
          -∗ Kt ⟨k0_pay23 (Ab m c (prv c)) (Bb m c 1), k0_pay24 (Ab m c (prv c)) (Bb m c 1)⟩))
      ⊢ run c (k0_part8 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 c v5) Kt := by
  simp only [k0_part8_eq_skeleton]; unfold k0_part8_skel
  simp only [semSignalWord, semWaitWord, Prog.lift, Prog.bind_op, Prog.bind_ret, Prog.pure_eq_ret, wp_deviceId]
  iintro ⟨#HR, Habp, Hbb1, Hss2, HtS2, HkSS2, Hxs3, HkC5, How, Hpsd2, Hk⟩
  iapply (wp_scale m K c 2 (n := (⟨k0_dev8 c, k0_dev8_lt c⟩ : Dev nD)) (Fin.ext (k0_dev8_eq c)) _) $$ [HkSS2 Hss2 Hpsd2 How HtS2]
  · isplitr; · iexact HR
    isplitl [HkSS2]; · iexact HkSS2
    isplitl [Hss2]; · iexact Hss2
    isplitl [Hpsd2]; · iexact Hpsd2
    isplitl [How]; · iexact How
    iexact HtS2
  iintro ⟨HkSS2, How⟩
  iapply (wp_wait_dma m K c 5 (by decide) S512x1024 .f32 rfl (due c 3) (due_above c 3 0 (by decide))) $$ [HkC5 How]
  · isplitr; · iexact HR
    isplitl [HkC5]; · iexact HkC5
    iexact How
  iintro ⟨How, HkC5, Hp⟩
  ihave Hp := (show pay m c (5 : Fin 31).val ⊢ payA m c (prv c) from BI.Entails.refl _) $$ Hp
  unfold payA; icases Hp with ⟨Hap, HhAp⟩
  iapply (wp_ld c (M := aM) (size := S512x1024.size) (k0_off5 c) (off5 c) _) $$ Hap; iintro Hap
  iapply (wp_ldAny c (M := aB) (size := S512x1024.size) (k0_off5 c) (off5 c)) $$ Habp; iintro %u Habp
  iapply (wp_stAny c (M := aB) (size := S512x1024.size) (k0_off5 c) (off5 c) (Ab m c (prv c)) rfl) $$ Habp; iintro Habp
  iapply (wp_ld c (M := aB) (size := S512x1024.size) (k0_off5 c) (off5 c) _) $$ Habp; iintro Habp
  iapply (wp_ld c (M := bB) (size := S1024x1024.size) ![0, 1024] rfl _) $$ Hbb1; iintro Hbb1
  iapply (wp_ldAny c (M := xs) (size := S1x512x1024.size) (off := ![(3 : Fin 6).val, 0, 0]) ![3, 0, 0] rfl) $$ Hxs3; iintro %u Hxs3
  iapply (run_ret c _)
  iapply Hk
  isplitl [Hap]; · iexact Hap
  isplitl [Habp]; · iexact Habp
  isplitl [HhAp]; · iexact HhAp
  isplitl [Hbb1]; · iexact Hbb1
  isplitl [HkSS2]; · iexact HkSS2
  isplitl [Hxs3]; · iexact Hxs3
  isplitl [HkC5]; · iexact HkC5
  iexact How

theorem wp_part9 (v5 v7 : BitVec 32) (Kt : _ → sProp 𝕄) :
    iprop(records m K ∗ own c (aSl aB (nxt c)) (Ab m c (nxt c)) ∗ own c (bSl bB 1) (Bb m c 1) ∗ anyv (F := F) c (xSl xs 3) ∗ anyv (F := F) c (sSl 3) ∗ dutyTok ER (dc (rcp 3 c) (kDR 3)) 0 false ∗ dutyTok ER (dc (rcp 3 c) (kSR 3)) 0 false ∗ idle c (kDS 3) ∗ idle c (kSS 3) ∗ ow c (due c 3) ∗ anyv (F := F) (rcp 3 c) (xSl xd 3) ∗ anyv (F := F) (rcp 3 c) (dSl 3)
        ∗ ((own c (aSl aB (nxt c)) (Ab m c (nxt c)) ∗ own c (bSl bB 1) (Bb m c 1) ∗ ready c (kDS 3) ∗ ready c (kSS 3) ∗ ow c (due c 4))
          -∗ Kt (k0_pay26 (Ab m c (nxt c)) (Bb m c 1))))
      ⊢ run c (k0_part9 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 c v5 v7 (k0_pay23 (Ab m c (prv c)) (Bb m c 1)) (k0_pay24 (Ab m c (prv c)) (Bb m c 1))) Kt := by
  simp only [k0_part9_eq_skeleton]; unfold k0_part9_skel
  simp only [semSignalWord, semWaitWord, Prog.lift, Prog.bind_op, Prog.bind_ret, Prog.pure_eq_ret, wp_deviceId]
  iintro ⟨#HR, Habn, Hbb1, Hxs3, Hss3, HtX3, HtS3, HkDS3, HkSS3, How, Hpxd3, Hpsd3, Hk⟩
  iapply (wp_stAny c (M := xs) (size := S1x512x1024.size) (off := ![(3 : Fin 6).val, 0, 0]) ![3, 0, 0] rfl (Dv m c 3) rfl) $$ Hxs3; iintro Hxs3
  iapply (wp_ldAny c (M := ss) (size := S1x512.size) (off := ![(3 : Fin 6).val, 0]) ![3, 0] rfl) $$ Hss3; iintro %u Hss3
  iapply (wp_stAny c (M := ss) (size := S1x512.size) (off := ![(3 : Fin 6).val, 0]) ![3, 0] rfl (Sv m c 3) rfl) $$ Hss3; iintro Hss3
  ihave How := (show ow c (due c 3) ⊢ _ from Entails.of_eq (ow_step c 3)) $$ How
  iapply (wp_data m K c 3 (n := (⟨k0_dev9 c, k0_dev9_lt c⟩ : Dev nD)) (Fin.ext (k0_dev9_eq c)) _) $$ [HkDS3 Hxs3 Hpxd3 How HtX3]
  · isplitr; · iexact HR
    isplitl [HkDS3]; · iexact HkDS3
    isplitl [Hxs3]; · iexact Hxs3
    isplitl [Hpxd3]; · iexact Hpxd3
    isplitl [How]; · iexact How
    iexact HtX3
  iintro ⟨HkDS3, How⟩
  iapply (wp_scale m K c 3 (n := (⟨k0_dev10 c, k0_dev10_lt c⟩ : Dev nD)) (Fin.ext (k0_dev10_eq c)) _) $$ [HkSS3 Hss3 Hpsd3 How HtS3]
  · isplitr; · iexact HR
    isplitl [HkSS3]; · iexact HkSS3
    isplitl [Hss3]; · iexact Hss3
    isplitl [Hpsd3]; · iexact Hpsd3
    isplitl [How]; · iexact How
    iexact HtS3
  iintro ⟨HkSS3, How⟩
  iapply (wp_ld c (M := aB) (size := S512x1024.size) (k0_off4 c 1#32) (off4_1 c) _) $$ Habn; iintro Habn
  iapply (wp_ld c (M := bB) (size := S1024x1024.size) ![0, 1024] rfl _) $$ Hbb1; iintro Hbb1
  iapply (run_ret c _)
  iapply Hk
  isplitl [Habn]; · iexact Habn
  isplitl [Hbb1]; · iexact Hbb1
  isplitl [HkDS3]; · iexact HkDS3
  isplitl [HkSS3]; · iexact HkSS3
  iexact How

theorem wp_part10 (v2 v5 : BitVec 32) (Kt : _ → sProp 𝕄) :
    iprop(records m K ∗ own c (aSl aB (prv c)) (Ab m c (prv c)) ∗ anyv (F := F) c (aSl aB c) ∗ own c (bSl bB 0) (Bb m c 0) ∗ own c (bSl bB 1) (Bb m c 1) ∗ ready c 6 ∗ ow c (due c 4)
        ∗ ((own c (aSl aB (prv c)) (Ab m c (prv c)) ∗ own c (aSl aM c) (Am m c c) ∗ own c (aSl aB c) (Ab m c c) ∗ hbm c main_arg0 (aSl aH c) (m ((c : Thread nD τ).loc main_arg0)) ∗ own c (bSl bB 0) (Bb m c 0) ∗ own c (bSl bB 1) (Bb m c 1) ∗ shut c 6 ∗ ow c (due c 4))
          -∗ Kt ⟨(k0_pay27 (Ab m c (prv c)) (Bb m c 0)), (k0_pay29 (Ab m c c) (Bb m c 0)), (k0_pay30 (Ab m c c) (Bb m c 1))⟩))
      ⊢ run c (k0_part10 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 c v2 v5) Kt := by
  simp only [k0_part10_eq_skeleton]; unfold k0_part10_skel
  simp only [semSignalWord, semWaitWord, Prog.lift, Prog.bind_op, Prog.bind_ret, Prog.pure_eq_ret, wp_deviceId]
  iintro ⟨#HR, Habp, Habc, Hbb0, Hbb1, HkC6, How, Hk⟩
  iapply (wp_ld c (M := aB) (size := S512x1024.size) (k0_off5 c) (off5 c) _) $$ Habp; iintro Habp
  iapply (wp_ld c (M := bB) (size := S1024x1024.size) ![0, 0] rfl _) $$ Hbb0; iintro Hbb0
  iapply (wp_wait_dma m K c 6 (by decide) S512x1024 .f32 rfl (due c 4) (due_above c 4 0 (by decide))) $$ [HkC6 How]
  · isplitr; · iexact HR
    isplitl [HkC6]; · iexact HkC6
    iexact How
  iintro ⟨How, HkC6, Hp⟩
  ihave Hp := (show pay m c (6 : Fin 31).val ⊢ payA m c c from BI.Entails.refl _) $$ Hp
  unfold payA; icases Hp with ⟨Hac, HhAc⟩
  iapply (wp_ld c (M := aM) (size := S512x1024.size) (k0_off6 c) (off6 c) _) $$ Hac; iintro Hac
  iapply (wp_ldAny c (M := aB) (size := S512x1024.size) (k0_off6 c) (off6 c)) $$ Habc; iintro %u Habc
  iapply (wp_stAny c (M := aB) (size := S512x1024.size) (k0_off6 c) (off6 c) (Ab m c c) rfl) $$ Habc; iintro Habc
  iapply (wp_ld c (M := aB) (size := S512x1024.size) (k0_off6 c) (off6 c) _) $$ Habc; iintro Habc
  iapply (wp_ld c (M := bB) (size := S1024x1024.size) ![0, 0] rfl _) $$ Hbb0; iintro Hbb0
  iapply (wp_ld c (M := aB) (size := S512x1024.size) (k0_off6 c) (off6 c) _) $$ Habc; iintro Habc
  iapply (wp_ld c (M := bB) (size := S1024x1024.size) ![0, 1024] rfl _) $$ Hbb1; iintro Hbb1
  iapply (run_ret c _)
  iapply Hk
  isplitl [Habp]; · iexact Habp
  isplitl [Hac]; · iexact Hac
  isplitl [Habc]; · iexact Habc
  isplitl [HhAc]; · iexact HhAc
  isplitl [Hbb0]; · iexact Hbb0
  isplitl [Hbb1]; · iexact Hbb1
  isplitl [HkC6]; · iexact HkC6
  iexact How

end Cert.Mk

end
-- ==== Proof.Parts2.lean ====
/-
  01_k — the rest of the body: own products, the landings, the relayed messages 4 and 5, the result.
-/
module

public import proofs.«01_k».proof.Proof.Moves

@[expose] public section

noncomputable section

namespace Cert.Mk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 31 → ℕ) (c : Dev nD)

theorem wp_part11 (v7 : BitVec 32) (Kt : _ → sProp 𝕄) :
    iprop(records m K ∗ ready c (kDS 0) ∗ ready c (kSS 0) ∗ ready c (kDR 0) ∗ ready c (kSR 0) ∗ ow c (due c 4)
        ∗ ((anyv (F := F) c (xSl xs 0) ∗ anyv (F := F) c (sSl 0) ∗ own c (xSl xd 0) (D0 m (prv c)) ∗ own c (dSl 0) (S0 m (prv c)) ∗ shut c (kDS 0) ∗ shut c (kSS 0) ∗ shut c (kDR 0) ∗ shut c (kSR 0) ∗ ow c (due c 4))
          -∗ Kt ⟨⟩))
      ⊢ run c (k0_part11 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 v7) Kt := by
  simp only [k0_part11_eq_skeleton]; unfold k0_part11_skel
  simp only [semSignalWord, semWaitWord, Prog.lift, Prog.bind_op, Prog.bind_ret, Prog.pure_eq_ret, wp_deviceId]
  iintro ⟨#HR, HkDS0, HkSS0, HkDR0, HkSR0, How, Hk⟩
  iapply (wp_wait_dma m K c (kDS 0) (kDS_ne 0) S512x1024 .i8 rfl (due c 4) (due_above c 4 0 (by decide))) $$ [HkDS0 How]
  · isplitr; · iexact HR
    isplitl [HkDS0]; · iexact HkDS0
    iexact How
  iintro ⟨How, HkDS0, Hxs0⟩
  ihave Hxs0 := (show pay m c (kDS 0).val ⊢ anyv (F := F) c (xSl xs 0) from Entails.of_eq (pay_DS m c 0)) $$ Hxs0
  iapply (wp_wait_dma m K c (kDR 0) (kDR_ne 0) S512x1024 .i8 rfl (due c 4) (due_above c 4 2 (by decide))) $$ [HkDR0 How]
  · isplitr; · iexact HR
    isplitl [HkDR0]; · iexact HkDR0
    iexact How
  iintro ⟨How, HkDR0, Hxd0⟩
  ihave Hxd0 := (show pay m c (kDR 0).val ⊢ own c (xSl xd 0) (D0 m (prv c)) from Entails.of_eq (pay_DR m c 0)) $$ Hxd0
  iapply (wp_wait_dma m K c (kSS 0) (kSS_ne 0) S512 .f32 rfl (due c 4) (due_above c 4 0 (by decide))) $$ [HkSS0 How]
  · isplitr; · iexact HR
    isplitl [HkSS0]; · iexact HkSS0
    iexact How
  iintro ⟨How, HkSS0, Hss0⟩
  ihave Hss0 := (show pay m c (kSS 0).val ⊢ anyv (F := F) c (sSl 0) from Entails.of_eq (pay_SS m c 0)) $$ Hss0
  iapply (wp_wait_dma m K c (kSR 0) (kSR_ne 0) S512 .f32 rfl (due c 4) (due_above c 4 2 (by decide))) $$ [HkSR0 How]
  · isplitr; · iexact HR
    isplitl [HkSR0]; · iexact HkSR0
    iexact How
  iintro ⟨How, HkSR0, Hsd0⟩
  ihave Hsd0 := (show pay m c (kSR 0).val ⊢ own c (dSl 0) (S0 m (prv c)) from Entails.of_eq (pay_SR m c 0)) $$ Hsd0
  iapply (run_ret c _)
  iapply Hk
  isplitl [Hxs0]; · iexact Hxs0
  isplitl [Hss0]; · iexact Hss0
  isplitl [Hxd0]; · iexact Hxd0
  isplitl [Hsd0]; · iexact Hsd0
  isplitl [HkDS0]; · iexact HkDS0
  isplitl [HkSS0]; · iexact HkSS0
  isplitl [HkDR0]; · iexact HkDR0
  isplitl [HkSR0]; · iexact HkSR0
  iexact How

theorem wp_part12 (v7 : BitVec 32) (Kt : _ → sProp 𝕄) :
    iprop(records m K ∗ own c (xSl xd 0) (D0 m (prv c)) ∗ own c (dSl 0) (S0 m (prv c)) ∗ anyv (F := F) c (xSl xs 4) ∗ anyv (F := F) c (sSl 4)
        ∗ ((own c (xSl xd 0) (D0 m (prv c)) ∗ own c (dSl 0) (S0 m (prv c)) ∗ own c (xSl xs 4) (Dv m c 4) ∗ own c (sSl 4) (Sv m c 4))
          -∗ Kt ⟨⟩))
      ⊢ run c (k0_part12 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 v7 (k0_pay26 (Ab m c (nxt c)) (Bb m c 1))) Kt := by
  simp only [k0_part12_eq_skeleton]; unfold k0_part12_skel
  simp only [semSignalWord, semWaitWord, Prog.lift, Prog.bind_op, Prog.bind_ret, Prog.pure_eq_ret, wp_deviceId]
  iintro ⟨#HR, Hxd0, Hsd0, Hxs4, Hss4, Hk⟩
  iapply (wp_ld c (M := xd) (size := S1x512x1024.size) (off := ![(0 : Fin 6).val, 0, 0]) ![0, 0, 0] rfl _) $$ Hxd0; iintro Hxd0
  iapply (wp_ld c (M := sd) (size := S1x512.size) (off := ![(0 : Fin 6).val, 0]) ![0, 0] rfl _) $$ Hsd0; iintro Hsd0
  iapply (wp_ldAny c (M := xs) (size := S1x512x1024.size) (off := ![(4 : Fin 6).val, 0, 0]) ![4, 0, 0] rfl) $$ Hxs4; iintro %u Hxs4
  iapply (wp_stAny c (M := xs) (size := S1x512x1024.size) (off := ![(4 : Fin 6).val, 0, 0]) ![4, 0, 0] rfl (Dv m c 4) rfl) $$ Hxs4; iintro Hxs4
  iapply (wp_ldAny c (M := ss) (size := S1x512.size) (off := ![(4 : Fin 6).val, 0]) ![4, 0] rfl) $$ Hss4; iintro %u Hss4
  iapply (wp_stAny c (M := ss) (size := S1x512.size) (off := ![(4 : Fin 6).val, 0]) ![4, 0] rfl (Sv m c 4) rfl) $$ Hss4; iintro Hss4
  iapply (run_ret c _)
  iapply Hk
  isplitl [Hxd0]; · iexact Hxd0
  isplitl [Hsd0]; · iexact Hsd0
  isplitl [Hxs4]; · iexact Hxs4
  iexact Hss4

theorem wp_part13 (v5 v7 : BitVec 32) (Kt : _ → sProp 𝕄) :
    iprop(records m K ∗ ready c (kDS 1) ∗ ready c (kDR 1) ∗ own c (xSl xs 4) (Dv m c 4) ∗ own c (sSl 4) (Sv m c 4) ∗ dutyTok ER (dc (rcp 4 c) (kDR 4)) 0 false ∗ dutyTok ER (dc (rcp 4 c) (kSR 4)) 0 false ∗ idle c (kDS 4) ∗ idle c (kSS 4) ∗ ow c (due c 4) ∗ anyv (F := F) (rcp 4 c) (xSl xd 4) ∗ anyv (F := F) (rcp 4 c) (dSl 4)
        ∗ ((anyv (F := F) c (xSl xs 1) ∗ own c (xSl xd 1) (D1 m (nxt c)) ∗ shut c (kDS 1) ∗ shut c (kDR 1) ∗ ready c (kDS 4) ∗ ready c (kSS 4) ∗ ow c (due c 5))
          -∗ Kt ⟨⟩))
      ⊢ run c (k0_part13 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 c v5 v7) Kt := by
  simp only [k0_part13_eq_skeleton]; unfold k0_part13_skel
  simp only [semSignalWord, semWaitWord, Prog.lift, Prog.bind_op, Prog.bind_ret, Prog.pure_eq_ret, wp_deviceId]
  iintro ⟨#HR, HkDS1, HkDR1, Hxs4, Hss4, HtX4, HtS4, HkDS4, HkSS4, How, Hpxd4, Hpsd4, Hk⟩
  ihave How := (show ow c (due c 4) ⊢ _ from Entails.of_eq (ow_step c 4)) $$ How
  iapply (wp_data m K c 4 (n := (⟨k0_dev11 c, k0_dev11_lt c⟩ : Dev nD)) (Fin.ext (k0_dev11_eq c)) _) $$ [HkDS4 Hxs4 Hpxd4 How HtX4]
  · isplitr; · iexact HR
    isplitl [HkDS4]; · iexact HkDS4
    isplitl [Hxs4]; · iexact Hxs4
    isplitl [Hpxd4]; · iexact Hpxd4
    isplitl [How]; · iexact How
    iexact HtX4
  iintro ⟨HkDS4, How⟩
  iapply (wp_scale m K c 4 (n := (⟨k0_dev12 c, k0_dev12_lt c⟩ : Dev nD)) (Fin.ext (k0_dev12_eq c)) _) $$ [HkSS4 Hss4 Hpsd4 How HtS4]
  · isplitr; · iexact HR
    isplitl [HkSS4]; · iexact HkSS4
    isplitl [Hss4]; · iexact Hss4
    isplitl [Hpsd4]; · iexact Hpsd4
    isplitl [How]; · iexact How
    iexact HtS4
  iintro ⟨HkSS4, How⟩
  iapply (wp_wait_dma m K c (kDS 1) (kDS_ne 1) S512x1024 .i8 rfl (due c 5) (due_above c 5 0 (by decide))) $$ [HkDS1 How]
  · isplitr; · iexact HR
    isplitl [HkDS1]; · iexact HkDS1
    iexact How
  iintro ⟨How, HkDS1, Hxs1⟩
  ihave Hxs1 := (show pay m c (kDS 1).val ⊢ anyv (F := F) c (xSl xs 1) from Entails.of_eq (pay_DS m c 1)) $$ Hxs1
  iapply (wp_wait_dma m K c (kDR 1) (kDR_ne 1) S512x1024 .i8 rfl (due c 5) (due_above c 5 2 (by decide))) $$ [HkDR1 How]
  · isplitr; · iexact HR
    isplitl [HkDR1]; · iexact HkDR1
    iexact How
  iintro ⟨How, HkDR1, Hxd1⟩
  ihave Hxd1 := (show pay m c (kDR 1).val ⊢ own c (xSl xd 1) (D1 m (nxt c)) from Entails.of_eq (pay_DR m c 1)) $$ Hxd1
  iapply (run_ret c _)
  iapply Hk
  isplitl [Hxs1]; · iexact Hxs1
  isplitl [Hxd1]; · iexact Hxd1
  isplitl [HkDS1]; · iexact HkDS1
  isplitl [HkDR1]; · iexact HkDR1
  isplitl [HkDS4]; · iexact HkDS4
  isplitl [HkSS4]; · iexact HkSS4
  iexact How

theorem wp_part14 (v5 : BitVec 32) (Kt : _ → sProp 𝕄) :
    iprop(records m K ∗ own c (xSl xd 1) (D1 m (nxt c)) ∗ ready c (kSS 1) ∗ ready c (kSR 1) ∗ anyv (F := F) c (xSl xs 5) ∗ ow c (due c 5)
        ∗ (∀ u, (anyv (F := F) c (sSl 1) ∗ own c (xSl xd 1) (D1 m (nxt c)) ∗ own c (dSl 1) (S1' m (nxt c)) ∗ shut c (kSS 1) ∗ shut c (kSR 1) ∗ anyv (F := F) c (xSl xs 5) ∗ ow c (due c 5))
          -∗ Kt ⟨(k0_pay36 (k0_pay27 (Ab m c (prv c)) (Bb m c 0)) (D1 m (nxt c)) (S1' m (nxt c))), (k0_pay37 (k0_pay27 (Ab m c (prv c)) (Bb m c 0)) (D1 m (nxt c)) (S1' m (nxt c))), u⟩))
      ⊢ run c (k0_part14 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 v5 (k0_pay27 (Ab m c (prv c)) (Bb m c 0))) Kt := by
  simp only [k0_part14_eq_skeleton]; unfold k0_part14_skel
  simp only [semSignalWord, semWaitWord, Prog.lift, Prog.bind_op, Prog.bind_ret, Prog.pure_eq_ret, wp_deviceId]
  iintro ⟨#HR, Hxd1, HkSS1, HkSR1, Hxs5, How, Hk⟩
  iapply (wp_wait_dma m K c (kSS 1) (kSS_ne 1) S512 .f32 rfl (due c 5) (due_above c 5 0 (by decide))) $$ [HkSS1 How]
  · isplitr; · iexact HR
    isplitl [HkSS1]; · iexact HkSS1
    iexact How
  iintro ⟨How, HkSS1, Hss1⟩
  ihave Hss1 := (show pay m c (kSS 1).val ⊢ anyv (F := F) c (sSl 1) from Entails.of_eq (pay_SS m c 1)) $$ Hss1
  iapply (wp_wait_dma m K c (kSR 1) (kSR_ne 1) S512 .f32 rfl (due c 5) (due_above c 5 2 (by decide))) $$ [HkSR1 How]
  · isplitr; · iexact HR
    isplitl [HkSR1]; · iexact HkSR1
    iexact How
  iintro ⟨How, HkSR1, Hsd1⟩
  ihave Hsd1 := (show pay m c (kSR 1).val ⊢ own c (dSl 1) (S1' m (nxt c)) from Entails.of_eq (pay_SR m c 1)) $$ Hsd1
  iapply (wp_ld c (M := xd) (size := S1x512x1024.size) (off := ![(1 : Fin 6).val, 0, 0]) ![1, 0, 0] rfl _) $$ Hxd1; iintro Hxd1
  iapply (wp_ld c (M := sd) (size := S1x512.size) (off := ![(1 : Fin 6).val, 0]) ![1, 0] rfl _) $$ Hsd1; iintro Hsd1
  iapply (wp_ldAny c (M := xs) (size := S1x512x1024.size) (off := ![(5 : Fin 6).val, 0, 0]) ![5, 0, 0] rfl) $$ Hxs5; iintro %u Hxs5
  iapply (run_ret c _)
  iapply Hk
  isplitl [Hss1]; · iexact Hss1
  isplitl [Hxd1]; · iexact Hxd1
  isplitl [Hsd1]; · iexact Hsd1
  isplitl [HkSS1]; · iexact HkSS1
  isplitl [HkSR1]; · iexact HkSR1
  isplitl [Hxs5]; · iexact Hxs5
  iexact How

theorem wp_part15 (v5 : BitVec 32) (u0 : Vec F S1x512x1024 .i8) (Kt : _ → sProp 𝕄) :
    iprop(records m K ∗ anyv (F := F) c (xSl xs 5) ∗ anyv (F := F) c (sSl 5) ∗ dutyTok ER (dc (rcp 5 c) (kDR 5)) 0 false ∗ dutyTok ER (dc (rcp 5 c) (kSR 5)) 0 false ∗ idle c (kDS 5) ∗ idle c (kSS 5) ∗ ow c (due c 5) ∗ anyv (F := F) (rcp 5 c) (xSl xd 5) ∗ anyv (F := F) (rcp 5 c) (dSl 5)
        ∗ ((ready c (kDS 5) ∗ ready c (kSS 5) ∗ ow c (due c 6))
          -∗ Kt ⟨⟩))
      ⊢ run c (k0_part15 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 c v5 (k0_pay36 (k0_pay27 (Ab m c (prv c)) (Bb m c 0)) (D1 m (nxt c)) (S1' m (nxt c))) (k0_pay37 (k0_pay27 (Ab m c (prv c)) (Bb m c 0)) (D1 m (nxt c)) (S1' m (nxt c))) u0) Kt := by
  simp only [k0_part15_eq_skeleton]; unfold k0_part15_skel
  simp only [semSignalWord, semWaitWord, Prog.lift, Prog.bind_op, Prog.bind_ret, Prog.pure_eq_ret, wp_deviceId]
  iintro ⟨#HR, Hxs5, Hss5, HtX5, HtS5, HkDS5, HkSS5, How, Hpxd5, Hpsd5, Hk⟩
  iapply (wp_stAny c (M := xs) (size := S1x512x1024.size) (off := ![(5 : Fin 6).val, 0, 0]) ![5, 0, 0] rfl (Dv m c 5) rfl) $$ Hxs5; iintro Hxs5
  iapply (wp_ldAny c (M := ss) (size := S1x512.size) (off := ![(5 : Fin 6).val, 0]) ![5, 0] rfl) $$ Hss5; iintro %u Hss5
  iapply (wp_stAny c (M := ss) (size := S1x512.size) (off := ![(5 : Fin 6).val, 0]) ![5, 0] rfl (Sv m c 5) rfl) $$ Hss5; iintro Hss5
  ihave How := (show ow c (due c 5) ⊢ _ from Entails.of_eq (ow_step c 5)) $$ How
  iapply (wp_data m K c 5 (n := (⟨k0_dev13 c, k0_dev13_lt c⟩ : Dev nD)) (Fin.ext (k0_dev13_eq c)) _) $$ [HkDS5 Hxs5 Hpxd5 How HtX5]
  · isplitr; · iexact HR
    isplitl [HkDS5]; · iexact HkDS5
    isplitl [Hxs5]; · iexact Hxs5
    isplitl [Hpxd5]; · iexact Hpxd5
    isplitl [How]; · iexact How
    iexact HtX5
  iintro ⟨HkDS5, How⟩
  iapply (wp_scale m K c 5 (n := (⟨k0_dev14 c, k0_dev14_lt c⟩ : Dev nD)) (Fin.ext (k0_dev14_eq c)) _) $$ [HkSS5 Hss5 Hpsd5 How HtS5]
  · isplitr; · iexact HR
    isplitl [HkSS5]; · iexact HkSS5
    isplitl [Hss5]; · iexact Hss5
    isplitl [Hpsd5]; · iexact Hpsd5
    isplitl [How]; · iexact How
    iexact HtS5
  iintro ⟨HkSS5, How⟩
  iapply (run_ret c _)
  iapply Hk
  isplitl [HkDS5]; · iexact HkDS5
  isplitl [HkSS5]; · iexact HkSS5
  iexact How

theorem wp_part16 (v7 : BitVec 32) (Kt : _ → sProp 𝕄) :
    iprop(records m K ∗ ready c (kDS 2) ∗ ready c (kSS 2) ∗ ready c (kDR 2) ∗ ready c (kSR 2) ∗ ow c (due c 6)
        ∗ ((anyv (F := F) c (xSl xs 2) ∗ anyv (F := F) c (sSl 2) ∗ own c (xSl xd 2) (D2 m (prv c)) ∗ own c (dSl 2) (S2 m (prv c)) ∗ shut c (kDS 2) ∗ shut c (kSS 2) ∗ shut c (kDR 2) ∗ shut c (kSR 2) ∗ ow c (due c 6))
          -∗ Kt ⟨⟩))
      ⊢ run c (k0_part16 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 v7) Kt := by
  simp only [k0_part16_eq_skeleton]; unfold k0_part16_skel
  simp only [semSignalWord, semWaitWord, Prog.lift, Prog.bind_op, Prog.bind_ret, Prog.pure_eq_ret, wp_deviceId]
  iintro ⟨#HR, HkDS2, HkSS2, HkDR2, HkSR2, How, Hk⟩
  iapply (wp_wait_dma m K c (kDS 2) (kDS_ne 2) S512x1024 .i8 rfl (due c 6) (due_above c 6 0 (by decide))) $$ [HkDS2 How]
  · isplitr; · iexact HR
    isplitl [HkDS2]; · iexact HkDS2
    iexact How
  iintro ⟨How, HkDS2, Hxs2⟩
  ihave Hxs2 := (show pay m c (kDS 2).val ⊢ anyv (F := F) c (xSl xs 2) from Entails.of_eq (pay_DS m c 2)) $$ Hxs2
  iapply (wp_wait_dma m K c (kDR 2) (kDR_ne 2) S512x1024 .i8 rfl (due c 6) (due_above c 6 2 (by decide))) $$ [HkDR2 How]
  · isplitr; · iexact HR
    isplitl [HkDR2]; · iexact HkDR2
    iexact How
  iintro ⟨How, HkDR2, Hxd2⟩
  ihave Hxd2 := (show pay m c (kDR 2).val ⊢ own c (xSl xd 2) (D2 m (prv c)) from Entails.of_eq (pay_DR m c 2)) $$ Hxd2
  iapply (wp_wait_dma m K c (kSS 2) (kSS_ne 2) S512 .f32 rfl (due c 6) (due_above c 6 0 (by decide))) $$ [HkSS2 How]
  · isplitr; · iexact HR
    isplitl [HkSS2]; · iexact HkSS2
    iexact How
  iintro ⟨How, HkSS2, Hss2⟩
  ihave Hss2 := (show pay m c (kSS 2).val ⊢ anyv (F := F) c (sSl 2) from Entails.of_eq (pay_SS m c 2)) $$ Hss2
  iapply (wp_wait_dma m K c (kSR 2) (kSR_ne 2) S512 .f32 rfl (due c 6) (due_above c 6 2 (by decide))) $$ [HkSR2 How]
  · isplitr; · iexact HR
    isplitl [HkSR2]; · iexact HkSR2
    iexact How
  iintro ⟨How, HkSR2, Hsd2⟩
  ihave Hsd2 := (show pay m c (kSR 2).val ⊢ own c (dSl 2) (S2 m (prv c)) from Entails.of_eq (pay_SR m c 2)) $$ Hsd2
  iapply (run_ret c _)
  iapply Hk
  isplitl [Hxs2]; · iexact Hxs2
  isplitl [Hss2]; · iexact Hss2
  isplitl [Hxd2]; · iexact Hxd2
  isplitl [Hsd2]; · iexact Hsd2
  isplitl [HkDS2]; · iexact HkDS2
  isplitl [HkSS2]; · iexact HkSS2
  isplitl [HkDR2]; · iexact HkDR2
  isplitl [HkSR2]; · iexact HkSR2
  iexact How

theorem wp_part17 (v5 : BitVec 32) (Kt : _ → sProp 𝕄) :
    iprop(records m K ∗ anyv (F := F) c (oSl 0) ∗ own c (xSl xd 2) (D2 m (prv c)) ∗ own c (dSl 2) (S2 m (prv c)) ∗ ready c (kDS 3) ∗ ready c (kDR 3) ∗ ow c (due c 6)
        ∗ ((own c (oSl 0) (lo0 m c) ∗ own c (xSl xd 2) (D2 m (prv c)) ∗ own c (dSl 2) (S2 m (prv c)) ∗ anyv (F := F) c (xSl xs 3) ∗ own c (xSl xd 3) (D3 m (nxt c)) ∗ shut c (kDS 3) ∗ shut c (kDR 3) ∗ ow c (due c 6))
          -∗ Kt ⟨⟩))
      ⊢ run c (k0_part17 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 v5 (k0_pay29 (Ab m c c) (Bb m c 0))) Kt := by
  simp only [k0_part17_eq_skeleton]; unfold k0_part17_skel
  simp only [semSignalWord, semWaitWord, Prog.lift, Prog.bind_op, Prog.bind_ret, Prog.pure_eq_ret, wp_deviceId]
  iintro ⟨#HR, Ho0, Hxd2, Hsd2, HkDS3, HkDR3, How, Hk⟩
  iapply (wp_ld c (M := xd) (size := S1x512x1024.size) (off := ![(2 : Fin 6).val, 0, 0]) ![2, 0, 0] rfl _) $$ Hxd2; iintro Hxd2
  iapply (wp_ld c (M := sd) (size := S1x512.size) (off := ![(2 : Fin 6).val, 0]) ![2, 0] rfl _) $$ Hsd2; iintro Hsd2
  iapply (wp_ldAny c (M := oM) (size := S512x1024.size) ![0, 0] rfl) $$ Ho0; iintro %u Ho0
  iapply (wp_stAny c (M := oM) (size := S512x1024.size) ![0, 0] rfl (lo0 m c) rfl) $$ Ho0; iintro Ho0
  iapply (wp_wait_dma m K c (kDS 3) (kDS_ne 3) S512x1024 .i8 rfl (due c 6) (due_above c 6 0 (by decide))) $$ [HkDS3 How]
  · isplitr; · iexact HR
    isplitl [HkDS3]; · iexact HkDS3
    iexact How
  iintro ⟨How, HkDS3, Hxs3⟩
  ihave Hxs3 := (show pay m c (kDS 3).val ⊢ anyv (F := F) c (xSl xs 3) from Entails.of_eq (pay_DS m c 3)) $$ Hxs3
  iapply (wp_wait_dma m K c (kDR 3) (kDR_ne 3) S512x1024 .i8 rfl (due c 6) (due_above c 6 2 (by decide))) $$ [HkDR3 How]
  · isplitr; · iexact HR
    isplitl [HkDR3]; · iexact HkDR3
    iexact How
  iintro ⟨How, HkDR3, Hxd3⟩
  ihave Hxd3 := (show pay m c (kDR 3).val ⊢ own c (xSl xd 3) (D3 m (nxt c)) from Entails.of_eq (pay_DR m c 3)) $$ Hxd3
  iapply (run_ret c _)
  iapply Hk
  isplitl [Ho0]; · iexact Ho0
  isplitl [Hxd2]; · iexact Hxd2
  isplitl [Hsd2]; · iexact Hsd2
  isplitl [Hxs3]; · iexact Hxs3
  isplitl [Hxd3]; · iexact Hxd3
  isplitl [HkDS3]; · iexact HkDS3
  isplitl [HkDR3]; · iexact HkDR3
  iexact How

theorem wp_part18 (v5 : BitVec 32) (Kt : _ → sProp 𝕄) :
    iprop(records m K ∗ anyv (F := F) c (oSl 1) ∗ own c (xSl xd 3) (D3 m (nxt c)) ∗ ready c (kSS 3) ∗ ready c (kSR 3) ∗ ready c (kDS 5) ∗ ow c (due c 6)
        ∗ ((own c (oSl 1) (hi0 m c) ∗ anyv (F := F) c (sSl 3) ∗ own c (xSl xd 3) (D3 m (nxt c)) ∗ own c (dSl 3) (S3 m (nxt c)) ∗ shut c (kSS 3) ∗ shut c (kSR 3) ∗ anyv (F := F) c (xSl xs 5) ∗ shut c (kDS 5) ∗ ow c (due c 6))
          -∗ Kt ⟨⟩))
      ⊢ run c (k0_part18 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 v5 (k0_pay30 (Ab m c c) (Bb m c 1))) Kt := by
  simp only [k0_part18_eq_skeleton]; unfold k0_part18_skel
  simp only [semSignalWord, semWaitWord, Prog.lift, Prog.bind_op, Prog.bind_ret, Prog.pure_eq_ret, wp_deviceId]
  iintro ⟨#HR, Ho1, Hxd3, HkSS3, HkSR3, HkDS5, How, Hk⟩
  iapply (wp_wait_dma m K c (kSS 3) (kSS_ne 3) S512 .f32 rfl (due c 6) (due_above c 6 0 (by decide))) $$ [HkSS3 How]
  · isplitr; · iexact HR
    isplitl [HkSS3]; · iexact HkSS3
    iexact How
  iintro ⟨How, HkSS3, Hss3⟩
  ihave Hss3 := (show pay m c (kSS 3).val ⊢ anyv (F := F) c (sSl 3) from Entails.of_eq (pay_SS m c 3)) $$ Hss3
  iapply (wp_wait_dma m K c (kSR 3) (kSR_ne 3) S512 .f32 rfl (due c 6) (due_above c 6 2 (by decide))) $$ [HkSR3 How]
  · isplitr; · iexact HR
    isplitl [HkSR3]; · iexact HkSR3
    iexact How
  iintro ⟨How, HkSR3, Hsd3⟩
  ihave Hsd3 := (show pay m c (kSR 3).val ⊢ own c (dSl 3) (S3 m (nxt c)) from Entails.of_eq (pay_SR m c 3)) $$ Hsd3
  iapply (wp_ld c (M := xd) (size := S1x512x1024.size) (off := ![(3 : Fin 6).val, 0, 0]) ![3, 0, 0] rfl _) $$ Hxd3; iintro Hxd3
  iapply (wp_ld c (M := sd) (size := S1x512.size) (off := ![(3 : Fin 6).val, 0]) ![3, 0] rfl _) $$ Hsd3; iintro Hsd3
  iapply (wp_ldAny c (M := oM) (size := S512x1024.size) ![0, 1024] rfl) $$ Ho1; iintro %u Ho1
  iapply (wp_stAny c (M := oM) (size := S512x1024.size) ![0, 1024] rfl (hi0 m c) rfl) $$ Ho1; iintro Ho1
  iapply (wp_wait_dma m K c (kDS 5) (kDS_ne 5) S512x1024 .i8 rfl (due c 6) (due_above c 6 0 (by decide))) $$ [HkDS5 How]
  · isplitr; · iexact HR
    isplitl [HkDS5]; · iexact HkDS5
    iexact How
  iintro ⟨How, HkDS5, Hxs5⟩
  ihave Hxs5 := (show pay m c (kDS 5).val ⊢ anyv (F := F) c (xSl xs 5) from Entails.of_eq (pay_DS m c 5)) $$ Hxs5
  iapply (run_ret c _)
  iapply Hk
  isplitl [Ho1]; · iexact Ho1
  isplitl [Hss3]; · iexact Hss3
  isplitl [Hxd3]; · iexact Hxd3
  isplitl [Hsd3]; · iexact Hsd3
  isplitl [HkSS3]; · iexact HkSS3
  isplitl [HkSR3]; · iexact HkSR3
  isplitl [Hxs5]; · iexact Hxs5
  isplitl [HkDS5]; · iexact HkDS5
  iexact How

theorem wp_part19 (v5 : BitVec 32) (Kt : _ → sProp 𝕄) :
    iprop(records m K ∗ own c (oSl 0) (lo0 m c) ∗ ready c (kSS 5) ∗ ready c (kDR 5) ∗ ready c (kSR 5) ∗ ow c (due c 6)
        ∗ ((own c (oSl 0) (lo0 m c) ∗ anyv (F := F) c (sSl 5) ∗ own c (xSl xd 5) (D5 m (nxt c)) ∗ own c (dSl 5) (S5 m (nxt c)) ∗ shut c (kSS 5) ∗ shut c (kDR 5) ∗ shut c (kSR 5) ∗ ow c (due c 6))
          -∗ Kt ⟨k0_pay42 (lo0 m c), k0_pay43 (D5 m (nxt c)), k0_pay44 (S5 m (nxt c))⟩))
      ⊢ run c (k0_part19 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 v5) Kt := by
  simp only [k0_part19_eq_skeleton]; unfold k0_part19_skel
  simp only [semSignalWord, semWaitWord, Prog.lift, Prog.bind_op, Prog.bind_ret, Prog.pure_eq_ret, wp_deviceId]
  iintro ⟨#HR, Ho0, HkSS5, HkDR5, HkSR5, How, Hk⟩
  iapply (wp_wait_dma m K c (kDR 5) (kDR_ne 5) S512x1024 .i8 rfl (due c 6) (due_above c 6 3 (by decide))) $$ [HkDR5 How]
  · isplitr; · iexact HR
    isplitl [HkDR5]; · iexact HkDR5
    iexact How
  iintro ⟨How, HkDR5, Hxd5⟩
  ihave Hxd5 := (show pay m c (kDR 5).val ⊢ own c (xSl xd 5) (D5 m (nxt c)) from Entails.of_eq (pay_DR m c 5)) $$ Hxd5
  iapply (wp_wait_dma m K c (kSS 5) (kSS_ne 5) S512 .f32 rfl (due c 6) (due_above c 6 0 (by decide))) $$ [HkSS5 How]
  · isplitr; · iexact HR
    isplitl [HkSS5]; · iexact HkSS5
    iexact How
  iintro ⟨How, HkSS5, Hss5⟩
  ihave Hss5 := (show pay m c (kSS 5).val ⊢ anyv (F := F) c (sSl 5) from Entails.of_eq (pay_SS m c 5)) $$ Hss5
  iapply (wp_wait_dma m K c (kSR 5) (kSR_ne 5) S512 .f32 rfl (due c 6) (due_above c 6 3 (by decide))) $$ [HkSR5 How]
  · isplitr; · iexact HR
    isplitl [HkSR5]; · iexact HkSR5
    iexact How
  iintro ⟨How, HkSR5, Hsd5⟩
  ihave Hsd5 := (show pay m c (kSR 5).val ⊢ own c (dSl 5) (S5 m (nxt c)) from Entails.of_eq (pay_SR m c 5)) $$ Hsd5
  iapply (wp_ld c (M := oM) (size := S512x1024.size) ![0, 0] rfl _) $$ Ho0; iintro Ho0
  iapply (wp_ld c (M := xd) (size := S1x512x1024.size) (off := ![(5 : Fin 6).val, 0, 0]) ![5, 0, 0] rfl _) $$ Hxd5; iintro Hxd5
  iapply (wp_ld c (M := sd) (size := S1x512.size) (off := ![(5 : Fin 6).val, 0]) ![5, 0] rfl _) $$ Hsd5; iintro Hsd5
  iapply (run_ret c _)
  iapply Hk
  isplitl [Ho0]; · iexact Ho0
  isplitl [Hss5]; · iexact Hss5
  isplitl [Hxd5]; · iexact Hxd5
  isplitl [Hsd5]; · iexact Hsd5
  isplitl [HkSS5]; · iexact HkSS5
  isplitl [HkDR5]; · iexact HkDR5
  isplitl [HkSR5]; · iexact HkSR5
  iexact How

theorem wp_part20 (v7 : BitVec 32) (Kt : _ → sProp 𝕄) :
    iprop(records m K ∗ own c (oSl 0) (lo0 m c) ∗ ready c (kDS 4) ∗ ready c (kSS 4) ∗ ready c (kDR 4) ∗ ow c (due c 6)
        ∗ ((own c (oSl 0) (lo m c) ∗ anyv (F := F) c (xSl xs 4) ∗ anyv (F := F) c (sSl 4) ∗ own c (xSl xd 4) (D4 m (prv c)) ∗ shut c (kDS 4) ∗ shut c (kSS 4) ∗ shut c (kDR 4) ∗ ow c (due c 6))
          -∗ Kt ⟨⟩))
      ⊢ run c (k0_part20 (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12 v7 (k0_pay42 (lo0 m c)) (k0_pay43 (D5 m (nxt c))) (k0_pay44 (S5 m (nxt c)))) Kt := by
  simp only [k0_part20_eq_skeleton]; unfold k0_part20_skel
  simp only [semSignalWord, semWaitWord, Prog.lift, Prog.bind_op, Prog.bind_ret, Prog.pure_eq_ret, wp_deviceId]
  iintro ⟨#HR, Ho0, HkDS4, HkSS4, HkDR4, How, Hk⟩
  iapply (wp_ld c (M := oM) (size := S512x1024.size) ![0, 0] rfl _) $$ Ho0; iintro Ho0
  iapply (wp_st c (M := oM) (size := S512x1024.size) ![0, 0] rfl (lo m c) rfl) $$ Ho0; iintro Ho0
  iapply (wp_wait_dma m K c (kDS 4) (kDS_ne 4) S512x1024 .i8 rfl (due c 6) (due_above c 6 0 (by decide))) $$ [HkDS4 How]
  · isplitr; · iexact HR
    isplitl [HkDS4]; · iexact HkDS4
    iexact How
  iintro ⟨How, HkDS4, Hxs4⟩
  ihave Hxs4 := (show pay m c (kDS 4).val ⊢ anyv (F := F) c (xSl xs 4) from Entails.of_eq (pay_DS m c 4)) $$ Hxs4
  iapply (wp_wait_dma m K c (kDR 4) (kDR_ne 4) S512x1024 .i8 rfl (due c 6) (due_above c 6 3 (by decide))) $$ [HkDR4 How]
  · isplitr; · iexact HR
    isplitl [HkDR4]; · iexact HkDR4
    iexact How
  iintro ⟨How, HkDR4, Hxd4⟩
  ihave Hxd4 := (show pay m c (kDR 4).val ⊢ own c (xSl xd 4) (D4 m (prv c)) from Entails.of_eq (pay_DR m c 4)) $$ Hxd4
  iapply (wp_wait_dma m K c (kSS 4) (kSS_ne 4) S512 .f32 rfl (due c 6) (due_above c 6 0 (by decide))) $$ [HkSS4 How]
  · isplitr; · iexact HR
    isplitl [HkSS4]; · iexact HkSS4
    iexact How
  iintro ⟨How, HkSS4, Hss4⟩
  ihave Hss4 := (show pay m c (kSS 4).val ⊢ anyv (F := F) c (sSl 4) from Entails.of_eq (pay_SS m c 4)) $$ Hss4
  iapply (run_ret c _)
  iapply Hk
  isplitl [Ho0]; · iexact Ho0
  isplitl [Hxs4]; · iexact Hxs4
  isplitl [Hss4]; · iexact Hss4
  isplitl [Hxd4]; · iexact Hxd4
  isplitl [HkDS4]; · iexact HkDS4
  isplitl [HkSS4]; · iexact HkSS4
  isplitl [HkDR4]; · iexact HkDR4
  iexact How

end Cert.Mk

end
-- ==== Proof.Body.lean ====
/-
  01_k — the whole body, from its parts.
-/
module

public import proofs.«01_k».proof.Proof.Parts1
public import proofs.«01_k».proof.Proof.Parts2

@[expose] public section

noncomputable section

namespace Cert.Mk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 31 → ℕ) (c : Dev nD)

/-- What the body starts with. -/
def pre : sProp 𝕄 := iprop(
    anyv (F := F) c (aSl aM (opp c)) ∗ anyv (F := F) c (aSl aB (opp c)) ∗ hbm c main_arg0 (aSl aH (opp c)) (m ((c : Thread nD τ).loc main_arg0)) ∗ anyv (F := F) c (aSl aM (nxt c)) ∗
    anyv (F := F) c (aSl aB (nxt c)) ∗ hbm c main_arg0 (aSl aH (nxt c)) (m ((c : Thread nD τ).loc main_arg0)) ∗ anyv (F := F) c (aSl aM (prv c)) ∗ anyv (F := F) c (aSl aB (prv c)) ∗
    hbm c main_arg0 (aSl aH (prv c)) (m ((c : Thread nD τ).loc main_arg0)) ∗ anyv (F := F) c (aSl aM c) ∗ anyv (F := F) c (aSl aB c) ∗ hbm c main_arg0 (aSl aH c) (m ((c : Thread nD τ).loc main_arg0)) ∗
    anyv (F := F) c (bSl bM 0) ∗ anyv (F := F) c (bSl bB 0) ∗ hbm c main_arg1 (bSl bH 0) (m ((c : Thread nD τ).loc main_arg1)) ∗ anyv (F := F) c (oSl 0) ∗
    anyv (F := F) c (bSl bM 1) ∗ anyv (F := F) c (bSl bB 1) ∗ hbm c main_arg1 (bSl bH 1) (m ((c : Thread nD τ).loc main_arg1)) ∗ anyv (F := F) c (oSl 1) ∗
    anyv (F := F) c (xSl xs 0) ∗ anyv (F := F) c (sSl 0) ∗ anyv (F := F) c (xSl xd 0) ∗ anyv (F := F) c (dSl 0) ∗
    dutyTok ER (dc (rcp 0 c) (kDR 0)) 0 false ∗ dutyTok ER (dc (rcp 0 c) (kSR 0)) 0 false ∗ idle c (kDS 0) ∗ idle c (kSS 0) ∗
    ready c (kDR 0) ∗ ready c (kSR 0) ∗ anyv (F := F) c (xSl xs 1) ∗ anyv (F := F) c (sSl 1) ∗
    anyv (F := F) c (xSl xd 1) ∗ anyv (F := F) c (dSl 1) ∗ dutyTok ER (dc (rcp 1 c) (kDR 1)) 0 false ∗ dutyTok ER (dc (rcp 1 c) (kSR 1)) 0 false ∗
    idle c (kDS 1) ∗ idle c (kSS 1) ∗ ready c (kDR 1) ∗ ready c (kSR 1) ∗
    anyv (F := F) c (xSl xs 2) ∗ anyv (F := F) c (sSl 2) ∗ anyv (F := F) c (xSl xd 2) ∗ anyv (F := F) c (dSl 2) ∗
    dutyTok ER (dc (rcp 2 c) (kDR 2)) 0 false ∗ dutyTok ER (dc (rcp 2 c) (kSR 2)) 0 false ∗ idle c (kDS 2) ∗ idle c (kSS 2) ∗
    ready c (kDR 2) ∗ ready c (kSR 2) ∗ anyv (F := F) c (xSl xs 3) ∗ anyv (F := F) c (sSl 3) ∗
    anyv (F := F) c (xSl xd 3) ∗ anyv (F := F) c (dSl 3) ∗ dutyTok ER (dc (rcp 3 c) (kDR 3)) 0 false ∗ dutyTok ER (dc (rcp 3 c) (kSR 3)) 0 false ∗
    idle c (kDS 3) ∗ idle c (kSS 3) ∗ ready c (kDR 3) ∗ ready c (kSR 3) ∗
    anyv (F := F) c (xSl xs 4) ∗ anyv (F := F) c (sSl 4) ∗ anyv (F := F) c (xSl xd 4) ∗ anyv (F := F) c (dSl 4) ∗
    dutyTok ER (dc (rcp 4 c) (kDR 4)) 0 false ∗ dutyTok ER (dc (rcp 4 c) (kSR 4)) 0 false ∗ idle c (kDS 4) ∗ idle c (kSS 4) ∗
    ready c (kDR 4) ∗ ready c (kSR 4) ∗ anyv (F := F) c (xSl xs 5) ∗ anyv (F := F) c (sSl 5) ∗
    anyv (F := F) c (xSl xd 5) ∗ anyv (F := F) c (dSl 5) ∗ dutyTok ER (dc (rcp 5 c) (kDR 5)) 0 false ∗ dutyTok ER (dc (rcp 5 c) (kSR 5)) 0 false ∗
    idle c (kDS 5) ∗ idle c (kSS 5) ∗ ready c (kDR 5) ∗ ready c (kSR 5) ∗
    idle c 1 ∗ idle c 2 ∗ idle c 3 ∗ idle c 4 ∗
    idle c 5 ∗ idle c 6 ∗ ow c (dueAll c) ∗ (atPos ER (bar c) 0 ∅ 0 ∗ cred (tallyAt (bar c) () 2)) ∗
    dutyTok ER (bar (prv c)) 0 true ∗ dutyTok ER (bar (nxt c)) 0 false)

/-- What it ends with. -/
def post : sProp 𝕄 := iprop(
    own c (aSl aM (opp c)) (Am m c (opp c)) ∗ own c (aSl aB (opp c)) (Ab m c (opp c)) ∗ hbm c main_arg0 (aSl aH (opp c)) (m ((c : Thread nD τ).loc main_arg0)) ∗ own c (aSl aM (nxt c)) (Am m c (nxt c)) ∗
    own c (aSl aB (nxt c)) (Ab m c (nxt c)) ∗ hbm c main_arg0 (aSl aH (nxt c)) (m ((c : Thread nD τ).loc main_arg0)) ∗ own c (aSl aM (prv c)) (Am m c (prv c)) ∗ own c (aSl aB (prv c)) (Ab m c (prv c)) ∗
    hbm c main_arg0 (aSl aH (prv c)) (m ((c : Thread nD τ).loc main_arg0)) ∗ own c (aSl aM c) (Am m c c) ∗ own c (aSl aB c) (Ab m c c) ∗ hbm c main_arg0 (aSl aH c) (m ((c : Thread nD τ).loc main_arg0)) ∗
    own c (bSl bM 0) (Bm m c 0) ∗ own c (bSl bB 0) (Bb m c 0) ∗ hbm c main_arg1 (bSl bH 0) (m ((c : Thread nD τ).loc main_arg1)) ∗ own c (oSl 0) (lo m c) ∗
    own c (bSl bM 1) (Bm m c 1) ∗ own c (bSl bB 1) (Bb m c 1) ∗ hbm c main_arg1 (bSl bH 1) (m ((c : Thread nD τ).loc main_arg1)) ∗ own c (oSl 1) (hi m c) ∗
    anyv (F := F) c (xSl xs 0) ∗ anyv (F := F) c (sSl 0) ∗ own c (xSl xd 0) (D0 m (prv c)) ∗ own c (dSl 0) (S0 m (prv c)) ∗
    shut c (kDS 0) ∗ shut c (kSS 0) ∗ shut c (kDR 0) ∗ shut c (kSR 0) ∗
    anyv (F := F) c (xSl xs 1) ∗ anyv (F := F) c (sSl 1) ∗ own c (xSl xd 1) (D1 m (nxt c)) ∗ own c (dSl 1) (S1' m (nxt c)) ∗
    shut c (kDS 1) ∗ shut c (kSS 1) ∗ shut c (kDR 1) ∗ shut c (kSR 1) ∗
    anyv (F := F) c (xSl xs 2) ∗ anyv (F := F) c (sSl 2) ∗ own c (xSl xd 2) (D2 m (prv c)) ∗ own c (dSl 2) (S2 m (prv c)) ∗
    shut c (kDS 2) ∗ shut c (kSS 2) ∗ shut c (kDR 2) ∗ shut c (kSR 2) ∗
    anyv (F := F) c (xSl xs 3) ∗ anyv (F := F) c (sSl 3) ∗ own c (xSl xd 3) (D3 m (nxt c)) ∗ own c (dSl 3) (S3 m (nxt c)) ∗
    shut c (kDS 3) ∗ shut c (kSS 3) ∗ shut c (kDR 3) ∗ shut c (kSR 3) ∗
    anyv (F := F) c (xSl xs 4) ∗ anyv (F := F) c (sSl 4) ∗ own c (xSl xd 4) (D4 m (prv c)) ∗ own c (dSl 4) (S4 m (prv c)) ∗
    shut c (kDS 4) ∗ shut c (kSS 4) ∗ shut c (kDR 4) ∗ shut c (kSR 4) ∗
    anyv (F := F) c (xSl xs 5) ∗ anyv (F := F) c (sSl 5) ∗ own c (xSl xd 5) (D5 m (nxt c)) ∗ own c (dSl 5) (S5 m (nxt c)) ∗
    shut c (kDS 5) ∗ shut c (kSS 5) ∗ shut c (kDR 5) ∗ shut c (kSR 5) ∗
    shut c 1 ∗ shut c 2 ∗ shut c 3 ∗ shut c 4 ∗
    shut c 5 ∗ shut c 6 ∗ ow c (due c 6) ∗ semVal (bar c) 0)

set_option maxHeartbeats 4000000 in
/-- The body, part after part. -/
theorem sound (Kt : PUnit → sProp 𝕄) :
    iprop(records m K ∗ pre m c ∗ (post m c -∗ Kt ⟨⟩)) ⊢ run c (cc0_body (F := F) aH (Memref.isWhole_whole _) bH (Memref.isWhole_whole _) oM (Memref.isWhole_whole _) aM (Memref.isWhole_whole _) bM (Memref.isWhole_whole _) aB (Memref.isWhole_whole _) bB (Memref.isWhole_whole _) xs (Memref.isWhole_whole _) xd (Memref.isWhole_whole _) ss (Memref.isWhole_whole _) sd (Memref.isWhole_whole _) cc0_scratch8 cc0_scratch9 cc0_scratch10 cc0_scratch11 cc0_scratch12) Kt := by
  simp only [cc0_body_eq_skeleton]; unfold cc0_body_skel pre
  simp only [Prog.lift, Prog.bind_op, Prog.bind_ret, Prog.pure_eq_ret]
  iintro ⟨#HR, ⟨Hao, Habo, HhAo, Han, Habn, HhAn, Hap, Habp, HhAp, Hac, Habc, HhAc, Hb0, Hbb0, HhB0, Ho0, Hb1, Hbb1, HhB1, Ho1, Hxs0, Hss0, Hxd0, Hsd0, HtX0, HtS0, HkDS0, HkSS0, HkDR0, HkSR0, Hxs1, Hss1, Hxd1, Hsd1, HtX1, HtS1, HkDS1, HkSS1, HkDR1, HkSR1, Hxs2, Hss2, Hxd2, Hsd2, HtX2, HtS2, HkDS2, HkSS2, HkDR2, HkSR2, Hxs3, Hss3, Hxd3, Hsd3, HtX3, HtS3, HkDS3, HkSS3, HkDR3, HkSR3, Hxs4, Hss4, Hxd4, Hsd4, HtX4, HtS4, HkDS4, HkSS4, HkDR4, HkSR4, Hxs5, Hss5, Hxd5, Hsd5, HtX5, HtS5, HkDS5, HkSS5, HkDR5, HkSR5, HkC1, HkC2, HkC3, HkC4, HkC5, HkC6, How, Hbar, Htb0, Htb1⟩, Hk⟩
  iapply (run_bind c _ _)
  iapply (wp_part1 m K c _)
  isplitr; · iexact HR
  isplitl [Hao]; · iexact Hao
  isplitl [HhAo]; · iexact HhAo
  isplitl [Hb1]; · iexact Hb1
  isplitl [HhB1]; · iexact HhB1
  isplitl [HkC1]; · iexact HkC1
  isplitl [HkC2]; · iexact HkC2
  iintro ⟨HkC1, HkC2⟩
  try dsimp only
  iapply (run_bind c _ _)
  iapply (wp_part2 m K c _ _ _)
  isplitr; · iexact HR
  isplitl [Han]; · iexact Han
  isplitl [HhAn]; · iexact HhAn
  isplitl [Hap]; · iexact Hap
  isplitl [HhAp]; · iexact HhAp
  isplitl [Hac]; · iexact Hac
  isplitl [HhAc]; · iexact HhAc
  isplitl [Hb0]; · iexact Hb0
  isplitl [HhB0]; · iexact HhB0
  isplitl [Hbb1]; · iexact Hbb1
  isplitl [Hxd0]; · iexact Hxd0
  isplitl [Hsd0]; · iexact Hsd0
  isplitl [Hxd1]; · iexact Hxd1
  isplitl [Hsd1]; · iexact Hsd1
  isplitl [Hxd2]; · iexact Hxd2
  isplitl [Hsd2]; · iexact Hsd2
  isplitl [Hxd3]; · iexact Hxd3
  isplitl [Hsd3]; · iexact Hsd3
  isplitl [Hxd4]; · iexact Hxd4
  isplitl [Hsd4]; · iexact Hsd4
  isplitl [Hxd5]; · iexact Hxd5
  isplitl [Hsd5]; · iexact Hsd5
  isplitl [HkC1]; · iexact HkC1
  isplitl [HkC3]; · iexact HkC3
  isplitl [HkC4]; · iexact HkC4
  isplitl [HkC5]; · iexact HkC5
  isplitl [HkC6]; · iexact HkC6
  isplitl [How]; · iexact How
  isplitl [Htb0]; · iexact Htb0
  isplitl [Htb1]; · iexact Htb1
  iintro ⟨Hb1, Hbb1, HhB1, HkC1, HkC3, HkC4, HkC5, HkC6, How⟩
  try dsimp only
  iapply (run_bind c _ _)
  iapply (wp_part3 m K c _ _)
  isplitr; · iexact HR
  isplitl [Habo]; · iexact Habo
  isplitl [Hbb1]; · iexact Hbb1
  isplitl [Hxs0]; · iexact Hxs0
  isplitl [HkC2]; · iexact HkC2
  isplitl [How]; · iexact How
  isplitl [Hbar]; · iexact Hbar
  iintro ⟨Hao, Habo, HhAo, Hbb1, Hxs0, HkC2, How, Hbar, Hpxd0, Hpsd0, Hpxd1, Hpsd1, Hpxd2, Hpsd2, Hpxd3, Hpsd3, Hpxd4, Hpsd4, Hpxd5, Hpsd5⟩
  try dsimp only
  iapply (run_bind c _ _)
  iapply (wp_part4 m K c _ _)
  isplitr; · iexact HR
  isplitl [Hxs0]; · iexact Hxs0
  isplitl [Hss0]; · iexact Hss0
  isplitl [HtX0]; · iexact HtX0
  isplitl [HtS0]; · iexact HtS0
  isplitl [HkDS0]; · iexact HkDS0
  isplitl [HkSS0]; · iexact HkSS0
  isplitl [HkC3]; · iexact HkC3
  isplitl [How]; · iexact How
  isplitl [Hpxd0]; · iexact Hpxd0
  isplitl [Hpsd0]; · iexact Hpsd0
  iintro ⟨Hb0, HhB0, HkDS0, HkSS0, HkC3, How⟩
  try dsimp only
  iapply (run_bind c _ _)
  iapply (wp_part5 m K c _ _ _)
  isplitr; · iexact HR
  isplitl [Habo]; · iexact Habo
  isplitl [Hbb0]; · iexact Hbb0
  isplitl [Hxs1]; · iexact Hxs1
  isplitl [Hss1]; · iexact Hss1
  iintro ⟨Habo, Hbb0, Hxs1, Hss1⟩
  try dsimp only
  iapply (run_bind c _ _)
  iapply (wp_part6 m K c _ _ _)
  isplitr; · iexact HR
  isplitl [Habn]; · iexact Habn
  isplitl [Hbb0]; · iexact Hbb0
  isplitl [Hxs1]; · iexact Hxs1
  isplitl [Hss1]; · iexact Hss1
  isplitl [HtX1]; · iexact HtX1
  isplitl [HtS1]; · iexact HtS1
  isplitl [HkDS1]; · iexact HkDS1
  isplitl [HkSS1]; · iexact HkSS1
  isplitl [HkC4]; · iexact HkC4
  isplitl [How]; · iexact How
  isplitl [Hpxd1]; · iexact Hpxd1
  isplitl [Hpsd1]; · iexact Hpsd1
  iintro ⟨Han, Habn, HhAn, Hbb0, HkDS1, HkSS1, HkC4, How⟩
  try dsimp only
  iapply (run_bind c _ _)
  iapply (wp_part7 m K c _ _)
  isplitr; · iexact HR
  isplitl [Hxs2]; · iexact Hxs2
  isplitl [Hss2]; · iexact Hss2
  isplitl [HtX2]; · iexact HtX2
  isplitl [HkDS2]; · iexact HkDS2
  isplitl [How]; · iexact How
  isplitl [Hpxd2]; · iexact Hpxd2
  iintro ⟨Hss2, HkDS2, How⟩
  try dsimp only
  iapply (run_bind c _ _)
  iapply (wp_part8 m K c _ _)
  isplitr; · iexact HR
  isplitl [Habp]; · iexact Habp
  isplitl [Hbb1]; · iexact Hbb1
  isplitl [Hss2]; · iexact Hss2
  isplitl [HtS2]; · iexact HtS2
  isplitl [HkSS2]; · iexact HkSS2
  isplitl [Hxs3]; · iexact Hxs3
  isplitl [HkC5]; · iexact HkC5
  isplitl [How]; · iexact How
  isplitl [Hpsd2]; · iexact Hpsd2
  iintro ⟨Hap, Habp, HhAp, Hbb1, HkSS2, Hxs3, HkC5, How⟩
  try dsimp only
  iapply (run_bind c _ _)
  iapply (wp_part9 m K c _ _ _)
  isplitr; · iexact HR
  isplitl [Habn]; · iexact Habn
  isplitl [Hbb1]; · iexact Hbb1
  isplitl [Hxs3]; · iexact Hxs3
  isplitl [Hss3]; · iexact Hss3
  isplitl [HtX3]; · iexact HtX3
  isplitl [HtS3]; · iexact HtS3
  isplitl [HkDS3]; · iexact HkDS3
  isplitl [HkSS3]; · iexact HkSS3
  isplitl [How]; · iexact How
  isplitl [Hpxd3]; · iexact Hpxd3
  isplitl [Hpsd3]; · iexact Hpsd3
  iintro ⟨Habn, Hbb1, HkDS3, HkSS3, How⟩
  try dsimp only
  iapply (run_bind c _ _)
  iapply (wp_part10 m K c _ _ _)
  isplitr; · iexact HR
  isplitl [Habp]; · iexact Habp
  isplitl [Habc]; · iexact Habc
  isplitl [Hbb0]; · iexact Hbb0
  isplitl [Hbb1]; · iexact Hbb1
  isplitl [HkC6]; · iexact HkC6
  isplitl [How]; · iexact How
  iintro ⟨Habp, Hac, Habc, HhAc, Hbb0, Hbb1, HkC6, How⟩
  try dsimp only
  iapply (run_bind c _ _)
  iapply (wp_part11 m K c _ _)
  isplitr; · iexact HR
  isplitl [HkDS0]; · iexact HkDS0
  isplitl [HkSS0]; · iexact HkSS0
  isplitl [HkDR0]; · iexact HkDR0
  isplitl [HkSR0]; · iexact HkSR0
  isplitl [How]; · iexact How
  iintro ⟨Hxs0, Hss0, Hxd0, Hsd0, HkDS0, HkSS0, HkDR0, HkSR0, How⟩
  try dsimp only
  iapply (run_bind c _ _)
  iapply (wp_part12 m K c _ _)
  isplitr; · iexact HR
  isplitl [Hxd0]; · iexact Hxd0
  isplitl [Hsd0]; · iexact Hsd0
  isplitl [Hxs4]; · iexact Hxs4
  isplitl [Hss4]; · iexact Hss4
  iintro ⟨Hxd0, Hsd0, Hxs4, Hss4⟩
  try dsimp only
  iapply (run_bind c _ _)
  iapply (wp_part13 m K c _ _ _)
  isplitr; · iexact HR
  isplitl [HkDS1]; · iexact HkDS1
  isplitl [HkDR1]; · iexact HkDR1
  isplitl [Hxs4]; · iexact Hxs4
  isplitl [Hss4]; · iexact Hss4
  isplitl [HtX4]; · iexact HtX4
  isplitl [HtS4]; · iexact HtS4
  isplitl [HkDS4]; · iexact HkDS4
  isplitl [HkSS4]; · iexact HkSS4
  isplitl [How]; · iexact How
  isplitl [Hpxd4]; · iexact Hpxd4
  isplitl [Hpsd4]; · iexact Hpsd4
  iintro ⟨Hxs1, Hxd1, HkDS1, HkDR1, HkDS4, HkSS4, How⟩
  try dsimp only
  iapply (run_bind c _ _)
  iapply (wp_part14 m K c _ _)
  isplitr; · iexact HR
  isplitl [Hxd1]; · iexact Hxd1
  isplitl [HkSS1]; · iexact HkSS1
  isplitl [HkSR1]; · iexact HkSR1
  isplitl [Hxs5]; · iexact Hxs5
  isplitl [How]; · iexact How
  iintro %u ⟨Hss1, Hxd1, Hsd1, HkSS1, HkSR1, Hxs5, How⟩
  try dsimp only
  iapply (run_bind c _ _)
  iapply (wp_part15 m K c _ _ _)
  isplitr; · iexact HR
  isplitl [Hxs5]; · iexact Hxs5
  isplitl [Hss5]; · iexact Hss5
  isplitl [HtX5]; · iexact HtX5
  isplitl [HtS5]; · iexact HtS5
  isplitl [HkDS5]; · iexact HkDS5
  isplitl [HkSS5]; · iexact HkSS5
  isplitl [How]; · iexact How
  isplitl [Hpxd5]; · iexact Hpxd5
  isplitl [Hpsd5]; · iexact Hpsd5
  iintro ⟨HkDS5, HkSS5, How⟩
  try dsimp only
  iapply (run_bind c _ _)
  iapply (wp_part16 m K c _ _)
  isplitr; · iexact HR
  isplitl [HkDS2]; · iexact HkDS2
  isplitl [HkSS2]; · iexact HkSS2
  isplitl [HkDR2]; · iexact HkDR2
  isplitl [HkSR2]; · iexact HkSR2
  isplitl [How]; · iexact How
  iintro ⟨Hxs2, Hss2, Hxd2, Hsd2, HkDS2, HkSS2, HkDR2, HkSR2, How⟩
  try dsimp only
  iapply (run_bind c _ _)
  iapply (wp_part17 m K c _ _)
  isplitr; · iexact HR
  isplitl [Ho0]; · iexact Ho0
  isplitl [Hxd2]; · iexact Hxd2
  isplitl [Hsd2]; · iexact Hsd2
  isplitl [HkDS3]; · iexact HkDS3
  isplitl [HkDR3]; · iexact HkDR3
  isplitl [How]; · iexact How
  iintro ⟨Ho0, Hxd2, Hsd2, Hxs3, Hxd3, HkDS3, HkDR3, How⟩
  try dsimp only
  iapply (run_bind c _ _)
  iapply (wp_part18 m K c _ _)
  isplitr; · iexact HR
  isplitl [Ho1]; · iexact Ho1
  isplitl [Hxd3]; · iexact Hxd3
  isplitl [HkSS3]; · iexact HkSS3
  isplitl [HkSR3]; · iexact HkSR3
  isplitl [HkDS5]; · iexact HkDS5
  isplitl [How]; · iexact How
  iintro ⟨Ho1, Hss3, Hxd3, Hsd3, HkSS3, HkSR3, Hxs5, HkDS5, How⟩
  try dsimp only
  iapply (run_bind c _ _)
  iapply (wp_part19 m K c _ _)
  isplitr; · iexact HR
  isplitl [Ho0]; · iexact Ho0
  isplitl [HkSS5]; · iexact HkSS5
  isplitl [HkDR5]; · iexact HkDR5
  isplitl [HkSR5]; · iexact HkSR5
  isplitl [How]; · iexact How
  iintro ⟨Ho0, Hss5, Hxd5, Hsd5, HkSS5, HkDR5, HkSR5, How⟩
  try dsimp only
  iapply (run_bind c _ _)
  iapply (wp_part20 m K c _ _)
  isplitr; · iexact HR
  isplitl [Ho0]; · iexact Ho0
  isplitl [HkDS4]; · iexact HkDS4
  isplitl [HkSS4]; · iexact HkSS4
  isplitl [HkDR4]; · iexact HkDR4
  isplitl [How]; · iexact How
  iintro ⟨Ho0, Hxs4, Hss4, Hxd4, HkDS4, HkSS4, HkDR4, How⟩
  try dsimp only
  try simp only [Prog.bind_op, Prog.bind_ret]
  iapply (wp_wait_dma m K c (kSR 4) (kSR_ne 4) S512 .f32 rfl (due c 6) (due_above c 6 3 (by decide))) $$ [HkSR4 How]
  · isplitr; · iexact HR
    isplitl [HkSR4]; · iexact HkSR4
    iexact How
  iintro ⟨How, HkSR4, Hsd4⟩
  ihave Hsd4 := (show pay m c (kSR 4).val ⊢ own c (dSl 4) (S4 m (prv c)) from Entails.of_eq (pay_SR m c 4)) $$ Hsd4
  iapply (wp_ld c (M := oM) (size := S512x1024.size) ![0, 1024] rfl _) $$ Ho1; iintro Ho1
  iapply (wp_ld c (M := xd) (size := S1x512x1024.size) (off := ![(4 : Fin 6).val, 0, 0]) ![4, 0, 0] rfl _) $$ Hxd4; iintro Hxd4
  iapply (wp_ld c (M := sd) (size := S1x512.size) (off := ![(4 : Fin 6).val, 0]) ![4, 0] rfl _) $$ Hsd4; iintro Hsd4
  iapply (wp_ld c (M := oM) (size := S512x1024.size) ![0, 1024] rfl _) $$ Ho1; iintro Ho1
  iapply (wp_st c (M := oM) (size := S512x1024.size) ![0, 1024] rfl (hi m c) rfl) $$ Ho1; iintro Ho1
  iapply (run_ret c _)
  iapply Hk
  unfold post
  isplitl [Hao]; · iexact Hao
  isplitl [Habo]; · iexact Habo
  isplitl [HhAo]; · iexact HhAo
  isplitl [Han]; · iexact Han
  isplitl [Habn]; · iexact Habn
  isplitl [HhAn]; · iexact HhAn
  isplitl [Hap]; · iexact Hap
  isplitl [Habp]; · iexact Habp
  isplitl [HhAp]; · iexact HhAp
  isplitl [Hac]; · iexact Hac
  isplitl [Habc]; · iexact Habc
  isplitl [HhAc]; · iexact HhAc
  isplitl [Hb0]; · iexact Hb0
  isplitl [Hbb0]; · iexact Hbb0
  isplitl [HhB0]; · iexact HhB0
  isplitl [Ho0]; · iexact Ho0
  isplitl [Hb1]; · iexact Hb1
  isplitl [Hbb1]; · iexact Hbb1
  isplitl [HhB1]; · iexact HhB1
  isplitl [Ho1]; · iexact Ho1
  isplitl [Hxs0]; · iexact Hxs0
  isplitl [Hss0]; · iexact Hss0
  isplitl [Hxd0]; · iexact Hxd0
  isplitl [Hsd0]; · iexact Hsd0
  isplitl [HkDS0]; · iexact HkDS0
  isplitl [HkSS0]; · iexact HkSS0
  isplitl [HkDR0]; · iexact HkDR0
  isplitl [HkSR0]; · iexact HkSR0
  isplitl [Hxs1]; · iexact Hxs1
  isplitl [Hss1]; · iexact Hss1
  isplitl [Hxd1]; · iexact Hxd1
  isplitl [Hsd1]; · iexact Hsd1
  isplitl [HkDS1]; · iexact HkDS1
  isplitl [HkSS1]; · iexact HkSS1
  isplitl [HkDR1]; · iexact HkDR1
  isplitl [HkSR1]; · iexact HkSR1
  isplitl [Hxs2]; · iexact Hxs2
  isplitl [Hss2]; · iexact Hss2
  isplitl [Hxd2]; · iexact Hxd2
  isplitl [Hsd2]; · iexact Hsd2
  isplitl [HkDS2]; · iexact HkDS2
  isplitl [HkSS2]; · iexact HkSS2
  isplitl [HkDR2]; · iexact HkDR2
  isplitl [HkSR2]; · iexact HkSR2
  isplitl [Hxs3]; · iexact Hxs3
  isplitl [Hss3]; · iexact Hss3
  isplitl [Hxd3]; · iexact Hxd3
  isplitl [Hsd3]; · iexact Hsd3
  isplitl [HkDS3]; · iexact HkDS3
  isplitl [HkSS3]; · iexact HkSS3
  isplitl [HkDR3]; · iexact HkDR3
  isplitl [HkSR3]; · iexact HkSR3
  isplitl [Hxs4]; · iexact Hxs4
  isplitl [Hss4]; · iexact Hss4
  isplitl [Hxd4]; · iexact Hxd4
  isplitl [Hsd4]; · iexact Hsd4
  isplitl [HkDS4]; · iexact HkDS4
  isplitl [HkSS4]; · iexact HkSS4
  isplitl [HkDR4]; · iexact HkDR4
  isplitl [HkSR4]; · iexact HkSR4
  isplitl [Hxs5]; · iexact Hxs5
  isplitl [Hss5]; · iexact Hss5
  isplitl [Hxd5]; · iexact Hxd5
  isplitl [Hsd5]; · iexact Hsd5
  isplitl [HkDS5]; · iexact HkDS5
  isplitl [HkSS5]; · iexact HkSS5
  isplitl [HkDR5]; · iexact HkDR5
  isplitl [HkSR5]; · iexact HkSR5
  isplitl [HkC1]; · iexact HkC1
  isplitl [HkC2]; · iexact HkC2
  isplitl [HkC3]; · iexact HkC3
  isplitl [HkC4]; · iexact HkC4
  isplitl [HkC5]; · iexact HkC5
  isplitl [HkC6]; · iexact HkC6
  isplitl [How]; · iexact How
  iexact Hbar

end Cert.Mk

end
-- ==== Proof.Split.lean ====
/-
  01_k — buffers cut into slices and put together again.
-/
module

public import proofs.«01_k».proof.Proof.Protocol
public import Idealize.ShloMosaic.Lib.ValueIdxCore

@[expose] public section

noncomputable section

namespace Cert.Mk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A family of disjoint slices -/

section Family

variable (c : Dev nD) {sp : Space} {sh : Shape} {e : EltTy} (M : Memref sig .tc sp sh e)
  {T : Type} [Fintype T] [DecidableEq T] (r : T → Rect sh) (hr : ∀ t a, (r t).stride a = 1)

/-- The elements that the slices cover. -/
def under : Finset (Idx (M.view.loc (c : Thread nD τ))) := (Finset.univ : Finset T).biUnion fun t => (M.view.slice (r t)).set

theorem apart (hd : ∀ t t', t ≠ t' → Disjoint (r t).set (r t').set) :
    ∀ t ∈ (Finset.univ : Finset T), ∀ t' ∈ (Finset.univ : Finset T), t ≠ t' → Disjoint (M.view.slice (r t)).set (M.view.slice (r t')).set :=
  fun t _ t' _ h => by
    rw [View.set_slice, View.set_slice]; exact (Finset.disjoint_map _).mpr (hd t t' h)

/-- Slices that cover the shape cover the memref. -/
theorem under_all (hc : ∀ i : sh.Idx, ∃ t, i ∈ (r t).set) : under c M r = M.view.set := by
  unfold under
  ext i
  rw [Finset.mem_biUnion]
  constructor
  · rintro ⟨t, -, h⟩
    exact View.set_slice_subset _ _ h
  · intro h
    obtain ⟨x, -, rfl⟩ := Finset.mem_map.mp h
    obtain ⟨t, ht⟩ := hc x
    exact ⟨t, Finset.mem_univ _, by rw [View.set_slice]; exact Finset.mem_map_of_mem _ ht⟩

/-- The covered elements at exact contents are the slices'. -/
theorem cut_exact (hd : ∀ t t', t ≠ t' → Disjoint (r t).set (r t').set) (f : Buf (Elt F) (M.view.loc (c : Thread nD τ))) :
    ((M.view.loc (c : Thread nD τ)) ↦[under c M r]{fullShare} f : sProp 𝕄)
      = bigSep Finset.univ fun t => (M.slice (r t) (hr t)).view.loc (c : Thread nD τ) ↦[(M.slice (r t) (hr t)).view.set]{fullShare} f :=
  pointsTo_biUnion _ _ (apart M r hd)

/-- They are slices at some value, -/
theorem cut (hd : ∀ t t', t ≠ t' → Disjoint (r t).set (r t').set) (f : Buf (Elt F) (M.view.loc (c : Thread nD τ))) :
    ((M.view.loc (c : Thread nD τ)) ↦[under c M r]{fullShare} f : sProp 𝕄) ⊢ bigSep Finset.univ fun t => anyv c (M.slice (r t) (hr t)) := by
  rw [cut_exact c M r hr hd f]
  have h1 (t) : ((M.slice (r t) (hr t)).view.loc (c : Thread nD τ) ↦[(M.slice (r t) (hr t)).view.set]{fullShare} f : sProp 𝕄) ⊢ anyv c (M.slice (r t) (hr t)) := by
    unfold anyv own owns
    iintro H
    iexists _
    iexists f
    isplitr; · ipureintro; rfl
    iexact H
  exact bigSep_mono fun t _ => h1 t

/-- and slices at some value make them up. -/
theorem glue (hd : ∀ t t', t ≠ t' → Disjoint (r t).set (r t').set) :
    (bigSep Finset.univ fun t => anyv (F := F) c (M.slice (r t) (hr t)))
      ⊢ (iprop(∃ f, (M.view.loc (c : Thread nD τ)) ↦[under c M r]{fullShare} f) : sProp 𝕄) := by
  have h1 : (bigSep Finset.univ fun t => anyv (F := F) c (M.slice (r t) (hr t)))
      ⊢ (bigSep Finset.univ fun t => iprop(∃ f : Buf (Elt F) (M.view.loc (c : Thread nD τ)), (M.view.loc (c : Thread nD τ)) ↦[(M.view.slice (r t)).set]{fullShare} f) : sProp 𝕄) := by
    have h2 (t) : anyv (F := F) c (M.slice (r t) (hr t))
        ⊢ (iprop(∃ f : Buf (Elt F) (M.view.loc (c : Thread nD τ)), (M.view.loc (c : Thread nD τ)) ↦[(M.view.slice (r t)).set]{fullShare} f) : sProp 𝕄) := by
      unfold anyv own owns
      iintro ⟨%X, %f, -, H⟩
      iexists f
      iexact H
    exact bigSep_mono fun t _ => h2 t
  refine h1.trans ((bigSep_exists_pi Finset.univ fun t (f : Buf (Elt F) (M.view.loc (c : Thread nD τ))) =>
    ((M.view.loc (c : Thread nD τ)) ↦[(M.view.slice (r t)).set]{fullShare} f : sProp 𝕄)).trans ?_)
  iintro ⟨%fs, H⟩
  have h2 := pointsTo_biUnion_join (Ix := Unit) (Name := ℕ) (U := UU) (Lvl := ℕ) (q := fullShare) Finset.univ (fun t => (M.view.slice (r t)).set) fs (fun _ => Classical.arbitrary _) (apart M r hd)
  ihave H := h2 $$ H
  icases H with ⟨%g, -, H⟩
  iexists g
  iexact H

end Family

/-! ## The kernel's slices -/

section Rects

theorem dis {sh : Shape} {T : Type} {off : T → Fin sh.rank → ℕ} {size : Fin sh.rank → ℕ} {h : ∀ t a, off t a + size a ≤ sh.size a} (a : Fin sh.rank)
    (hs : ∀ t t', t ≠ t' → off t a + size a ≤ off t' a ∨ off t' a + size a ≤ off t a) :
    ∀ t t', t ≠ t' → Disjoint (Rect.unit (s := sh) (off t) size (h t)).set (Rect.unit (s := sh) (off t') size (h t')).set :=
  fun t t' ht => Rect.unit_disjoint a (hs t t' ht)

abbrev rA (j : Dev nD) : Rect S2048x1024 := Rect.unit (s := S2048x1024) ![512 * j.val, 0] S512x1024.size (inA j)
abbrev rB (h : Fin 2) : Rect S1024x2048 := Rect.unit (s := S1024x2048) ![0, 1024 * h.val] S1024x1024.size (inB h)
abbrev rO (h : Fin 2) : Rect S512x2048 := Rect.unit (s := S512x2048) ![0, 1024 * h.val] S512x1024.size (inO h)
abbrev rX (i : Fin 6) : Rect S6x512x1024 := Rect.unit (s := S6x512x1024) ![i.val, 0, 0] S1x512x1024.size (inX i)
abbrev rS (i : Fin 6) : Rect S6x512 := Rect.unit (s := S6x512) ![i.val, 0] S1x512.size (inS i)
abbrev rD (i : Fin 6) : Rect S8x512 := Rect.unit (s := S8x512) ![i.val, 0] S1x512.size (inD i)

theorem disA : ∀ t t', t ≠ t' → Disjoint (rA t).set (rA t').set := dis 0 (by decide)
theorem disB : ∀ t t', t ≠ t' → Disjoint (rB t).set (rB t').set := dis 1 (by decide)
theorem disO : ∀ t t', t ≠ t' → Disjoint (rO t).set (rO t').set := dis 1 (by decide)
theorem disX : ∀ t t', t ≠ t' → Disjoint (rX t).set (rX t').set := dis 0 (by decide)
theorem disS : ∀ t t', t ≠ t' → Disjoint (rS t).set (rS t').set := dis 0 (by decide)
theorem disD : ∀ t t', t ≠ t' → Disjoint (rD t).set (rD t').set := dis 0 (by decide)

theorem covA (i : S2048x1024.Idx) : ∃ t, i ∈ (rA t).set := by
  have h0 : (i 0 : ℕ) < 2048 := (i 0).isLt
  have h1 : (i 1 : ℕ) < 1024 := (i 1).isLt
  refine ⟨⟨(i 0 : ℕ) / 512, by show _ < 4; omega⟩, Rect.mem_set_unit.mpr (Fin.forall_fin_two.mpr ⟨?_, ?_⟩)⟩
  · show 512 * ((i 0 : ℕ) / 512) ≤ (i 0 : ℕ) ∧ (i 0 : ℕ) < 512 * ((i 0 : ℕ) / 512) + 512
    omega
  · show 0 ≤ (i 1 : ℕ) ∧ (i 1 : ℕ) < 0 + 1024
    omega
theorem covB (i : S1024x2048.Idx) : ∃ t, i ∈ (rB t).set := by
  have h0 : (i 0 : ℕ) < 1024 := (i 0).isLt
  have h1 : (i 1 : ℕ) < 2048 := (i 1).isLt
  refine ⟨⟨(i 1 : ℕ) / 1024, by omega⟩, Rect.mem_set_unit.mpr (Fin.forall_fin_two.mpr ⟨?_, ?_⟩)⟩
  · show 0 ≤ (i 0 : ℕ) ∧ (i 0 : ℕ) < 0 + 1024
    omega
  · show 1024 * ((i 1 : ℕ) / 1024) ≤ (i 1 : ℕ) ∧ (i 1 : ℕ) < 1024 * ((i 1 : ℕ) / 1024) + 1024
    omega
theorem covO (i : S512x2048.Idx) : ∃ t, i ∈ (rO t).set := by
  have h0 : (i 0 : ℕ) < 512 := (i 0).isLt
  have h1 : (i 1 : ℕ) < 2048 := (i 1).isLt
  refine ⟨⟨(i 1 : ℕ) / 1024, by omega⟩, Rect.mem_set_unit.mpr (Fin.forall_fin_two.mpr ⟨?_, ?_⟩)⟩
  · show 0 ≤ (i 0 : ℕ) ∧ (i 0 : ℕ) < 0 + 512
    omega
  · show 1024 * ((i 1 : ℕ) / 1024) ≤ (i 1 : ℕ) ∧ (i 1 : ℕ) < 1024 * ((i 1 : ℕ) / 1024) + 1024
    omega
theorem covX (i : S6x512x1024.Idx) : ∃ t, i ∈ (rX t).set := by
  have h0 : (i 0 : ℕ) < 6 := (i 0).isLt
  have h1 : (i 1 : ℕ) < 512 := (i 1).isLt
  have h2 : (i 2 : ℕ) < 1024 := (i 2).isLt
  refine ⟨⟨(i 0 : ℕ), h0⟩, Rect.mem_set_unit.mpr (Fin.forall_fin_succ.mpr ⟨?_, Fin.forall_fin_two.mpr ⟨?_, ?_⟩⟩)⟩
  · show (i 0 : ℕ) ≤ (i 0 : ℕ) ∧ (i 0 : ℕ) < (i 0 : ℕ) + 1
    omega
  · show 0 ≤ (i 1 : ℕ) ∧ (i 1 : ℕ) < 0 + 512
    omega
  · show 0 ≤ (i 2 : ℕ) ∧ (i 2 : ℕ) < 0 + 1024
    omega
theorem covS (i : S6x512.Idx) : ∃ t, i ∈ (rS t).set := by
  have h0 : (i 0 : ℕ) < 6 := (i 0).isLt
  have h1 : (i 1 : ℕ) < 512 := (i 1).isLt
  refine ⟨⟨(i 0 : ℕ), h0⟩, Rect.mem_set_unit.mpr (Fin.forall_fin_two.mpr ⟨?_, ?_⟩)⟩
  · show (i 0 : ℕ) ≤ (i 0 : ℕ) ∧ (i 0 : ℕ) < (i 0 : ℕ) + 1
    omega
  · show 0 ≤ (i 1 : ℕ) ∧ (i 1 : ℕ) < 0 + 512
    omega

end Rects

/-! ## Each buffer -/

theorem big_dev (c : Dev nD) (Φ : Dev nD → sProp 𝕄) : bigSep Finset.univ Φ = iprop(Φ (opp c) ∗ Φ (nxt c) ∗ Φ (prv c) ∗ Φ c) :=
  bigSep_univ_eq_bigSepL [opp c, nxt c, prv c, c] (by revert c; decide) (by revert c; decide) Φ
theorem big_two (Φ : Fin 2 → sProp 𝕄) : bigSep Finset.univ Φ = iprop(Φ 0 ∗ Φ 1) :=
  bigSep_univ_eq_bigSepL [0, 1] (by decide) (by decide) Φ
theorem big_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

section Buffers

variable (c : Dev nD)

/-- A whole buffer at some contents. -/
abbrev some' (b : Ref sig .tc) : sProp 𝕄 := iprop(∃ f : Buf (Elt F) ((c : Thread nD τ).loc b), ((c : Thread nD τ).loc b) ↦{fullShare} f)

/-- A buffer all of whose elements a family of slices covers. -/
theorem cut_all {sp : Space} {sh : Shape} {e : EltTy} (M : Memref sig .tc sp sh e) (hM : M.view.set = Finset.univ) {T : Type} [Fintype T] [DecidableEq T] (r : T → Rect sh)
    (hr : ∀ t a, (r t).stride a = 1) (hd : ∀ t t', t ≠ t' → Disjoint (r t).set (r t').set) (hc : ∀ i : sh.Idx, ∃ t, i ∈ (r t).set) :
    (iprop(∃ f, (M.view.loc (c : Thread nD τ)) ↦{fullShare} f) : sProp 𝕄) ⊢ bigSep Finset.univ fun t => anyv c (M.slice (r t) (hr t)) := by
  have h : under c M r = Finset.univ := (under_all c M r hc).trans hM
  iintro ⟨%f, H⟩
  have h2 := cut c M r hr hd f
  rw [h] at h2
  ihave H := h2 $$ H
  iexact H
theorem glue_all {sp : Space} {sh : Shape} {e : EltTy} (M : Memref sig .tc sp sh e) (hM : M.view.set = Finset.univ) {T : Type} [Fintype T] [DecidableEq T] (r : T → Rect sh)
    (hr : ∀ t a, (r t).stride a = 1) (hd : ∀ t t', t ≠ t' → Disjoint (r t).set (r t').set) (hc : ∀ i : sh.Idx, ∃ t, i ∈ (r t).set) :
    (bigSep Finset.univ fun t => anyv c (M.slice (r t) (hr t))) ⊢ (iprop(∃ f, (M.view.loc (c : Thread nD τ)) ↦{fullShare} f) : sProp 𝕄) := by
  have h : under c M r = Finset.univ := (under_all c M r hc).trans hM
  have h2 := glue (F := F) c M r hr hd
  rw [h] at h2
  exact h2

theorem cut_aM : some' (F := F) c cc0_scratch0 ⊢ iprop(anyv c (aSl aM (opp c)) ∗ anyv c (aSl aM (nxt c)) ∗ anyv c (aSl aM (prv c)) ∗ anyv c (aSl aM c)) := by
  rw [← big_dev c fun j => anyv (F := F) c (aSl aM j)]
  exact cut_all c aM (View.set_whole _) rA (fun _ _ => rfl) disA covA
theorem glue_aM : iprop(anyv c (aSl aM (opp c)) ∗ anyv c (aSl aM (nxt c)) ∗ anyv c (aSl aM (prv c)) ∗ anyv c (aSl aM c)) ⊢ some' (F := F) c cc0_scratch0 := by
  rw [← big_dev c fun j => anyv (F := F) c (aSl aM j)]
  exact glue_all c aM (View.set_whole _) rA (fun _ _ => rfl) disA covA
theorem cut_bM : some' (F := F) c cc0_scratch1 ⊢ iprop(anyv c (bSl bM 0) ∗ anyv c (bSl bM 1)) := by
  rw [← big_two fun h => anyv (F := F) c (bSl bM h)]
  exact cut_all c bM (View.set_whole _) rB (fun _ _ => rfl) disB covB
theorem glue_bM : iprop(anyv c (bSl bM 0) ∗ anyv c (bSl bM 1)) ⊢ some' (F := F) c cc0_scratch1 := by
  rw [← big_two fun h => anyv (F := F) c (bSl bM h)]
  exact glue_all c bM (View.set_whole _) rB (fun _ _ => rfl) disB covB
theorem cut_aB : some' (F := F) c cc0_scratch2 ⊢ iprop(anyv c (aSl aB (opp c)) ∗ anyv c (aSl aB (nxt c)) ∗ anyv c (aSl aB (prv c)) ∗ anyv c (aSl aB c)) := by
  rw [← big_dev c fun j => anyv (F := F) c (aSl aB j)]
  exact cut_all c aB (View.set_whole _) rA (fun _ _ => rfl) disA covA
theorem glue_aB : iprop(anyv c (aSl aB (opp c)) ∗ anyv c (aSl aB (nxt c)) ∗ anyv c (aSl aB (prv c)) ∗ anyv c (aSl aB c)) ⊢ some' (F := F) c cc0_scratch2 := by
  rw [← big_dev c fun j => anyv (F := F) c (aSl aB j)]
  exact glue_all c aB (View.set_whole _) rA (fun _ _ => rfl) disA covA
theorem cut_bB : some' (F := F) c cc0_scratch3 ⊢ iprop(anyv c (bSl bB 0) ∗ anyv c (bSl bB 1)) := by
  rw [← big_two fun h => anyv (F := F) c (bSl bB h)]
  exact cut_all c bB (View.set_whole _) rB (fun _ _ => rfl) disB covB
theorem glue_bB : iprop(anyv c (bSl bB 0) ∗ anyv c (bSl bB 1)) ⊢ some' (F := F) c cc0_scratch3 := by
  rw [← big_two fun h => anyv (F := F) c (bSl bB h)]
  exact glue_all c bB (View.set_whole _) rB (fun _ _ => rfl) disB covB
theorem cut_xs : some' (F := F) c cc0_scratch4 ⊢ iprop(anyv c (xSl xs 0) ∗ anyv c (xSl xs 1) ∗ anyv c (xSl xs 2) ∗ anyv c (xSl xs 3) ∗ anyv c (xSl xs 4) ∗ anyv c (xSl xs 5)) := by
  rw [← big_six fun i => anyv (F := F) c (xSl xs i)]
  exact cut_all c xs (View.set_whole _) rX (fun _ _ => rfl) disX covX
theorem glue_xs : iprop(anyv c (xSl xs 0) ∗ anyv c (xSl xs 1) ∗ anyv c (xSl xs 2) ∗ anyv c (xSl xs 3) ∗ anyv c (xSl xs 4) ∗ anyv c (xSl xs 5)) ⊢ some' (F := F) c cc0_scratch4 := by
  rw [← big_six fun i => anyv (F := F) c (xSl xs i)]
  exact glue_all c xs (View.set_whole _) rX (fun _ _ => rfl) disX covX
theorem cut_xd : some' (F := F) c cc0_scratch5 ⊢ iprop(anyv c (xSl xd 0) ∗ anyv c (xSl xd 1) ∗ anyv c (xSl xd 2) ∗ anyv c (xSl xd 3) ∗ anyv c (xSl xd 4) ∗ anyv c (xSl xd 5)) := by
  rw [← big_six fun i => anyv (F := F) c (xSl xd i)]
  exact cut_all c xd (View.set_whole _) rX (fun _ _ => rfl) disX covX
theorem glue_xd : iprop(anyv c (xSl xd 0) ∗ anyv c (xSl xd 1) ∗ anyv c (xSl xd 2) ∗ anyv c (xSl xd 3) ∗ anyv c (xSl xd 4) ∗ anyv c (xSl xd 5)) ⊢ some' (F := F) c cc0_scratch5 := by
  rw [← big_six fun i => anyv (F := F) c (xSl xd i)]
  exact glue_all c xd (View.set_whole _) rX (fun _ _ => rfl) disX covX
theorem cut_ss : some' (F := F) c cc0_scratch6 ⊢ iprop(anyv c (sSl 0) ∗ anyv c (sSl 1) ∗ anyv c (sSl 2) ∗ anyv c (sSl 3) ∗ anyv c (sSl 4) ∗ anyv c (sSl 5)) := by
  rw [← big_six fun i => anyv (F := F) c (sSl i)]
  exact cut_all c ss (View.set_whole _) rS (fun _ _ => rfl) disS covS
theorem glue_ss : iprop(anyv c (sSl 0) ∗ anyv c (sSl 1) ∗ anyv c (sSl 2) ∗ anyv c (sSl 3) ∗ anyv c (sSl 4) ∗ anyv c (sSl 5)) ⊢ some' (F := F) c cc0_scratch6 := by
  rw [← big_six fun i => anyv (F := F) c (sSl i)]
  exact glue_all c ss (View.set_whole _) rS (fun _ _ => rfl) disS covS
theorem cut_oM : some' (F := F) c cc0_stg0_0 ⊢ iprop(anyv c (oSl 0) ∗ anyv c (oSl 1)) := by
  rw [← big_two fun h => anyv (F := F) c (oSl h)]
  exact cut_all c oM (View.set_whole _) rO (fun _ _ => rfl) disO covO

/-- The landing scales have two spare rows. -/
abbrev spare : sProp 𝕄 := iprop(∃ f : Buf (Elt F) ((c : Thread nD τ).loc cc0_scratch7), ((c : Thread nD τ).loc cc0_scratch7) ↦[Finset.univ \ under c sd rD]{fullShare} f)
theorem cut_sd : some' (F := F) c cc0_scratch7 ⊢ iprop((anyv c (dSl 0) ∗ anyv c (dSl 1) ∗ anyv c (dSl 2) ∗ anyv c (dSl 3) ∗ anyv c (dSl 4) ∗ anyv c (dSl 5)) ∗ spare (F := F) c) := by
  rw [← big_six fun i => anyv (F := F) c (dSl i)]
  iintro ⟨%f, H⟩
  have h := (pointsTo_split_subset (Ix := Unit) (Name := ℕ) (U := UU) (Lvl := ℕ) (q := fullShare) (f := f) (Finset.subset_univ (under c sd rD))).1
  ihave H := h $$ H
  icases H with ⟨H1, H2⟩
  have h2 := cut (F := F) c sd rD (fun _ _ => rfl) disD f
  ihave H1 := h2 $$ H1
  isplitl [H1]; · iexact H1
  iexists f; iexact H2
theorem glue_sd : iprop((anyv c (dSl 0) ∗ anyv c (dSl 1) ∗ anyv c (dSl 2) ∗ anyv c (dSl 3) ∗ anyv c (dSl 4) ∗ anyv c (dSl 5)) ∗ spare (F := F) c) ⊢ some' (F := F) c cc0_scratch7 := by
  rw [← big_six fun i => anyv (F := F) c (dSl i)]
  iintro ⟨H1, ⟨%g, H2⟩⟩
  have h2 := glue (F := F) c sd rD (fun _ _ => rfl) disD
  ihave H1 := h2 $$ H1
  icases H1 with ⟨%f, H1⟩
  iexists _
  have h := pointsTo_join_subset (Ix := Unit) (Name := ℕ) (U := UU) (Lvl := ℕ) (q := fullShare) (g := f) (f := g) (Finset.subset_univ (under c sd rD))
  iapply h
  isplitl [H1]; · iexact H1
  iexact H2

/-! ## The arguments, and the result -/

variable (m : (ℓ : Loc nD τ sig) → Buf (Elt F) ℓ)

theorem args_A : (((c : Thread nD τ).loc main_arg0) ↦{fullShare} m ((c : Thread nD τ).loc main_arg0) : sProp 𝕄)
    = iprop(hbm c main_arg0 (aSl aH (opp c)) (m ((c : Thread nD τ).loc main_arg0)) ∗ hbm c main_arg0 (aSl aH (nxt c)) (m ((c : Thread nD τ).loc main_arg0))
      ∗ hbm c main_arg0 (aSl aH (prv c)) (m ((c : Thread nD τ).loc main_arg0)) ∗ hbm c main_arg0 (aSl aH c) (m ((c : Thread nD τ).loc main_arg0))) := by
  rw [← big_dev c fun j => hbm (F := F) c main_arg0 (aSl aH j) (m ((c : Thread nD τ).loc main_arg0))]
  have h : under c aH rA = Finset.univ := (under_all c aH rA covA).trans (View.set_whole _)
  have h2 := cut_exact (F := F) c aH rA (fun _ _ => rfl) disA (m ((c : Thread nD τ).loc main_arg0))
  rw [h] at h2
  exact h2
theorem args_B : (((c : Thread nD τ).loc main_arg1) ↦{fullShare} m ((c : Thread nD τ).loc main_arg1) : sProp 𝕄)
    = iprop(hbm c main_arg1 (bSl bH 0) (m ((c : Thread nD τ).loc main_arg1)) ∗ hbm c main_arg1 (bSl bH 1) (m ((c : Thread nD τ).loc main_arg1))) := by
  rw [← big_two fun h => hbm (F := F) c main_arg1 (bSl bH h) (m ((c : Thread nD τ).loc main_arg1))]
  have h : under c bH rB = Finset.univ := (under_all c bH rB covB).trans (View.set_whole _)
  have h2 := cut_exact (F := F) c bH rB (fun _ _ => rfl) disB (m ((c : Thread nD τ).loc main_arg1))
  rw [h] at h2
  exact h2

/-- Device `c`'s block of the result. -/
def outAt : Vec F S512x2048 .f32 := fun i =>
  if h : (i 1 : ℕ) < 1024 then lo m c (ValueIdx.ix2 ⟨(i 0 : ℕ), (i 0).isLt⟩ ⟨(i 1 : ℕ), h⟩)
  else hi m c (ValueIdx.ix2 ⟨(i 0 : ℕ), (i 0).isLt⟩ ⟨(i 1 : ℕ) - 1024, by have h1 : (i 1 : ℕ) < 2048 := (i 1).isLt; omega⟩)

theorem outAt_lo (j : S512x1024.Idx) : outAt c m ((rO 0).emb j) = lo m c j := by
  have h0 : ((rO 0).emb j 0 : ℕ) = (j 0 : ℕ) := by rw [Rect.emb_apply]; show 0 + 1 * (j 0 : ℕ) = _; omega
  have h1 : ((rO 0).emb j 1 : ℕ) = (j 1 : ℕ) := by rw [Rect.emb_apply]; show 1024 * 0 + 1 * (j 1 : ℕ) = _; omega
  have hj : (j 1 : ℕ) < 1024 := (j 1).isLt
  unfold outAt
  rw [dif_pos (by rw [h1]; exact hj)]
  refine congrArg (lo m c) (funext fun a => ?_)
  match a with
  | ⟨0, _⟩ => exact Fin.ext h0
  | ⟨1, _⟩ => exact Fin.ext h1
theorem outAt_hi (j : S512x1024.Idx) : outAt c m ((rO 1).emb j) = hi m c j := by
  have h0 : ((rO 1).emb j 0 : ℕ) = (j 0 : ℕ) := by rw [Rect.emb_apply]; show 0 + 1 * (j 0 : ℕ) = _; omega
  have h1 : ((rO 1).emb j 1 : ℕ) = 1024 + (j 1 : ℕ) := by rw [Rect.emb_apply]; show 1024 * 1 + 1 * (j 1 : ℕ) = _; omega
  unfold outAt
  rw [dif_neg (by rw [h1]; omega)]
  refine congrArg (hi m c) (funext fun a => ?_)
  match a with
  | ⟨0, _⟩ => exact Fin.ext h0
  | ⟨1, _⟩ => exact Fin.ext ((congrArg (· - 1024) h1).trans (Nat.add_sub_cancel_left _ _))

theorem glue_out : iprop(own c (oSl 0) (lo m c) ∗ own c (oSl 1) (hi m c)) ⊢ own (F := F) c oM (outAt c m) := by
  have h := owns_of_rects (Ix := Unit) (Name := ℕ) (U := UU) (Lvl := ℕ) (c : Thread nD τ) oM fullShare rO (fun _ _ => rfl) disO
    (Finset.eq_univ_of_forall fun i => Finset.mem_biUnion.mpr ⟨_, Finset.mem_univ _, (covO i).choose_spec⟩) (outAt c m)
  rw [big_two] at h
  rw [show (fun j => outAt c m ((rO 0).emb j)) = lo m c from funext (outAt_lo c m),
    show (fun j => outAt c m ((rO 1).emb j)) = hi m c from funext (outAt_hi c m)] at h
  exact h

end Buffers

end Cert.Mk

end
-- ==== Proof.Launch.lean ====
/-
  01_k — the launch: the cells allocated for all devices at once, their tokens dealt around the ring, the credit for what
  the neighbours will pay, and the run of the whole program.
-/
module

public import proofs.«01_k».proof.Proof.Body
public import proofs.«01_k».proof.Proof.Split
public import proofs.«01_k».proof.Proof.Gen.KernelIdeal.Frame
public import Idealize.ShloMosaic.Lib.Pipeline.CollectiveSegs

@[expose] public section

noncomputable section

namespace Cert.Mk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores, as the launch takes them. -/
abbrev osem (k : Fin 30) : SemLoc sig := .dma (dq k.succ)

theorem ownSemFacts : Pipeline.OwnSemFacts cfg0.spec osem := by decide

theorem csem_injective : Function.Injective csem := fun k k' h => by
  by_cases h0 : k = 0
  · by_cases h1 : k' = 0
    · rw [h0, h1]
    · rw [csem_dma h1, h0, csem, if_pos rfl] at h; cases h
  · by_cases h1 : k' = 0
    · rw [csem_dma h0, h1, csem, if_pos rfl] at h; cases h
    · rw [csem_dma h0, csem_dma h1] at h; exact SemLoc.dma.inj h
theorem kcell_injective : Function.Injective (kcell : Dev nD × Fin 31 → GSem nD τ sig) := fun ⟨c, k⟩ ⟨c', k'⟩ h =>
  Prod.ext (congrArg (fun g : GSem nD τ sig => g.1.1) h) (csem_injective (congrArg Prod.snd h))

def allCells : Finset (GSem nD τ sig) := Finset.univ.map ⟨kcell, kcell_injective⟩

/-- A device's tokens: the second one of its barrier, and one of every cell. -/
def tokOf (cj : Dev nD × Fin 32) : GSem nD τ sig × ℕ × Bool :=
  if h : cj.2 = 0 then (kcell (cj.1, 0), 0, true) else (kcell (cj.1, cj.2.pred h), 0, false)
theorem tokOf_zero (c : Dev nD) : tokOf (c, 0) = (kcell (c, 0), 0, true) := dif_pos rfl
theorem tokOf_succ (c : Dev nD) (k : Fin 31) : tokOf (c, k.succ) = (kcell (c, k), 0, false) := (dif_neg (Fin.succ_ne_zero k)).trans (by rw [Fin.pred_succ])
theorem tokOf_injective : Function.Injective tokOf := fun ⟨c, j⟩ ⟨c', j'⟩ h => by
  rcases Fin.eq_zero_or_eq_succ j with rfl | ⟨k, rfl⟩ <;> rcases Fin.eq_zero_or_eq_succ j' with rfl | ⟨k', rfl⟩
  · rw [tokOf_zero, tokOf_zero] at h
    have h1 : c = c' := (Prod.ext_iff.mp (kcell_injective (congrArg Prod.fst h))).1
    rw [h1]
  · rw [tokOf_zero, tokOf_succ] at h
    exact absurd (congrArg (fun x => x.2.2) h) (fun h => Bool.noConfusion h)
  · rw [tokOf_succ, tokOf_zero] at h
    exact absurd (congrArg (fun x => x.2.2) h) Bool.false_ne_true
  · rw [tokOf_succ, tokOf_succ] at h
    obtain ⟨h1, h2⟩ := Prod.ext_iff.mp (kcell_injective (congrArg Prod.fst h))
    dsimp only at h1 h2
    rw [h1, h2]
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  iprop(dutyTok ER (kcell (c, 0)) 0 true ∗ bigSep Finset.univ fun k : Fin 31 => dutyTok ER (kcell (c, k)) 0 false)

/-- What the launch deals device `c`, -/
def G (c : Dev nD) : sProp 𝕄 :=
  iprop((bigSep Finset.univ fun k : Fin 31 => roundState ER (sched m) (kcell (c, k)) 0)
    ∗ (bigSep Finset.univ fun k : Fin 31 => iprop(atPos ER (kcell (c, k)) 0 ∅ 0 ∗ reached ER (kcell (c, k)) 0)) ∗ toks c)

/-- the invariants and marks of all cells, -/
def recs (K : Dev nD × Fin 31 → ℕ) : sProp 𝕄 :=
  iprop((bigSep Finset.univ fun ck : Dev nD × Fin 31 => cellInv ER (sched m) (K ck) (kcell ck))
    ∗ bigSep Finset.univ fun ck : Dev nD × Fin 31 => reached ER (kcell ck) 0)
instance recs_persistent (K : Dev nD × Fin 31 → ℕ) : BI.Persistent (recs m K) := by unfold recs; infer_instance

/-- Who the payment goes to that device `c` makes on cell `k`. -/
def who (c : Dev nD) (k : Fin 31) : Dev nD :=
  if k.val = 0 then nxt c
  else if (13 ≤ k.val ∧ k.val < 19) ∨ 25 ≤ k.val then (if k.val % 2 = 1 then nxt c else prv c) else c
def whoInv (c : Dev nD) (k : Fin 31) : Dev nD :=
  if k.val = 0 then prv c
  else if (13 ≤ k.val ∧ k.val < 19) ∨ 25 ≤ k.val then (if k.val % 2 = 1 then prv c else nxt c) else c
theorem whoInv_who (c : Dev nD) (k : Fin 31) : whoInv (who c k) k = c := by
  unfold whoInv who
  (repeat' split) <;> first | rfl | exact prv_nxt c | exact nxt_prv c
theorem who_whoInv (c : Dev nD) (k : Fin 31) : who (whoInv c k) k = c := by
  unfold whoInv who
  (repeat' split) <;> first | rfl | exact prv_nxt c | exact nxt_prv c
def whoE : Dev nD × Fin 31 ≃ Dev nD × Fin 31 where
  toFun ck := (who ck.1 ck.2, ck.2)
  invFun ck := (whoInv ck.1 ck.2, ck.2)
  left_inv ck := Prod.ext (whoInv_who ck.1 ck.2) rfl
  right_inv ck := Prod.ext (who_whoInv ck.1 ck.2) rfl
def ringE : Dev nD ≃ Dev nD := ⟨prv, nxt, nxt_prv, prv_nxt⟩

/-- The tokens device `c` pays with. -/
def payToks (c : Dev nD) : sProp 𝕄 :=
  iprop(dutyTok ER (kcell (prv c, 0)) 0 true ∗ bigSep Finset.univ fun k : Fin 31 => dutyTok ER (kcell (who c k, k)) 0 false)
/-- What device `c` keeps: its positions and those tokens. -/
def lin (c : Dev nD) : sProp 𝕄 := iprop((bigSep Finset.univ fun k : Fin 31 => atPos ER (kcell (c, k)) 0 ∅ 0) ∗ payToks c)
def G' (c : Dev nD) : sProp 𝕄 := iprop(∃ K, recs m K ∗ lin c)

theorem big_succ {n : ℕ} (Φ : Fin (n + 1) → sProp 𝕄) : bigSep Finset.univ Φ = iprop(Φ 0 ∗ bigSep Finset.univ fun k : Fin n => Φ k.succ) := by
  rw [Fin.univ_succ, Finset.cons_eq_insert, bigSep_insert (by simp), bigSep_map]; rfl

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 31 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [big_succ]
    unfold toks
    simp only [Function.Embedding.coeFn_mk, tokOf_zero, tokOf_succ]
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (bar c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 31 => semVal (kcell (c, k)) 0 : sProp 𝕄) := by
  rw [unscopedSems0_eq, big_succ]
  simp only [kcell_dma c (Fin.succ_ne_zero _)]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 31 => semVal (kcell (c, k)) 0) ∗ bigSep Finset.univ fun k : Fin 31 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every device's tokens, dealt to who pays with them. -/
theorem toks_around : (bigSep Finset.univ fun c : Dev nD => (toks c : sProp 𝕄)) ⊢ bigSep Finset.univ fun c : Dev nD => payToks c := by
  unfold toks payToks
  rw [bigSep_sep', bigSep_sep', bigSep_univ_equiv ringE (fun c : Dev nD => (dutyTok ER (kcell (c, 0)) 0 true : sProp 𝕄)),
    ← bigSep_univ_prod (fun ck : Dev nD × Fin 31 => (dutyTok ER (kcell ck) 0 false : sProp 𝕄)),
    bigSep_univ_equiv whoE (fun ck : Dev nD × Fin 31 => (dutyTok ER (kcell ck) 0 false : sProp 𝕄)), bigSep_univ_prod]
  exact BI.Entails.refl _

theorem big_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 31 => iprop(∃ κ : ℕ, cellInv ER (sched m) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← bigSep_univ_prod (fun ck : Dev nD × Fin 31 => (reached ER (kcell ck) 0 : sProp 𝕄))]
  iintro ⟨HI, ⟨Hat, #HR⟩, Htok⟩
  ihave HK := (BI.bigSep_exists_pi Finset.univ (fun (ck : Dev nD × Fin 31) (κ : ℕ) => (cellInv ER (sched m) κ (kcell ck) : sProp 𝕄))) $$ HI
  icases HK with ⟨%K, #HI⟩
  ihave Htk := (toks_around (F := F)) $$ Htok
  iapply (big_with (R := recs m K) (Φ := fun c => lin c) fun c _ => (show iprop(recs m K ∗ lin c) ⊢ G' m c from by
    unfold G'
    iintro H
    iexists K
    iexact H))
  isplitr
  · unfold recs; isplitl; · iexact HI
    iexact HR
  · unfold lin
    rw [bigSep_sep']
    isplitl [Hat]; · iexact Hat
    iexact Htk

/-- All devices' semaphores become cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What the neighbours pay to device `c`, -/
def income (c : Dev nD) : CellTallies nD τ sig Unit :=
  tallyAt (bar c) () 2 + ∑ i : Fin 6, (tallyAt (dc c (kDR i)) () ND + tallyAt (dc c (kSR i)) () NS)
/-- and what it pays. -/
abbrev O₀ (c : Dev nD) : CellTallies nD τ sig Unit := tal (dueAll c)

theorem O₀_eq (c : Dev nD) : O₀ c = (tallyAt (bar (prv c)) () 1 + tallyAt (bar (nxt c)) () 1)
    + ∑ i : Fin 6, (tallyAt (dc (rcp i c) (kDR i)) () ND + tallyAt (dc (rcp i c) (kSR i)) () NS) := by
  have h (a b : Fin 6 → CellTallies nD τ sig Unit) (n p : CellTallies nD τ sig Unit) :
      0 + b 5 + a 5 + b 4 + a 4 + b 3 + a 3 + b 2 + a 2 + b 1 + a 1 + b 0 + a 0 + n + p = (p + n) + ∑ i, (a i + b i) := by
    rw [Fin.sum_univ_six, zero_add]
    ac_rfl
  exact h (fun i => tallyAt (dc (rcp i c) (kDR i)) () ND) (fun i => tallyAt (dc (rcp i c) (kSR i)) () NS) _ _

def rcpE (i : Fin 6) : Dev nD ≃ Dev nD := ⟨rcp i, snd i, snd_rcp i, rcp_snd i⟩

theorem sum_due : (∑ c, O₀ c) = ∑ c, income c := by
  simp only [O₀_eq, income]
  rw [Finset.sum_add_distrib, Finset.sum_add_distrib, Finset.sum_add_distrib, Finset.sum_comm, Finset.sum_comm (f := fun c i => tallyAt (dc c (kDR i)) () ND + tallyAt (dc c (kSR i)) () NS)]
  congr 1
  · rw [← Equiv.sum_comp ringE.symm fun c => (tallyAt (bar (prv c)) () 1 : CellTallies nD τ sig Unit),
      ← Equiv.sum_comp ringE fun c => (tallyAt (bar (nxt c)) () 1 : CellTallies nD τ sig Unit), ← Finset.sum_add_distrib]
    refine Finset.sum_congr rfl fun c _ => ?_
    show (tallyAt (bar (prv (nxt c))) () 1 + tallyAt (bar (nxt (prv c))) () 1 : CellTallies nD τ sig Unit) = _
    rw [prv_nxt, nxt_prv, tallyAt_add]
  · refine Finset.sum_congr rfl fun i _ => ?_
    exact Equiv.sum_comp (rcpE i) fun c => (tallyAt (dc c (kDR i)) () ND + tallyAt (dc c (kSR i)) () NS : CellTallies nD τ sig Unit)

theorem creds (c : Dev nD) : (Pipeline.launchCred O₀ c : sProp 𝕄) = cred (income c) :=
  Pipeline.launchCred_of_sum O₀ income sum_due (fun d g hg => by
    by_contra hne
    have h (sm : SemLoc sig) (n : ℕ) : (tallyAt ((d : Thread nD τ), sm) () n : CellTallies nD τ sig Unit) g = 0 :=
      tallyAt_ne_cell (fun h => hne (congrArg Prod.fst h)) () n
    refine hg ?_
    unfold income
    rw [Pi.add_apply, Finset.sum_apply, h, zero_add]
    exact Finset.sum_eq_zero fun i _ => by rw [Pi.add_apply, h, h, add_zero]) c

/-- A device's credit, cell by cell. -/
theorem creds_split (c : Dev nD) : (cred (income c) : sProp 𝕄) ⊢ iprop(cred (tallyAt (bar c) () 2) ∗
    (cred (tallyAt (dc c (kDR 0)) () ND) ∗ cred (tallyAt (dc c (kSR 0)) () NS)) ∗ (cred (tallyAt (dc c (kDR 1)) () ND) ∗ cred (tallyAt (dc c (kSR 1)) () NS)) ∗
    (cred (tallyAt (dc c (kDR 2)) () ND) ∗ cred (tallyAt (dc c (kSR 2)) () NS)) ∗ (cred (tallyAt (dc c (kDR 3)) () ND) ∗ cred (tallyAt (dc c (kSR 3)) () NS)) ∗
    (cred (tallyAt (dc c (kDR 4)) () ND) ∗ cred (tallyAt (dc c (kSR 4)) () NS)) ∗ (cred (tallyAt (dc c (kDR 5)) () ND) ∗ cred (tallyAt (dc c (kSR 5)) () NS))) := by
  unfold income
  rw [Fin.sum_univ_six]
  iintro H
  ihave H := (cred_add _ _).1 $$ H
  icases H with ⟨Hb, H⟩
  ihave H := (cred_add _ _).1 $$ H
  icases H with ⟨H, H5⟩
  ihave H5 := (cred_add _ _).1 $$ H5
  ihave H := (cred_add _ _).1 $$ H
  icases H with ⟨H, H4⟩
  ihave H4 := (cred_add _ _).1 $$ H4
  ihave H := (cred_add _ _).1 $$ H
  icases H with ⟨H, H3⟩
  ihave H3 := (cred_add _ _).1 $$ H3
  ihave H := (cred_add _ _).1 $$ H
  icases H with ⟨H, H2⟩
  ihave H2 := (cred_add _ _).1 $$ H2
  ihave H := (cred_add _ _).1 $$ H
  icases H with ⟨H, H1⟩
  ihave H1 := (cred_add _ _).1 $$ H1
  ihave H0 := (cred_add _ _).1 $$ H
  isplitl [Hb]; · iexact Hb
  isplitl [H0]; · iexact H0
  isplitl [H1]; · iexact H1
  isplitl [H2]; · iexact H2
  isplitl [H3]; · iexact H3
  isplitl [H4]; · iexact H4
  iexact H5

/-! ## Families of 31, one by one -/

theorem big31 (Φ : Fin 31 → sProp 𝕄) : bigSep Finset.univ Φ = iprop(
    Φ 0 ∗ Φ 1 ∗ Φ 2 ∗ Φ 3 ∗ Φ 4 ∗ Φ 5 ∗ Φ 6 ∗ Φ 7 ∗ Φ 8 ∗ Φ 9 ∗ Φ 10 ∗ Φ 11 ∗
    Φ 12 ∗ Φ 13 ∗ Φ 14 ∗ Φ 15 ∗ Φ 16 ∗ Φ 17 ∗ Φ 18 ∗ Φ 19 ∗ Φ 20 ∗ Φ 21 ∗ Φ 22 ∗ Φ 23 ∗
    Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ
theorem big30 (Φ : Fin 30 → sProp 𝕄) : bigSep Finset.univ Φ = iprop(
    Φ 0 ∗ Φ 1 ∗ Φ 2 ∗ Φ 3 ∗ Φ 4 ∗ Φ 5 ∗ Φ 6 ∗ Φ 7 ∗ Φ 8 ∗ Φ 9 ∗ Φ 10 ∗ Φ 11 ∗
    Φ 12 ∗ Φ 13 ∗ Φ 14 ∗ Φ 15 ∗ Φ 16 ∗ Φ 17 ∗ Φ 18 ∗ Φ 19 ∗ Φ 20 ∗ Φ 21 ∗ Φ 22 ∗ Φ 23 ∗
    Φ 24 ∗ Φ 25 ∗ Φ 26 ∗ Φ 27 ∗ Φ 28 ∗ Φ 29) :=
  bigSep_univ_eq_bigSepL [0, 1, 2, 3, 4, 5, 6, 7, 8, 9, 10, 11, 12, 13, 14, 15, 16, 17, 18, 19, 20, 21, 22, 23, 24, 25, 26, 27, 28, 29] (by decide) (by decide) Φ

theorem cell_who (c : Dev nD) (k : Fin 31) (hk : k ≠ 0) : kcell (who c k, k) = dc (who c k) k := kcell_dma _ hk

theorem ats_eq (c : Dev nD) : (bigSep Finset.univ fun k : Fin 31 => (atPos ER (kcell (c, k)) 0 ∅ 0 : sProp 𝕄)) = iprop(
    atPos ER (bar c) 0 ∅ 0 ∗ atPos ER (dc c 1) 0 ∅ 0 ∗ atPos ER (dc c 2) 0 ∅ 0 ∗ atPos ER (dc c 3) 0 ∅ 0 ∗ atPos ER (dc c 4) 0 ∅ 0 ∗
    atPos ER (dc c 5) 0 ∅ 0 ∗ atPos ER (dc c 6) 0 ∅ 0 ∗ atPos ER (dc c 7) 0 ∅ 0 ∗ atPos ER (dc c 8) 0 ∅ 0 ∗ atPos ER (dc c 9) 0 ∅ 0 ∗
    atPos ER (dc c 10) 0 ∅ 0 ∗ atPos ER (dc c 11) 0 ∅ 0 ∗ atPos ER (dc c 12) 0 ∅ 0 ∗ atPos ER (dc c 13) 0 ∅ 0 ∗ atPos ER (dc c 14) 0 ∅ 0 ∗
    atPos ER (dc c 15) 0 ∅ 0 ∗ atPos ER (dc c 16) 0 ∅ 0 ∗ atPos ER (dc c 17) 0 ∅ 0 ∗ atPos ER (dc c 18) 0 ∅ 0 ∗ atPos ER (dc c 19) 0 ∅ 0 ∗
    atPos ER (dc c 20) 0 ∅ 0 ∗ atPos ER (dc c 21) 0 ∅ 0 ∗ atPos ER (dc c 22) 0 ∅ 0 ∗ atPos ER (dc c 23) 0 ∅ 0 ∗ atPos ER (dc c 24) 0 ∅ 0 ∗
    atPos ER (dc c 25) 0 ∅ 0 ∗ atPos ER (dc c 26) 0 ∅ 0 ∗ atPos ER (dc c 27) 0 ∅ 0 ∗ atPos ER (dc c 28) 0 ∅ 0 ∗ atPos ER (dc c 29) 0 ∅ 0 ∗
    atPos ER (dc c 30) 0 ∅ 0) := by
  rw [big31, kcell_dma c (k := 1) (by decide), kcell_dma c (k := 2) (by decide), kcell_dma c (k := 3) (by decide), kcell_dma c (k := 4) (by decide), kcell_dma c (k := 5) (by decide), kcell_dma c (k := 6) (by decide), kcell_dma c (k := 7) (by decide), kcell_dma c (k := 8) (by decide), kcell_dma c (k := 9) (by decide), kcell_dma c (k := 10) (by decide), kcell_dma c (k := 11) (by decide), kcell_dma c (k := 12) (by decide), kcell_dma c (k := 13) (by decide), kcell_dma c (k := 14) (by decide), kcell_dma c (k := 15) (by decide), kcell_dma c (k := 16) (by decide), kcell_dma c (k := 17) (by decide), kcell_dma c (k := 18) (by decide), kcell_dma c (k := 19) (by decide), kcell_dma c (k := 20) (by decide), kcell_dma c (k := 21) (by decide), kcell_dma c (k := 22) (by decide), kcell_dma c (k := 23) (by decide), kcell_dma c (k := 24) (by decide), kcell_dma c (k := 25) (by decide), kcell_dma c (k := 26) (by decide), kcell_dma c (k := 27) (by decide), kcell_dma c (k := 28) (by decide), kcell_dma c (k := 29) (by decide), kcell_dma c (k := 30) (by decide)]
  rfl

theorem pay_eq (c : Dev nD) : (bigSep Finset.univ fun k : Fin 31 => (dutyTok ER (kcell (who c k, k)) 0 false : sProp 𝕄)) = iprop(
    dutyTok ER (bar (nxt c)) 0 false ∗ dutyTok ER (dc c 1) 0 false ∗ dutyTok ER (dc c 2) 0 false ∗ dutyTok ER (dc c 3) 0 false ∗ dutyTok ER (dc c 4) 0 false ∗
    dutyTok ER (dc c 5) 0 false ∗ dutyTok ER (dc c 6) 0 false ∗ dutyTok ER (dc c 7) 0 false ∗ dutyTok ER (dc c 8) 0 false ∗ dutyTok ER (dc c 9) 0 false ∗
    dutyTok ER (dc c 10) 0 false ∗ dutyTok ER (dc c 11) 0 false ∗ dutyTok ER (dc c 12) 0 false ∗ dutyTok ER (dc (rcp 0 c) (kDR 0)) 0 false ∗ dutyTok ER (dc (rcp 1 c) (kDR 1)) 0 false ∗
    dutyTok ER (dc (rcp 2 c) (kDR 2)) 0 false ∗ dutyTok ER (dc (rcp 3 c) (kDR 3)) 0 false ∗ dutyTok ER (dc (rcp 4 c) (kDR 4)) 0 false ∗ dutyTok ER (dc (rcp 5 c) (kDR 5)) 0 false ∗ dutyTok ER (dc c 19) 0 false ∗
    dutyTok ER (dc c 20) 0 false ∗ dutyTok ER (dc c 21) 0 false ∗ dutyTok ER (dc c 22) 0 false ∗ dutyTok ER (dc c 23) 0 false ∗ dutyTok ER (dc c 24) 0 false ∗
    dutyTok ER (dc (rcp 0 c) (kSR 0)) 0 false ∗ dutyTok ER (dc (rcp 1 c) (kSR 1)) 0 false ∗ dutyTok ER (dc (rcp 2 c) (kSR 2)) 0 false ∗ dutyTok ER (dc (rcp 3 c) (kSR 3)) 0 false ∗ dutyTok ER (dc (rcp 4 c) (kSR 4)) 0 false ∗
    dutyTok ER (dc (rcp 5 c) (kSR 5)) 0 false) := by
  rw [big31, kcell_dma _ (k := 1) (by decide), kcell_dma _ (k := 2) (by decide), kcell_dma _ (k := 3) (by decide), kcell_dma _ (k := 4) (by decide), kcell_dma _ (k := 5) (by decide), kcell_dma _ (k := 6) (by decide), kcell_dma _ (k := 7) (by decide), kcell_dma _ (k := 8) (by decide), kcell_dma _ (k := 9) (by decide), kcell_dma _ (k := 10) (by decide), kcell_dma _ (k := 11) (by decide), kcell_dma _ (k := 12) (by decide), kcell_dma _ (k := 13) (by decide), kcell_dma _ (k := 14) (by decide), kcell_dma _ (k := 15) (by decide), kcell_dma _ (k := 16) (by decide), kcell_dma _ (k := 17) (by decide), kcell_dma _ (k := 18) (by decide), kcell_dma _ (k := 19) (by decide), kcell_dma _ (k := 20) (by decide), kcell_dma _ (k := 21) (by decide), kcell_dma _ (k := 22) (by decide), kcell_dma _ (k := 23) (by decide), kcell_dma _ (k := 24) (by decide), kcell_dma _ (k := 25) (by decide), kcell_dma _ (k := 26) (by decide), kcell_dma _ (k := 27) (by decide), kcell_dma _ (k := 28) (by decide), kcell_dma _ (k := 29) (by decide), kcell_dma _ (k := 30) (by decide)]
  rfl

/-! ## The region's proof data -/

/-- The two arguments, as launched. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))
/-- The scratch buffers, at some contents. -/
def scratch (c : Dev nD) : sProp 𝕄 := iprop(some' (F := F) c cc0_scratch0 ∗ some' (F := F) c cc0_scratch1 ∗ some' (F := F) c cc0_scratch2 ∗ some' (F := F) c cc0_scratch3 ∗ some' (F := F) c cc0_scratch4 ∗ some' (F := F) c cc0_scratch5 ∗ some' (F := F) c cc0_scratch6 ∗ some' (F := F) c cc0_scratch7)
/-- What device `c`'s body starts from, -/
def start (c : Dev nD) : sProp 𝕄 := iprop((∃ K, recs m K ∗ lin c) ∗ levAts L lv ∗ cred (income c) ∗ args m c)
def Φ₀ (c : Dev nD) : sProp 𝕄 := iprop(start m c ∗ scratch c)
/-- and what it leaves. -/
def Φ₁ (c : Dev nD) : sProp 𝕄 :=
  iprop(args m c ∗ scratch c ∗ semVal (bar c) 0
    ∗ Pipeline.ownSems0 (Ix := Unit) (Name := ℕ) (U := UU) (Lvl := ℕ) (Val := Elt F) (τ := τ) osem c)

def dats (_ : Fin 1) (c : Dev nD) : Dat τ (Elt F) Unit ℕ UU ℕ cfg0 c where
  A w := m ((cfg0.win w).arr.view.loc (c : Thread nD τ))
  after w t := match w with
    | ⟨0, _⟩ => outAt c m
  q := fun _ => fullShare
  owed := fun t => match t with
    | ⟨0, _⟩ => O₀ c
    | ⟨_ + 1, _⟩ => 0
  Φ := fun t => match t with
    | ⟨0, _⟩ => Φ₀ m c
    | ⟨_ + 1, _⟩ => Φ₁ m c

theorem share_eq (c : Dev nD) (w : Fin cfg0.W) : (dats m 0 c).share w = fullShare := by unfold Dat.share; split <;> rfl

set_option maxHeartbeats 4000000 in
/-- What is there at the start is what the body asks for. -/
theorem enter (c : Dev nD) : iprop(Φ₀ m c ∗ ow c (dueAll c) ∗ some' (F := F) c cc0_stg0_0) ⊢ iprop(∃ K, records m K ∗ pre m c ∗ spare (F := F) c) := by
  unfold Φ₀ start scratch args lin payToks pre
  rw [args_A, args_B, ats_eq, pay_eq]
  simp only [amt_DR, amt_SR]
  iintro ⟨⟨⟨⟨%K, #HR, HP, HTb, HT⟩, #Hlev, HC, HA, HB⟩, H0, H1, H2, H3, H4, H5, H6, H7⟩, HO, HS⟩
  icases HP with ⟨HP0, HP1, HP2, HP3, HP4, HP5, HP6, HP7, HP8, HP9, HP10, HP11, HP12, HP13, HP14, HP15, HP16, HP17, HP18, HP19, HP20, HP21, HP22, HP23, HP24, HP25, HP26, HP27, HP28, HP29, HP30⟩
  icases HT with ⟨HT0, HT1, HT2, HT3, HT4, HT5, HT6, HT7, HT8, HT9, HT10, HT11, HT12, HT13, HT14, HT15, HT16, HT17, HT18, HT19, HT20, HT21, HT22, HT23, HT24, HT25, HT26, HT27, HT28, HT29, HT30⟩
  ihave HC := (creds_split (F := F) c) $$ HC
  icases HC with ⟨HCb, ⟨HCD0, HCS0⟩, ⟨HCD1, HCS1⟩, ⟨HCD2, HCS2⟩, ⟨HCD3, HCS3⟩, ⟨HCD4, HCS4⟩, ⟨HCD5, HCS5⟩⟩
  icases HA with ⟨HhAo, HhAn, HhAp, HhAc⟩
  icases HB with ⟨HhB0, HhB1⟩
  ihave H0 := (cut_aM (F := F) c) $$ H0
  icases H0 with ⟨Hao, Han, Hap, Hac⟩
  ihave H1 := (cut_bM (F := F) c) $$ H1
  icases H1 with ⟨Hb0, Hb1⟩
  ihave H2 := (cut_aB (F := F) c) $$ H2
  icases H2 with ⟨Habo, Habn, Habp, Habc⟩
  ihave H3 := (cut_bB (F := F) c) $$ H3
  icases H3 with ⟨Hbb0, Hbb1⟩
  ihave H4 := (cut_xs (F := F) c) $$ H4
  icases H4 with ⟨Hxs0, Hxs1, Hxs2, Hxs3, Hxs4, Hxs5⟩
  ihave H5 := (cut_xd (F := F) c) $$ H5
  icases H5 with ⟨Hxd0, Hxd1, Hxd2, Hxd3, Hxd4, Hxd5⟩
  ihave H6 := (cut_ss (F := F) c) $$ H6
  icases H6 with ⟨Hss0, Hss1, Hss2, Hss3, Hss4, Hss5⟩
  ihave H7 := (cut_sd (F := F) c) $$ H7
  icases H7 with ⟨⟨Hsd0, Hsd1, Hsd2, Hsd3, Hsd4, Hsd5⟩, Hsp⟩
  ihave HS := (cut_oM (F := F) c) $$ HS
  icases HS with ⟨Ho0, Ho1⟩
  iexists K
  isplitr
  · unfold records recs
    icases HR with ⟨#H1, #H2⟩
    isplitr; · iexact H1
    isplitr; · iexact H2
    iexact Hlev
  isplitr [Hsp]
  · isplitl [Hao]; · iexact Hao
    isplitl [Habo]; · iexact Habo
    isplitl [HhAo]; · iexact HhAo
    isplitl [Han]; · iexact Han
    isplitl [Habn]; · iexact Habn
    isplitl [HhAn]; · iexact HhAn
    isplitl [Hap]; · iexact Hap
    isplitl [Habp]; · iexact Habp
    isplitl [HhAp]; · iexact HhAp
    isplitl [Hac]; · iexact Hac
    isplitl [Habc]; · iexact Habc
    isplitl [HhAc]; · iexact HhAc
    isplitl [Hb0]; · iexact Hb0
    isplitl [Hbb0]; · iexact Hbb0
    isplitl [HhB0]; · iexact HhB0
    isplitl [Ho0]; · iexact Ho0
    isplitl [Hb1]; · iexact Hb1
    isplitl [Hbb1]; · iexact Hbb1
    isplitl [HhB1]; · iexact HhB1
    isplitl [Ho1]; · iexact Ho1
    isplitl [Hxs0]; · iexact Hxs0
    isplitl [Hss0]; · iexact Hss0
    isplitl [Hxd0]; · iexact Hxd0
    isplitl [Hsd0]; · iexact Hsd0
    isplitl [HT13]; · iexact HT13
    isplitl [HT25]; · iexact HT25
    isplitl [HP7 HT7]
    · isplitl [HP7]; · iexact HP7
      iexact HT7
    isplitl [HP19 HT19]
    · isplitl [HP19]; · iexact HP19
      iexact HT19
    isplitl [HP13 HCD0]
    · isplitl [HP13]; · iexact HP13
      iexact HCD0
    isplitl [HP25 HCS0]
    · isplitl [HP25]; · iexact HP25
      iexact HCS0
    isplitl [Hxs1]; · iexact Hxs1
    isplitl [Hss1]; · iexact Hss1
    isplitl [Hxd1]; · iexact Hxd1
    isplitl [Hsd1]; · iexact Hsd1
    isplitl [HT14]; · iexact HT14
    isplitl [HT26]; · iexact HT26
    isplitl [HP8 HT8]
    · isplitl [HP8]; · iexact HP8
      iexact HT8
    isplitl [HP20 HT20]
    · isplitl [HP20]; · iexact HP20
      iexact HT20
    isplitl [HP14 HCD1]
    · isplitl [HP14]; · iexact HP14
      iexact HCD1
    isplitl [HP26 HCS1]
    · isplitl [HP26]; · iexact HP26
      iexact HCS1
    isplitl [Hxs2]; · iexact Hxs2
    isplitl [Hss2]; · iexact Hss2
    isplitl [Hxd2]; · iexact Hxd2
    isplitl [Hsd2]; · iexact Hsd2
    isplitl [HT15]; · iexact HT15
    isplitl [HT27]; · iexact HT27
    isplitl [HP9 HT9]
    · isplitl [HP9]; · iexact HP9
      iexact HT9
    isplitl [HP21 HT21]
    · isplitl [HP21]; · iexact HP21
      iexact HT21
    isplitl [HP15 HCD2]
    · isplitl [HP15]; · iexact HP15
      iexact HCD2
    isplitl [HP27 HCS2]
    · isplitl [HP27]; · iexact HP27
      iexact HCS2
    isplitl [Hxs3]; · iexact Hxs3
    isplitl [Hss3]; · iexact Hss3
    isplitl [Hxd3]; · iexact Hxd3
    isplitl [Hsd3]; · iexact Hsd3
    isplitl [HT16]; · iexact HT16
    isplitl [HT28]; · iexact HT28
    isplitl [HP10 HT10]
    · isplitl [HP10]; · iexact HP10
      iexact HT10
    isplitl [HP22 HT22]
    · isplitl [HP22]; · iexact HP22
      iexact HT22
    isplitl [HP16 HCD3]
    · isplitl [HP16]; · iexact HP16
      iexact HCD3
    isplitl [HP28 HCS3]
    · isplitl [HP28]; · iexact HP28
      iexact HCS3
    isplitl [Hxs4]; · iexact Hxs4
    isplitl [Hss4]; · iexact Hss4
    isplitl [Hxd4]; · iexact Hxd4
    isplitl [Hsd4]; · iexact Hsd4
    isplitl [HT17]; · iexact HT17
    isplitl [HT29]; · iexact HT29
    isplitl [HP11 HT11]
    · isplitl [HP11]; · iexact HP11
      iexact HT11
    isplitl [HP23 HT23]
    · isplitl [HP23]; · iexact HP23
      iexact HT23
    isplitl [HP17 HCD4]
    · isplitl [HP17]; · iexact HP17
      iexact HCD4
    isplitl [HP29 HCS4]
    · isplitl [HP29]; · iexact HP29
      iexact HCS4
    isplitl [Hxs5]; · iexact Hxs5
    isplitl [Hss5]; · iexact Hss5
    isplitl [Hxd5]; · iexact Hxd5
    isplitl [Hsd5]; · iexact Hsd5
    isplitl [HT18]; · iexact HT18
    isplitl [HT30]; · iexact HT30
    isplitl [HP12 HT12]
    · isplitl [HP12]; · iexact HP12
      iexact HT12
    isplitl [HP24 HT24]
    · isplitl [HP24]; · iexact HP24
      iexact HT24
    isplitl [HP18 HCD5]
    · isplitl [HP18]; · iexact HP18
      iexact HCD5
    isplitl [HP30 HCS5]
    · isplitl [HP30]; · iexact HP30
      iexact HCS5
    isplitl [HP1 HT1]
    · isplitl [HP1]; · iexact HP1
      iexact HT1
    isplitl [HP2 HT2]
    · isplitl [HP2]; · iexact HP2
      iexact HT2
    isplitl [HP3 HT3]
    · isplitl [HP3]; · iexact HP3
      iexact HT3
    isplitl [HP4 HT4]
    · isplitl [HP4]; · iexact HP4
      iexact HT4
    isplitl [HP5 HT5]
    · isplitl [HP5]; · iexact HP5
      iexact HT5
    isplitl [HP6 HT6]
    · isplitl [HP6]; · iexact HP6
      iexact HT6
    isplitl [HO]; · iexact HO
    isplitl [HP0 HCb]
    · isplitl [HP0]; · iexact HP0
      iexact HCb
    isplitl [HTb]; · iexact HTb
    iexact HT0
  · iexact Hsp

theorem forget {sp : Space} {sh : Shape} {e : EltTy} (c : Dev nD) (M : Memref sig .tc sp sh e) (X : Vec F sh e) : own c M X ⊢ anyv c M := by
  unfold anyv
  iintro H
  iexists X
  iexact H

theorem own_sems (c : Dev nD) :
    (Pipeline.ownSems0 (Ix := Unit) (Name := ℕ) (U := UU) (Lvl := ℕ) (Val := Elt F) (τ := τ) osem c : sProp 𝕄) = iprop(
    shut c 1 ∗ shut c 2 ∗ shut c 3 ∗ shut c 4 ∗ shut c 5 ∗ shut c 6 ∗ shut c 7 ∗ shut c 8 ∗ shut c 9 ∗ shut c 10 ∗
    shut c 11 ∗ shut c 12 ∗ shut c 13 ∗ shut c 14 ∗ shut c 15 ∗ shut c 16 ∗ shut c 17 ∗ shut c 18 ∗ shut c 19 ∗ shut c 20 ∗
    shut c 21 ∗ shut c 22 ∗ shut c 23 ∗ shut c 24 ∗ shut c 25 ∗ shut c 26 ∗ shut c 27 ∗ shut c 28 ∗ shut c 29 ∗ shut c 30) := big30 _

set_option maxHeartbeats 4000000 in
/-- What the body ends with is what it leaves, and the result. -/
theorem leave (c : Dev nD) : iprop(post m c ∗ spare (F := F) c) ⊢ iprop(Φ₁ m c ∗ ow c [] ∗ own c oM (outAt c m)) := by
  unfold Φ₁ scratch args post
  rw [args_A, args_B, own_sems]
  iintro ⟨⟨Hao, Habo, HhAo, Han, Habn, HhAn, Hap, Habp, HhAp, Hac, Habc, HhAc, Hb0, Hbb0, HhB0, Ho0, Hb1, Hbb1, HhB1, Ho1, Hxs0, Hss0, Hxd0, Hsd0, HV7, HV19, HV13, HV25, Hxs1, Hss1, Hxd1, Hsd1, HV8, HV20, HV14, HV26, Hxs2, Hss2, Hxd2, Hsd2, HV9, HV21, HV15, HV27, Hxs3, Hss3, Hxd3, Hsd3, HV10, HV22, HV16, HV28, Hxs4, Hss4, Hxd4, Hsd4, HV11, HV23, HV17, HV29, Hxs5, Hss5, Hxd5, Hsd5, HV12, HV24, HV18, HV30, HV1, HV2, HV3, HV4, HV5, HV6, HO, HV0⟩, Hsp⟩
  ihave Hao := (forget c _ _) $$ Hao
  ihave Han := (forget c _ _) $$ Han
  ihave Hap := (forget c _ _) $$ Hap
  ihave Hac := (forget c _ _) $$ Hac
  ihave Hb0 := (forget c _ _) $$ Hb0
  ihave Hb1 := (forget c _ _) $$ Hb1
  ihave Habo := (forget c _ _) $$ Habo
  ihave Habn := (forget c _ _) $$ Habn
  ihave Habp := (forget c _ _) $$ Habp
  ihave Habc := (forget c _ _) $$ Habc
  ihave Hbb0 := (forget c _ _) $$ Hbb0
  ihave Hbb1 := (forget c _ _) $$ Hbb1
  ihave Hxd0 := (forget c _ _) $$ Hxd0
  ihave Hxd1 := (forget c _ _) $$ Hxd1
  ihave Hxd2 := (forget c _ _) $$ Hxd2
  ihave Hxd3 := (forget c _ _) $$ Hxd3
  ihave Hxd4 := (forget c _ _) $$ Hxd4
  ihave Hxd5 := (forget c _ _) $$ Hxd5
  ihave Hsd0 := (forget c _ _) $$ Hsd0
  ihave Hsd1 := (forget c _ _) $$ Hsd1
  ihave Hsd2 := (forget c _ _) $$ Hsd2
  ihave Hsd3 := (forget c _ _) $$ Hsd3
  ihave Hsd4 := (forget c _ _) $$ Hsd4
  ihave Hsd5 := (forget c _ _) $$ Hsd5
  ihave H0 := (glue_aM (F := F) c) $$ [Hao Han Hap Hac]
  · isplitl [Hao]; · iexact Hao
    isplitl [Han]; · iexact Han
    isplitl [Hap]; · iexact Hap
    iexact Hac
  ihave H1 := (glue_bM (F := F) c) $$ [Hb0 Hb1]
  · isplitl [Hb0]; · iexact Hb0
    iexact Hb1
  ihave H2 := (glue_aB (F := F) c) $$ [Habo Habn Habp Habc]
  · isplitl [Habo]; · iexact Habo
    isplitl [Habn]; · iexact Habn
    isplitl [Habp]; · iexact Habp
    iexact Habc
  ihave H3 := (glue_bB (F := F) c) $$ [Hbb0 Hbb1]
  · isplitl [Hbb0]; · iexact Hbb0
    iexact Hbb1
  ihave H4 := (glue_xs (F := F) c) $$ [Hxs0 Hxs1 Hxs2 Hxs3 Hxs4 Hxs5]
  · isplitl [Hxs0]; · iexact Hxs0
    isplitl [Hxs1]; · iexact Hxs1
    isplitl [Hxs2]; · iexact Hxs2
    isplitl [Hxs3]; · iexact Hxs3
    isplitl [Hxs4]; · iexact Hxs4
    iexact Hxs5
  ihave H5 := (glue_xd (F := F) c) $$ [Hxd0 Hxd1 Hxd2 Hxd3 Hxd4 Hxd5]
  · isplitl [Hxd0]; · iexact Hxd0
    isplitl [Hxd1]; · iexact Hxd1
    isplitl [Hxd2]; · iexact Hxd2
    isplitl [Hxd3]; · iexact Hxd3
    isplitl [Hxd4]; · iexact Hxd4
    iexact Hxd5
  ihave H6 := (glue_ss (F := F) c) $$ [Hss0 Hss1 Hss2 Hss3 Hss4 Hss5]
  · isplitl [Hss0]; · iexact Hss0
    isplitl [Hss1]; · iexact Hss1
    isplitl [Hss2]; · iexact Hss2
    isplitl [Hss3]; · iexact Hss3
    isplitl [Hss4]; · iexact Hss4
    iexact Hss5
  ihave H7 := (glue_sd (F := F) c) $$ [Hsd0 Hsd1 Hsd2 Hsd3 Hsd4 Hsd5 Hsp]
  · isplitr [Hsp]
    · isplitl [Hsd0]; · iexact Hsd0
      isplitl [Hsd1]; · iexact Hsd1
      isplitl [Hsd2]; · iexact Hsd2
      isplitl [Hsd3]; · iexact Hsd3
      isplitl [Hsd4]; · iexact Hsd4
      iexact Hsd5
    · iexact Hsp
  ihave HS := (glue_out c m) $$ [Ho0 Ho1]
  · isplitl [Ho0]; · iexact Ho0
    iexact Ho1
  isplitr [HO HS]
  · isplitl [HhAo HhAn HhAp HhAc HhB0 HhB1]
    · isplitl [HhAo HhAn HhAp HhAc]
      · isplitl [HhAo]; · iexact HhAo
        isplitl [HhAn]; · iexact HhAn
        isplitl [HhAp]; · iexact HhAp
        iexact HhAc
      · isplitl [HhB0]; · iexact HhB0
        iexact HhB1
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    isplitl [HV7]; · iexact HV7
    isplitl [HV8]; · iexact HV8
    isplitl [HV9]; · iexact HV9
    isplitl [HV10]; · iexact HV10
    isplitl [HV11]; · iexact HV11
    isplitl [HV12]; · iexact HV12
    isplitl [HV13]; · iexact HV13
    isplitl [HV14]; · iexact HV14
    isplitl [HV15]; · iexact HV15
    isplitl [HV16]; · iexact HV16
    isplitl [HV17]; · iexact HV17
    isplitl [HV18]; · iexact HV18
    isplitl [HV19]; · iexact HV19
    isplitl [HV20]; · iexact HV20
    isplitl [HV21]; · iexact HV21
    isplitl [HV22]; · iexact HV22
    isplitl [HV23]; · iexact HV23
    isplitl [HV24]; · iexact HV24
    isplitl [HV25]; · iexact HV25
    isplitl [HV26]; · iexact HV26
    isplitl [HV27]; · iexact HV27
    isplitl [HV28]; · iexact HV28
    isplitl [HV29]; · iexact HV29
    iexact HV30
  isplitl [HO]; · iexact HO
  iexact HS

/-! ## The body's obligation -/

theorem O₀_owed (c : Dev nD) : (dats m 0 c).owed t0_0.castSucc = tal (dueAll c) := rfl

abbrev stg (c : Dev nD) (X : Vec F S512x2048 .f32) : sProp 𝕄 := own c oM X

def bodyPre (c : Dev nD) : sProp 𝕄 :=
  iprop(Φ₀ m c ∗ (dats m 0 c).owesAt () t0_0.castSucc ∗ (∃ d, stg c ((dats m 0 c).before (0 : Fin 1) t0_0 d)))
def bodyPost (c : Dev nD) : sProp 𝕄 :=
  iprop(Φ₁ m c ∗ (dats m 0 c).owesAt () t0_0.succ ∗ stg c (outAt c m))

theorem stage_some (c : Dev nD) (X : Vec F S512x2048 .f32) : own c oM X ⊢ some' (F := F) c cc0_stg0_0 := by
  have h := Entails.of_eq (Memref.IsWhole.exists_owns_eq (Ix := Unit) (Name := ℕ) (U := UU) (Lvl := ℕ) (Val := Elt F) (c := (c : Thread nD τ)) (m := oM) (Memref.isWhole_whole _) fullShare)
  iintro H
  iapply h
  iexists X
  iexact H

set_option maxRecDepth 8000 in
theorem body_obligation (c : Dev nD) : BodyObligation (dats m 0 c) (defs₀ (F := F)) 𝒱₀ () Set.univ := fun t => by
  rw [fin_N0 t, bigSep_W0, bigSep_W0]
  show bodyPre m c ⊢ run c (cc0_body (F := F) aH (Memref.isWhole_whole _) bH (Memref.isWhole_whole _) oM (Memref.isWhole_whole _)
    aM (Memref.isWhole_whole _) bM (Memref.isWhole_whole _) aB (Memref.isWhole_whole _) bB (Memref.isWhole_whole _) xs (Memref.isWhole_whole _)
    xd (Memref.isWhole_whole _) ss (Memref.isWhole_whole _) sd (Memref.isWhole_whole _) cc0_scratch8 cc0_scratch9 cc0_scratch10 cc0_scratch11 cc0_scratch12)
    (fun _ => bodyPost m c)
  unfold bodyPre bodyPost Dat.owesAt Pipeline.owesWithin
  iintro ⟨HΦ, ⟨%W, -, HO⟩, ⟨%d, HS⟩⟩
  ihave HS := (stage_some c _) $$ HS
  ihave H := (enter m c) $$ [HΦ HO HS]
  · isplitl [HΦ]; · iexact HΦ
    isplitl [HO]
    · unfold ow
      iexists W
      iexact HO
    iexact HS
  icases H with ⟨%K, #HR, HP, Hsp⟩
  iapply (sound m K c fun _ => _)
  isplitr; · iexact HR
  isplitl [HP]; · iexact HP
  iintro HP
  ihave H := (leave m c) $$ [HP Hsp]
  · isplitl [HP]; · iexact HP
    iexact Hsp
  icases H with ⟨HΦ, HO, HS⟩
  unfold ow
  icases HO with ⟨%W', HO⟩
  isplitl [HΦ]; · iexact HΦ
  isplitl [HO]
  · iexists W'
    isplitr; · ipureintro; exact fun _ _ => Or.inl trivial
    iexact HO
  iexact HS

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [creds, Pipeline.unscopedRestP_eq_of_list (win := cfg0.spec) (c := c) Pipeline.Prefetch.none (fun b => m ((c : Thread nD τ).loc b)) [main_arg0, main_arg1] (by decide) (by decide),
    bigSepL_cons_cons, bigSepL_singleton]
  iintro ⟨Ha, Hlev, Hcr, -, HG⟩
  imodintro
  unfold start G' args
  isplitl
  · isplitl [HG]; · iexact HG
    isplitl [Hlev]; · iexact Hlev
    isplitl [Hcr]; · iexact Hcr
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl, scopedRest0_eq, unscopedSems0_eq]
  unfold Φ₁ scratch
  iintro ⟨Ha, Hr, Hb, Hs⟩
  isplitl [Ha Hb]
  · isplitl [Hb]; · iexact Hb
    iexact Ha
  isplitl [Hs]; · iexact Hs
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · refine mayWait_tal c _ 0 (by fin_cases w; fin_cases s; exact Nat.le_refl 0) _ fun x hx => ?_
      rcases List.mem_cons.mp hx with rfl | hx
      · exact ⟨rfl, Nat.one_pos⟩
      rcases List.mem_cons.mp hx with rfl | hx
      · exact ⟨rfl, Nat.one_pos⟩
      exact due_above c 0 0 (by decide) x hx
    · rw [show (dats m 0 c).owed ⟨_ + 1, ht⟩ = 0 from rfl, MayWait_zero]
      iintro -
      iempintro

/-- The result's one block after the run, -/
theorem result_block (c : Dev nD) : (win0_0.blk (0 : Fin 1)).view.read (Elt F) ((dats m 0 c).arrAt (0 : Fin 1) cfg0.N) = outAt c m := by
  rw [show cfg0.N = ((0 : Fin 1) : Fin cfg0.N).val + 1 from rfl, (dats m 0 c).arrAt_succ (0 : Fin 1) (0 : Fin 1)]
  rw [show (cfg0.win (0 : Fin 1)).flush (0 : Fin 1) = true from by decide, if_pos rfl]
  exact View.read_write_univ _ _
/-- which is all of it. -/
theorem result (c : Dev nD) : (dats m 0 c).arrAt (0 : Fin 1) cfg0.N = outAt c m := by
  have hz : (fun a => (win0_0.index (0 : Fin 1)) a * main_v1.ty.shape.size a) = fun _ => 0 :=
    funext fun a => by fin_cases a <;> decide
  exact (Memref.read_access_unit_zero (Elt F) main_v1 hz (fun a => by fin_cases a <;> decide) _).symm.trans (result_block m c)

/-! ## The run -/

/-- What device `c`'s memory is read for at the end. -/
def Kept (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem kept (c : Dev nD) (s' : Phys nD τ sig (Elt F)) :
    iprop((unscopedSems0 c ∗ args m c) ∗ emp ∗ SI s') ⊢ (|={Set.univ}=> iprop(⌜Kept m c s'.mem⌝ ∗ SI s') : sProp 𝕄) := by
  unfold args
  iintro ⟨⟨Hu, HA, HB⟩, -, HSI⟩
  icombine HSI HA gives %hA
  icombine HSI HB gives %hB
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hA, Buf.eq_of_forall_mem_univ hB⟩
  iexact HSI

set_option maxRecDepth 8000 in
/-- On four devices, for any float values and from any memory with zero counters: every weakly fair execution of the
    program terminates, and every final state has each device's result at `outAt`, both arguments unchanged and every
    semaphore counter at zero. -/
theorem run_main : θ_run defs (onTc (τ := τ) (main (F := F))) ⟨m, fun _ => 0, ρ⟩ (fun r =>
    (∀ c : Dev nD, r.2.mem ((c : Thread nD τ).loc main_v1) = outAt c m
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := Kept m) (hY := kept m)
    (hQ := fun _ h hs => ⟨fun c => ⟨((h c).1 (0 : Fin 1)).trans (result m c), (h c).2.2.2⟩, sem_eq_zero hs fun c => (h c).2.2.1⟩)

end Cert.Mk

end
-- ==== Proof.Same.lean ====
/- 01_k — the printed kernel and the idealized one are the same program text: at `Bits` their body tables and their
   @main are equal, so a run proved of one at any float values is a run of the other. -/
module

public import proofs.«01_k».proof.Defs
public import proofs.«01_k».proof.Proof.Gen.Kernel
public import proofs.«01_k».proof.Proof.Gen.KernelIdeal

@[expose] public section

noncomputable section

namespace Cert.Mk

open Idealize.ShloMosaic

theorem defs₀_same : Cert.Kernel.defs₀ (F := Bits) = Cert.KernelIdeal.defs₀ (F := Bits) := by
  unfold Cert.Kernel.defs₀ Cert.KernelIdeal.defs₀
  congr 1
  funext x y
  match x, y with
  | 0, (t, s) => rfl

theorem defs_same : Cert.Kernel.defs (F := Bits) = Cert.KernelIdeal.defs (F := Bits) :=
  congrArg (Pipeline.defs (Cert.Kernel.pcfgs (F := Bits))) defs₀_same

end Cert.Mk

end
-- ==== Proof.RefRun.lean ====
/- 01_k — the reference's run, read back. Its 132 host operations are taken as eleven lines: four partial products, the
   choice of halves, three round trips through int8 and the sums between them. Each line is read by itself over any
   contents before it, so that a value that is used twice keeps its name; `refVal` is the whole. -/
module

public import proofs.«01_k».proof.Proof.Gen.ReferenceIdeal
public import Idealize.ShloMosaic.Lib.StableHlo.Run
public import Idealize.ShloMosaic.Lib.Quiescent
public import Idealize.ShloMosaic.Init

@[expose] public section

noncomputable section

namespace Cert.Rf

open Cert.ReferenceIdeal Cert.ReferenceIdeal.Gen Idealize.ShloMosaic Idealize.ShloMosaic.TcCoe Idealize.SL.Sem Idealize.ShloMosaic.StableHlo

variable {F : FTy → Type} [FloatOps F]

/-! ## The values -/

/-- Four blocks of 512 rows, one under the other. -/
def stackRows (u0 u1 u2 u3 : FVec F S512x2048 .f32) : FVec F S2048x2048 .f32 :=
  concatenate S2048x2048 0 [⟨S512x2048, u0⟩, ⟨S512x2048, u1⟩, ⟨S512x2048, u2⟩, ⟨S512x2048, u3⟩]
    concatenates_S512x2048_S512x2048_S512x2048_S512x2048_S2048x2048_d0

/-- Two columns of half rows, side by side. -/
def sideBySide (x y : FVec F S2048x1x1024 .f32) : FVec F S2048x2x1024 .f32 :=
  concatenate S2048x2x1024 1 [⟨S2048x1x1024, x⟩, ⟨S2048x1x1024, y⟩] concatenates_S2048x1x1024_S2048x1x1024_S2048x2x1024_d1

/-- 512 rows of A from `r`, its 1024 columns from `k`, times the 1024 rows of B from `k`. -/
def prod (A : FVec F S2048x4096 .f32) (B : FVec F S4096x2048 .f32) (r k : Nat)
    (hA : S2048x4096.Slices ![r, k] S512x1024) (hB : S4096x2048.Slices ![k, 0] S1024x2048) : FVec F S512x2048 .f32 :=
  Host.dotGeneral dot_S512x1024_S1024x2048_S512x2048_1_0_0_1_n_n none (extractStridedSlice S512x1024 ![r, k] A hA)
    (extractStridedSlice S1024x2048 ![k, 0] B hB)

def ownPart (A : FVec F S2048x4096 .f32) (B : FVec F S4096x2048 .f32) : FVec F S2048x2x1024 .f32 :=
  shapeCast S2048x2x1024 (stackRows
    (prod A B 0 0 slices_S2048x4096_S512x1024_0_0 slices_S4096x2048_S1024x2048_0_0)
    (prod A B 512 1024 slices_S2048x4096_S512x1024_512_1024 slices_S4096x2048_S1024x2048_1024_0)
    (prod A B 1024 2048 slices_S2048x4096_S512x1024_1024_2048 slices_S4096x2048_S1024x2048_2048_0)
    (prod A B 1536 3072 slices_S2048x4096_S512x1024_1536_3072 slices_S4096x2048_S1024x2048_3072_0)) shapeCasts_S2048x2048_S2048x2x1024

def afterPart (A : FVec F S2048x4096 .f32) (B : FVec F S4096x2048 .f32) : FVec F S2048x2x1024 .f32 :=
  shapeCast S2048x2x1024 (stackRows
    (prod A B 0 1024 slices_S2048x4096_S512x1024_0_1024 slices_S4096x2048_S1024x2048_1024_0)
    (prod A B 512 2048 slices_S2048x4096_S512x1024_512_2048 slices_S4096x2048_S1024x2048_2048_0)
    (prod A B 1024 3072 slices_S2048x4096_S512x1024_1024_3072 slices_S4096x2048_S1024x2048_3072_0)
    (prod A B 1536 0 slices_S2048x4096_S512x1024_1536_0 slices_S4096x2048_S1024x2048_0_0)) shapeCasts_S2048x2048_S2048x2x1024

def oppositePart (A : FVec F S2048x4096 .f32) (B : FVec F S4096x2048 .f32) : FVec F S2048x2x1024 .f32 :=
  shapeCast S2048x2x1024 (stackRows
    (prod A B 0 2048 slices_S2048x4096_S512x1024_0_2048 slices_S4096x2048_S1024x2048_2048_0)
    (prod A B 512 3072 slices_S2048x4096_S512x1024_512_3072 slices_S4096x2048_S1024x2048_3072_0)
    (prod A B 1024 0 slices_S2048x4096_S512x1024_1024_0 slices_S4096x2048_S1024x2048_0_0)
    (prod A B 1536 1024 slices_S2048x4096_S512x1024_1536_1024 slices_S4096x2048_S1024x2048_1024_0)) shapeCasts_S2048x2048_S2048x2x1024

def beforePart (A : FVec F S2048x4096 .f32) (B : FVec F S4096x2048 .f32) : FVec F S2048x2x1024 .f32 :=
  shapeCast S2048x2x1024 (stackRows
    (prod A B 0 3072 slices_S2048x4096_S512x1024_0_3072 slices_S4096x2048_S1024x2048_3072_0)
    (prod A B 512 0 slices_S2048x4096_S512x1024_512_0 slices_S4096x2048_S1024x2048_0_0)
    (prod A B 1024 1024 slices_S2048x4096_S512x1024_1024_1024 slices_S4096x2048_S1024x2048_1024_0)
    (prod A B 1536 2048 slices_S2048x4096_S512x1024_1536_2048 slices_S4096x2048_S1024x2048_2048_0)) shapeCasts_S2048x2048_S2048x2x1024

/-- The left halves of `x` with the right halves of `y`. -/
def halves (x y : FVec F S2048x2x1024 .f32) : FVec F S2048x2x1024 .f32 :=
  sideBySide (extractStridedSlice S2048x1x1024 ![0, 0, 0] x slices_S2048x2x1024_S2048x1x1024_0_0_0)
    (extractStridedSlice S2048x1x1024 ![0, 1, 0] y slices_S2048x2x1024_S2048x1x1024_0_1_0)

/-- Each half row's largest magnitude, or 1e-20 if that is larger. -/
def top (x : FVec F S2048x2x1024 .f32) : FVec F S2048x2x1 .f32 :=
  maximumf (broadcastInDim S2048x2x1 ![0, 1] bcast_S2048x2_S2048x2x1_0_1
      (Host.reduce FloatOps.maximumf (Host.absf x) (constant S_ .f32 0xFF800000#32) reducesTo_S2048x2x1024_S2048x2_d2 h_S_))
    (broadcastInDim S2048x2x1 ![] bcast_S_S2048x2x1 (constant S_ .f32 0x1E3CE508#32))

/-- The int8 codes at scale `t`, read back. -/
def decoded (x : FVec F S2048x2x1024 .f32) (t : FVec F S2048x2x1 .f32) : FVec F S2048x2x1024 .f32 :=
  mulf
    (sitofp .f32 (extsi 32 (trunci 8 (fptosi 32 (Host.roundeven (mulf x
      (broadcastInDim S2048x2x1024 ![0, 1, 2] bcast_S2048x2x1_S2048x2x1024_0_1_2
        (Host.divf (broadcastInDim S2048x2x1 ![] bcast_S_S2048x2x1 (constant S_ .f32 0x42FE0000#32)) t))))) natLt_8_32) natLt_8_32))
    (broadcastInDim S2048x2x1024 ![0, 1, 2] bcast_S2048x2x1_S2048x2x1024_0_1_2
      (mulf t (broadcastInDim S2048x2x1 ![] bcast_S_S2048x2x1 (constant S_ .f32 0x3C010204#32))))

def roundTrip (x : FVec F S2048x2x1024 .f32) : FVec F S2048x2x1024 .f32 := decoded x (top x)

/-- The reference's result. -/
def refVal (A : FVec F S2048x4096 .f32) (B : FVec F S4096x2048 .f32) : FVec F S2048x2048 .f32 :=
  shapeCast S2048x2048 (addf (addf (roundTrip (halves (beforePart A B) (afterPart A B))) (ownPart A B))
    (roundTrip (addf (roundTrip (oppositePart A B)) (halves (afterPart A B) (beforePart A B))))) shapeCasts_S2048x2x1024_S2048x2048

/-! ## The operations -/

/-- own: partial product c of row block c -/
abbrev opsOwn : List (HloOp τ sig (Elt F)) :=
  [ unary main_arg0 main_v0 ((extractStridedSlice S512x1024 ![0, 0] · slices_S2048x4096_S512x1024_0_0) : FVec F S2048x4096 .f32 → FVec F S512x1024 .f32),
    unary main_arg1 main_v1 ((extractStridedSlice S1024x2048 ![0, 0] · slices_S4096x2048_S1024x2048_0_0) : FVec F S4096x2048 .f32 → FVec F S1024x2048 .f32),
    binary main_v0 main_v1 main_v2 ((fun l r => Host.dotGeneral dot_S512x1024_S1024x2048_S512x2048_1_0_0_1_n_n none l r) : FVec F S512x1024 .f32 → FVec F S1024x2048 .f32 → FVec F S512x2048 .f32),
    unary main_arg0 main_v3 ((extractStridedSlice S512x1024 ![512, 1024] · slices_S2048x4096_S512x1024_512_1024) : FVec F S2048x4096 .f32 → FVec F S512x1024 .f32),
    unary main_arg1 main_v4 ((extractStridedSlice S1024x2048 ![1024, 0] · slices_S4096x2048_S1024x2048_1024_0) : FVec F S4096x2048 .f32 → FVec F S1024x2048 .f32),
    binary main_v3 main_v4 main_v5 ((fun l r => Host.dotGeneral dot_S512x1024_S1024x2048_S512x2048_1_0_0_1_n_n none l r) : FVec F S512x1024 .f32 → FVec F S1024x2048 .f32 → FVec F S512x2048 .f32),
    unary main_arg0 main_v6 ((extractStridedSlice S512x1024 ![1024, 2048] · slices_S2048x4096_S512x1024_1024_2048) : FVec F S2048x4096 .f32 → FVec F S512x1024 .f32),
    unary main_arg1 main_v7 ((extractStridedSlice S1024x2048 ![2048, 0] · slices_S4096x2048_S1024x2048_2048_0) : FVec F S4096x2048 .f32 → FVec F S1024x2048 .f32),
    binary main_v6 main_v7 main_v8 ((fun l r => Host.dotGeneral dot_S512x1024_S1024x2048_S512x2048_1_0_0_1_n_n none l r) : FVec F S512x1024 .f32 → FVec F S1024x2048 .f32 → FVec F S512x2048 .f32),
    unary main_arg0 main_v9 ((extractStridedSlice S512x1024 ![1536, 3072] · slices_S2048x4096_S512x1024_1536_3072) : FVec F S2048x4096 .f32 → FVec F S512x1024 .f32),
    unary main_arg1 main_v10 ((extractStridedSlice S1024x2048 ![3072, 0] · slices_S4096x2048_S1024x2048_3072_0) : FVec F S4096x2048 .f32 → FVec F S1024x2048 .f32),
    binary main_v9 main_v10 main_v11 ((fun l r => Host.dotGeneral dot_S512x1024_S1024x2048_S512x2048_1_0_0_1_n_n none l r) : FVec F S512x1024 .f32 → FVec F S1024x2048 .f32 → FVec F S512x2048 .f32),
    nary ![main_v2, main_v5, main_v8, main_v11] main_v12 (fun u => stackRows (u 0) (u 1) (u 2) (u 3)),
    reshape main_v12 main_v13 (rfl : (.f32 : EltTy) = .f32) shapeCasts_S2048x2048_S2048x2x1024 ]

/-- partial product c + 1 -/
abbrev opsAfter : List (HloOp τ sig (Elt F)) :=
  [ unary main_arg0 main_v14 ((extractStridedSlice S512x1024 ![0, 1024] · slices_S2048x4096_S512x1024_0_1024) : FVec F S2048x4096 .f32 → FVec F S512x1024 .f32),
    unary main_arg1 main_v15 ((extractStridedSlice S1024x2048 ![1024, 0] · slices_S4096x2048_S1024x2048_1024_0) : FVec F S4096x2048 .f32 → FVec F S1024x2048 .f32),
    binary main_v14 main_v15 main_v16 ((fun l r => Host.dotGeneral dot_S512x1024_S1024x2048_S512x2048_1_0_0_1_n_n none l r) : FVec F S512x1024 .f32 → FVec F S1024x2048 .f32 → FVec F S512x2048 .f32),
    unary main_arg0 main_v17 ((extractStridedSlice S512x1024 ![512, 2048] · slices_S2048x4096_S512x1024_512_2048) : FVec F S2048x4096 .f32 → FVec F S512x1024 .f32),
    unary main_arg1 main_v18 ((extractStridedSlice S1024x2048 ![2048, 0] · slices_S4096x2048_S1024x2048_2048_0) : FVec F S4096x2048 .f32 → FVec F S1024x2048 .f32),
    binary main_v17 main_v18 main_v19 ((fun l r => Host.dotGeneral dot_S512x1024_S1024x2048_S512x2048_1_0_0_1_n_n none l r) : FVec F S512x1024 .f32 → FVec F S1024x2048 .f32 → FVec F S512x2048 .f32),
    unary main_arg0 main_v20 ((extractStridedSlice S512x1024 ![1024, 3072] · slices_S2048x4096_S512x1024_1024_3072) : FVec F S2048x4096 .f32 → FVec F S512x1024 .f32),
    unary main_arg1 main_v21 ((extractStridedSlice S1024x2048 ![3072, 0] · slices_S4096x2048_S1024x2048_3072_0) : FVec F S4096x2048 .f32 → FVec F S1024x2048 .f32),
    binary main_v20 main_v21 main_v22 ((fun l r => Host.dotGeneral dot_S512x1024_S1024x2048_S512x2048_1_0_0_1_n_n none l r) : FVec F S512x1024 .f32 → FVec F S1024x2048 .f32 → FVec F S512x2048 .f32),
    unary main_arg0 main_v23 ((extractStridedSlice S512x1024 ![1536, 0] · slices_S2048x4096_S512x1024_1536_0) : FVec F S2048x4096 .f32 → FVec F S512x1024 .f32),
    unary main_arg1 main_v24 ((extractStridedSlice S1024x2048 ![0, 0] · slices_S4096x2048_S1024x2048_0_0) : FVec F S4096x2048 .f32 → FVec F S1024x2048 .f32),
    binary main_v23 main_v24 main_v25 ((fun l r => Host.dotGeneral dot_S512x1024_S1024x2048_S512x2048_1_0_0_1_n_n none l r) : FVec F S512x1024 .f32 → FVec F S1024x2048 .f32 → FVec F S512x2048 .f32),
    nary ![main_v16, main_v19, main_v22, main_v25] main_v26 (fun u => stackRows (u 0) (u 1) (u 2) (u 3)),
    reshape main_v26 main_v27 (rfl : (.f32 : EltTy) = .f32) shapeCasts_S2048x2048_S2048x2x1024 ]

/-- partial product c + 2 -/
abbrev opsOpposite : List (HloOp τ sig (Elt F)) :=
  [ unary main_arg0 main_v28 ((extractStridedSlice S512x1024 ![0, 2048] · slices_S2048x4096_S512x1024_0_2048) : FVec F S2048x4096 .f32 → FVec F S512x1024 .f32),
    unary main_arg1 main_v29 ((extractStridedSlice S1024x2048 ![2048, 0] · slices_S4096x2048_S1024x2048_2048_0) : FVec F S4096x2048 .f32 → FVec F S1024x2048 .f32),
    binary main_v28 main_v29 main_v30 ((fun l r => Host.dotGeneral dot_S512x1024_S1024x2048_S512x2048_1_0_0_1_n_n none l r) : FVec F S512x1024 .f32 → FVec F S1024x2048 .f32 → FVec F S512x2048 .f32),
    unary main_arg0 main_v31 ((extractStridedSlice S512x1024 ![512, 3072] · slices_S2048x4096_S512x1024_512_3072) : FVec F S2048x4096 .f32 → FVec F S512x1024 .f32),
    unary main_arg1 main_v32 ((extractStridedSlice S1024x2048 ![3072, 0] · slices_S4096x2048_S1024x2048_3072_0) : FVec F S4096x2048 .f32 → FVec F S1024x2048 .f32),
    binary main_v31 main_v32 main_v33 ((fun l r => Host.dotGeneral dot_S512x1024_S1024x2048_S512x2048_1_0_0_1_n_n none l r) : FVec F S512x1024 .f32 → FVec F S1024x2048 .f32 → FVec F S512x2048 .f32),
    unary main_arg0 main_v34 ((extractStridedSlice S512x1024 ![1024, 0] · slices_S2048x4096_S512x1024_1024_0) : FVec F S2048x4096 .f32 → FVec F S512x1024 .f32),
    unary main_arg1 main_v35 ((extractStridedSlice S1024x2048 ![0, 0] · slices_S4096x2048_S1024x2048_0_0) : FVec F S4096x2048 .f32 → FVec F S1024x2048 .f32),
    binary main_v34 main_v35 main_v36 ((fun l r => Host.dotGeneral dot_S512x1024_S1024x2048_S512x2048_1_0_0_1_n_n none l r) : FVec F S512x1024 .f32 → FVec F S1024x2048 .f32 → FVec F S512x2048 .f32),
    unary main_arg0 main_v37 ((extractStridedSlice S512x1024 ![1536, 1024] · slices_S2048x4096_S512x1024_1536_1024) : FVec F S2048x4096 .f32 → FVec F S512x1024 .f32),
    unary main_arg1 main_v38 ((extractStridedSlice S1024x2048 ![1024, 0] · slices_S4096x2048_S1024x2048_1024_0) : FVec F S4096x2048 .f32 → FVec F S1024x2048 .f32),
    binary main_v37 main_v38 main_v39 ((fun l r => Host.dotGeneral dot_S512x1024_S1024x2048_S512x2048_1_0_0_1_n_n none l r) : FVec F S512x1024 .f32 → FVec F S1024x2048 .f32 → FVec F S512x2048 .f32),
    nary ![main_v30, main_v33, main_v36, main_v39] main_v40 (fun u => stackRows (u 0) (u 1) (u 2) (u 3)),
    reshape main_v40 main_v41 (rfl : (.f32 : EltTy) = .f32) shapeCasts_S2048x2048_S2048x2x1024 ]

/-- partial product c + 3 -/
abbrev opsBefore : List (HloOp τ sig (Elt F)) :=
  [ unary main_arg0 main_v42 ((extractStridedSlice S512x1024 ![0, 3072] · slices_S2048x4096_S512x1024_0_3072) : FVec F S2048x4096 .f32 → FVec F S512x1024 .f32),
    unary main_arg1 main_v43 ((extractStridedSlice S1024x2048 ![3072, 0] · slices_S4096x2048_S1024x2048_3072_0) : FVec F S4096x2048 .f32 → FVec F S1024x2048 .f32),
    binary main_v42 main_v43 main_v44 ((fun l r => Host.dotGeneral dot_S512x1024_S1024x2048_S512x2048_1_0_0_1_n_n none l r) : FVec F S512x1024 .f32 → FVec F S1024x2048 .f32 → FVec F S512x2048 .f32),
    unary main_arg0 main_v45 ((extractStridedSlice S512x1024 ![512, 0] · slices_S2048x4096_S512x1024_512_0) : FVec F S2048x4096 .f32 → FVec F S512x1024 .f32),
    unary main_arg1 main_v46 ((extractStridedSlice S1024x2048 ![0, 0] · slices_S4096x2048_S1024x2048_0_0) : FVec F S4096x2048 .f32 → FVec F S1024x2048 .f32),
    binary main_v45 main_v46 main_v47 ((fun l r => Host.dotGeneral dot_S512x1024_S1024x2048_S512x2048_1_0_0_1_n_n none l r) : FVec F S512x1024 .f32 → FVec F S1024x2048 .f32 → FVec F S512x2048 .f32),
    unary main_arg0 main_v48 ((extractStridedSlice S512x1024 ![1024, 1024] · slices_S2048x4096_S512x1024_1024_1024) : FVec F S2048x4096 .f32 → FVec F S512x1024 .f32),
    unary main_arg1 main_v49 ((extractStridedSlice S1024x2048 ![1024, 0] · slices_S4096x2048_S1024x2048_1024_0) : FVec F S4096x2048 .f32 → FVec F S1024x2048 .f32),
    binary main_v48 main_v49 main_v50 ((fun l r => Host.dotGeneral dot_S512x1024_S1024x2048_S512x2048_1_0_0_1_n_n none l r) : FVec F S512x1024 .f32 → FVec F S1024x2048 .f32 → FVec F S512x2048 .f32),
    unary main_arg0 main_v51 ((extractStridedSlice S512x1024 ![1536, 2048] · slices_S2048x4096_S512x1024_1536_2048) : FVec F S2048x4096 .f32 → FVec F S512x1024 .f32),
    unary main_arg1 main_v52 ((extractStridedSlice S1024x2048 ![2048, 0] · slices_S4096x2048_S1024x2048_2048_0) : FVec F S4096x2048 .f32 → FVec F S1024x2048 .f32),
    binary main_v51 main_v52 main_v53 ((fun l r => Host.dotGeneral dot_S512x1024_S1024x2048_S512x2048_1_0_0_1_n_n none l r) : FVec F S512x1024 .f32 → FVec F S1024x2048 .f32 → FVec F S512x2048 .f32),
    nary ![main_v44, main_v47, main_v50, main_v53] main_v54 (fun u => stackRows (u 0) (u 1) (u 2) (u 3)),
    reshape main_v54 main_v55 (rfl : (.f32 : EltTy) = .f32) shapeCasts_S2048x2048_S2048x2x1024 ]

/-- the halves that travel directly and those that join the relay -/
abbrev opsHalves : List (HloOp τ sig (Elt F)) :=
  [ unary main_v55 main_v56 ((extractStridedSlice S2048x1x1024 ![0, 0, 0] · slices_S2048x2x1024_S2048x1x1024_0_0_0) : FVec F S2048x2x1024 .f32 → FVec F S2048x1x1024 .f32),
    unary main_v27 main_v57 ((extractStridedSlice S2048x1x1024 ![0, 1, 0] · slices_S2048x2x1024_S2048x1x1024_0_1_0) : FVec F S2048x2x1024 .f32 → FVec F S2048x1x1024 .f32),
    binary main_v56 main_v57 main_v58 sideBySide,
    unary main_v27 main_v59 ((extractStridedSlice S2048x1x1024 ![0, 0, 0] · slices_S2048x2x1024_S2048x1x1024_0_0_0) : FVec F S2048x2x1024 .f32 → FVec F S2048x1x1024 .f32),
    unary main_v55 main_v60 ((extractStridedSlice S2048x1x1024 ![0, 1, 0] · slices_S2048x2x1024_S2048x1x1024_0_1_0) : FVec F S2048x2x1024 .f32 → FVec F S2048x1x1024 .f32),
    binary main_v59 main_v60 main_v61 sideBySide ]

/-- the direct halves' round trip -/
abbrev opsTrip1 : List (HloOp τ sig (Elt F)) :=
  [ unary main_v58 main_v62 (Host.absf : FVec F S2048x2x1024 .f32 → FVec F S2048x2x1024 .f32),
    nullary main_cst (constant S_ .f32 0xFF800000#32),
    binary main_v62 main_cst main_v63 ((fun x v => Host.reduce FloatOps.maximumf x v reducesTo_S2048x2x1024_S2048x2_d2 h_S_) : FVec F S2048x2x1024 .f32 → FVec F S_ .f32 → FVec F S2048x2 .f32),
    unary main_v63 main_v64 (broadcastInDim S2048x2x1 ![0, 1] bcast_S2048x2_S2048x2x1_0_1 : FVec F S2048x2 .f32 → FVec F S2048x2x1 .f32),
    nullary main_cst_0 (constant S_ .f32 0x1E3CE508#32),
    unary main_cst_0 main_v65 (broadcastInDim S2048x2x1 ![] bcast_S_S2048x2x1 : FVec F S_ .f32 → FVec F S2048x2x1 .f32),
    binary main_v64 main_v65 main_v66 (maximumf : FVec F S2048x2x1 .f32 → FVec F S2048x2x1 .f32 → FVec F S2048x2x1 .f32),
    nullary main_cst_1 (constant S_ .f32 0x42FE0000#32),
    unary main_cst_1 main_v67 (broadcastInDim S2048x2x1 ![] bcast_S_S2048x2x1 : FVec F S_ .f32 → FVec F S2048x2x1 .f32),
    binary main_v67 main_v66 main_v68 (Host.divf : FVec F S2048x2x1 .f32 → FVec F S2048x2x1 .f32 → FVec F S2048x2x1 .f32),
    unary main_v68 main_v69 (broadcastInDim S2048x2x1024 ![0, 1, 2] bcast_S2048x2x1_S2048x2x1024_0_1_2 : FVec F S2048x2x1 .f32 → FVec F S2048x2x1024 .f32),
    binary main_v58 main_v69 main_v70 (mulf : FVec F S2048x2x1024 .f32 → FVec F S2048x2x1024 .f32 → FVec F S2048x2x1024 .f32),
    TRef.unary (TRef.of (T := ⟨S2048x2x1024, .f32⟩) main_v70) (TRef.of (T := ⟨S2048x2x1024, .f32⟩) main_v71) Host.roundeven,
    unary main_v71 main_v72 (fptosi 32 : FVec F S2048x2x1024 .f32 → IVec S2048x2x1024 32),
    unary main_v72 main_v73 ((trunci 8 · natLt_8_32) : IVec S2048x2x1024 32 → IVec S2048x2x1024 8),
    unary main_v73 main_v74 ((extsi 32 · natLt_8_32) : IVec S2048x2x1024 8 → IVec S2048x2x1024 32),
    unary main_v74 main_v75 (sitofp .f32 : IVec S2048x2x1024 32 → FVec F S2048x2x1024 .f32),
    nullary main_cst_2 (constant S_ .f32 0x3C010204#32),
    unary main_cst_2 main_v76 (broadcastInDim S2048x2x1 ![] bcast_S_S2048x2x1 : FVec F S_ .f32 → FVec F S2048x2x1 .f32),
    binary main_v66 main_v76 main_v77 (mulf : FVec F S2048x2x1 .f32 → FVec F S2048x2x1 .f32 → FVec F S2048x2x1 .f32),
    unary main_v77 main_v78 (broadcastInDim S2048x2x1024 ![0, 1, 2] bcast_S2048x2x1_S2048x2x1024_0_1_2 : FVec F S2048x2x1 .f32 → FVec F S2048x2x1024 .f32),
    binary main_v75 main_v78 main_v79 (mulf : FVec F S2048x2x1024 .f32 → FVec F S2048x2x1024 .f32 → FVec F S2048x2x1024 .f32) ]

/-- plus own -/
abbrev opsSum1 : List (HloOp τ sig (Elt F)) :=
  [ binary main_v79 main_v13 main_v80 (addf : FVec F S2048x2x1024 .f32 → FVec F S2048x2x1024 .f32 → FVec F S2048x2x1024 .f32) ]

/-- the opposite part's round trip -/
abbrev opsTrip2 : List (HloOp τ sig (Elt F)) :=
  [ unary main_v41 main_v81 (Host.absf : FVec F S2048x2x1024 .f32 → FVec F S2048x2x1024 .f32),
    nullary main_cst_3 (constant S_ .f32 0xFF800000#32),
    binary main_v81 main_cst_3 main_v82 ((fun x v => Host.reduce FloatOps.maximumf x v reducesTo_S2048x2x1024_S2048x2_d2 h_S_) : FVec F S2048x2x1024 .f32 → FVec F S_ .f32 → FVec F S2048x2 .f32),
    unary main_v82 main_v83 (broadcastInDim S2048x2x1 ![0, 1] bcast_S2048x2_S2048x2x1_0_1 : FVec F S2048x2 .f32 → FVec F S2048x2x1 .f32),
    nullary main_cst_4 (constant S_ .f32 0x1E3CE508#32),
    unary main_cst_4 main_v84 (broadcastInDim S2048x2x1 ![] bcast_S_S2048x2x1 : FVec F S_ .f32 → FVec F S2048x2x1 .f32),
    binary main_v83 main_v84 main_v85 (maximumf : FVec F S2048x2x1 .f32 → FVec F S2048x2x1 .f32 → FVec F S2048x2x1 .f32),
    nullary main_cst_5 (constant S_ .f32 0x42FE0000#32),
    unary main_cst_5 main_v86 (broadcastInDim S2048x2x1 ![] bcast_S_S2048x2x1 : FVec F S_ .f32 → FVec F S2048x2x1 .f32),
    binary main_v86 main_v85 main_v87 (Host.divf : FVec F S2048x2x1 .f32 → FVec F S2048x2x1 .f32 → FVec F S2048x2x1 .f32),
    unary main_v87 main_v88 (broadcastInDim S2048x2x1024 ![0, 1, 2] bcast_S2048x2x1_S2048x2x1024_0_1_2 : FVec F S2048x2x1 .f32 → FVec F S2048x2x1024 .f32),
    binary main_v41 main_v88 main_v89 (mulf : FVec F S2048x2x1024 .f32 → FVec F S2048x2x1024 .f32 → FVec F S2048x2x1024 .f32),
    TRef.unary (TRef.of (T := ⟨S2048x2x1024, .f32⟩) main_v89) (TRef.of (T := ⟨S2048x2x1024, .f32⟩) main_v90) Host.roundeven,
    unary main_v90 main_v91 (fptosi 32 : FVec F S2048x2x1024 .f32 → IVec S2048x2x1024 32),
    unary main_v91 main_v92 ((trunci 8 · natLt_8_32) : IVec S2048x2x1024 32 → IVec S2048x2x1024 8),
    unary main_v92 main_v93 ((extsi 32 · natLt_8_32) : IVec S2048x2x1024 8 → IVec S2048x2x1024 32),
    unary main_v93 main_v94 (sitofp .f32 : IVec S2048x2x1024 32 → FVec F S2048x2x1024 .f32),
    nullary main_cst_6 (constant S_ .f32 0x3C010204#32),
    unary main_cst_6 main_v95 (broadcastInDim S2048x2x1 ![] bcast_S_S2048x2x1 : FVec F S_ .f32 → FVec F S2048x2x1 .f32),
    binary main_v85 main_v95 main_v96 (mulf : FVec F S2048x2x1 .f32 → FVec F S2048x2x1 .f32 → FVec F S2048x2x1 .f32),
    unary main_v96 main_v97 (broadcastInDim S2048x2x1024 ![0, 1, 2] bcast_S2048x2x1_S2048x2x1024_0_1_2 : FVec F S2048x2x1 .f32 → FVec F S2048x2x1024 .f32),
    binary main_v94 main_v97 main_v98 (mulf : FVec F S2048x2x1024 .f32 → FVec F S2048x2x1024 .f32 → FVec F S2048x2x1024 .f32) ]

/-- plus the relaying neighbour's part -/
abbrev opsSum2 : List (HloOp τ sig (Elt F)) :=
  [ binary main_v98 main_v61 main_v99 (addf : FVec F S2048x2x1024 .f32 → FVec F S2048x2x1024 .f32 → FVec F S2048x2x1024 .f32) ]

/-- the sum's round trip -/
abbrev opsTrip3 : List (HloOp τ sig (Elt F)) :=
  [ unary main_v99 main_v100 (Host.absf : FVec F S2048x2x1024 .f32 → FVec F S2048x2x1024 .f32),
    nullary main_cst_7 (constant S_ .f32 0xFF800000#32),
    binary main_v100 main_cst_7 main_v101 ((fun x v => Host.reduce FloatOps.maximumf x v reducesTo_S2048x2x1024_S2048x2_d2 h_S_) : FVec F S2048x2x1024 .f32 → FVec F S_ .f32 → FVec F S2048x2 .f32),
    unary main_v101 main_v102 (broadcastInDim S2048x2x1 ![0, 1] bcast_S2048x2_S2048x2x1_0_1 : FVec F S2048x2 .f32 → FVec F S2048x2x1 .f32),
    nullary main_cst_8 (constant S_ .f32 0x1E3CE508#32),
    unary main_cst_8 main_v103 (broadcastInDim S2048x2x1 ![] bcast_S_S2048x2x1 : FVec F S_ .f32 → FVec F S2048x2x1 .f32),
    binary main_v102 main_v103 main_v104 (maximumf : FVec F S2048x2x1 .f32 → FVec F S2048x2x1 .f32 → FVec F S2048x2x1 .f32),
    nullary main_cst_9 (constant S_ .f32 0x42FE0000#32),
    unary main_cst_9 main_v105 (broadcastInDim S2048x2x1 ![] bcast_S_S2048x2x1 : FVec F S_ .f32 → FVec F S2048x2x1 .f32),
    binary main_v105 main_v104 main_v106 (Host.divf : FVec F S2048x2x1 .f32 → FVec F S2048x2x1 .f32 → FVec F S2048x2x1 .f32),
    unary main_v106 main_v107 (broadcastInDim S2048x2x1024 ![0, 1, 2] bcast_S2048x2x1_S2048x2x1024_0_1_2 : FVec F S2048x2x1 .f32 → FVec F S2048x2x1024 .f32),
    binary main_v99 main_v107 main_v108 (mulf : FVec F S2048x2x1024 .f32 → FVec F S2048x2x1024 .f32 → FVec F S2048x2x1024 .f32),
    TRef.unary (TRef.of (T := ⟨S2048x2x1024, .f32⟩) main_v108) (TRef.of (T := ⟨S2048x2x1024, .f32⟩) main_v109) Host.roundeven,
    unary main_v109 main_v110 (fptosi 32 : FVec F S2048x2x1024 .f32 → IVec S2048x2x1024 32),
    unary main_v110 main_v111 ((trunci 8 · natLt_8_32) : IVec S2048x2x1024 32 → IVec S2048x2x1024 8),
    unary main_v111 main_v112 ((extsi 32 · natLt_8_32) : IVec S2048x2x1024 8 → IVec S2048x2x1024 32),
    unary main_v112 main_v113 (sitofp .f32 : IVec S2048x2x1024 32 → FVec F S2048x2x1024 .f32),
    nullary main_cst_10 (constant S_ .f32 0x3C010204#32),
    unary main_cst_10 main_v114 (broadcastInDim S2048x2x1 ![] bcast_S_S2048x2x1 : FVec F S_ .f32 → FVec F S2048x2x1 .f32),
    binary main_v104 main_v114 main_v115 (mulf : FVec F S2048x2x1 .f32 → FVec F S2048x2x1 .f32 → FVec F S2048x2x1 .f32),
    unary main_v115 main_v116 (broadcastInDim S2048x2x1024 ![0, 1, 2] bcast_S2048x2x1_S2048x2x1024_0_1_2 : FVec F S2048x2x1 .f32 → FVec F S2048x2x1024 .f32),
    binary main_v113 main_v116 main_v117 (mulf : FVec F S2048x2x1024 .f32 → FVec F S2048x2x1024 .f32 → FVec F S2048x2x1024 .f32) ]

/-- the two sums added, as a matrix -/
abbrev opsOut : List (HloOp τ sig (Elt F)) :=
  [ binary main_v80 main_v117 main_v118 (addf : FVec F S2048x2x1024 .f32 → FVec F S2048x2x1024 .f32 → FVec F S2048x2x1024 .f32),
    reshape main_v118 main_v119 (rfl : (.f32 : EltTy) = .f32) shapeCasts_S2048x2x1024_S2048x2048 ]

abbrev ops : List (HloOp τ sig (Elt F)) :=
  opsOwn ++ (opsAfter ++ (opsOpposite ++ (opsBefore ++ (opsHalves ++ (opsTrip1 ++ (opsSum1 ++ (opsTrip2 ++ (opsSum2 ++ (opsTrip3 ++ (opsOut))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nary_bufs_sub .., reshape_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nary_bufs_sub .., reshape_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nary_bufs_sub .., reshape_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nary_bufs_sub .., reshape_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., unary_bufs_sub .., nullary_bufs_sub .., unary_bufs_sub .., binary_bufs_sub .., unary_bufs_sub .., binary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., unary_bufs_sub .., unary_bufs_sub .., unary_bufs_sub .., nullary_bufs_sub .., unary_bufs_sub .., binary_bufs_sub .., unary_bufs_sub .., binary_bufs_sub .., binary_bufs_sub .., reshape_bufs_sub ..⟩

theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## What each line writes -/

abbrev WOwn : List (Ref sig .tc) := [main_v0, main_v1, main_v2, main_v3, main_v4, main_v5, main_v6, main_v7, main_v8, main_v9, main_v10, main_v11, main_v12, main_v13]
theorem keepOwn (V : Valuation τ sig (Elt F)) (r : Ref sig .tc) (h : r ∉ WOwn) :
    after (opsOwn (F := F)) V (Proc.devRef .tc r) = V (Proc.devRef .tc r) :=
  after_of_writes_sub _ V (forall_writes_sub_of_map (W := WOwn) rfl) h

abbrev WAfter : List (Ref sig .tc) := [main_v14, main_v15, main_v16, main_v17, main_v18, main_v19, main_v20, main_v21, main_v22, main_v23, main_v24, main_v25, main_v26, main_v27]
theorem keepAfter (V : Valuation τ sig (Elt F)) (r : Ref sig .tc) (h : r ∉ WAfter) :
    after (opsAfter (F := F)) V (Proc.devRef .tc r) = V (Proc.devRef .tc r) :=
  after_of_writes_sub _ V (forall_writes_sub_of_map (W := WAfter) rfl) h

abbrev WOpposite : List (Ref sig .tc) := [main_v28, main_v29, main_v30, main_v31, main_v32, main_v33, main_v34, main_v35, main_v36, main_v37, main_v38, main_v39, main_v40, main_v41]
theorem keepOpposite (V : Valuation τ sig (Elt F)) (r : Ref sig .tc) (h : r ∉ WOpposite) :
    after (opsOpposite (F := F)) V (Proc.devRef .tc r) = V (Proc.devRef .tc r) :=
  after_of_writes_sub _ V (forall_writes_sub_of_map (W := WOpposite) rfl) h

abbrev WBefore : List (Ref sig .tc) := [main_v42, main_v43, main_v44, main_v45, main_v46, main_v47, main_v48, main_v49, main_v50, main_v51, main_v52, main_v53, main_v54, main_v55]
theorem keepBefore (V : Valuation τ sig (Elt F)) (r : Ref sig .tc) (h : r ∉ WBefore) :
    after (opsBefore (F := F)) V (Proc.devRef .tc r) = V (Proc.devRef .tc r) :=
  after_of_writes_sub _ V (forall_writes_sub_of_map (W := WBefore) rfl) h

abbrev WHalves : List (Ref sig .tc) := [main_v56, main_v57, main_v58, main_v59, main_v60, main_v61]
theorem keepHalves (V : Valuation τ sig (Elt F)) (r : Ref sig .tc) (h : r ∉ WHalves) :
    after (opsHalves (F := F)) V (Proc.devRef .tc r) = V (Proc.devRef .tc r) :=
  after_of_writes_sub _ V (forall_writes_sub_of_map (W := WHalves) rfl) h

abbrev WTrip1 : List (Ref sig .tc) := [main_v62, main_cst, main_v63, main_v64, main_cst_0, main_v65, main_v66, main_cst_1, main_v67, main_v68, main_v69, main_v70, main_v71, main_v72, main_v73, main_v74, main_v75, main_cst_2, main_v76, main_v77, main_v78, main_v79]
theorem keepTrip1 (V : Valuation τ sig (Elt F)) (r : Ref sig .tc) (h : r ∉ WTrip1) :
    after (opsTrip1 (F := F)) V (Proc.devRef .tc r) = V (Proc.devRef .tc r) :=
  after_of_writes_sub _ V (forall_writes_sub_of_map (W := WTrip1) rfl) h

abbrev WSum1 : List (Ref sig .tc) := [main_v80]
theorem keepSum1 (V : Valuation τ sig (Elt F)) (r : Ref sig .tc) (h : r ∉ WSum1) :
    after (opsSum1 (F := F)) V (Proc.devRef .tc r) = V (Proc.devRef .tc r) :=
  after_of_writes_sub _ V (forall_writes_sub_of_map (W := WSum1) rfl) h

abbrev WTrip2 : List (Ref sig .tc) := [main_v81, main_cst_3, main_v82, main_v83, main_cst_4, main_v84, main_v85, main_cst_5, main_v86, main_v87, main_v88, main_v89, main_v90, main_v91, main_v92, main_v93, main_v94, main_cst_6, main_v95, main_v96, main_v97, main_v98]
theorem keepTrip2 (V : Valuation τ sig (Elt F)) (r : Ref sig .tc) (h : r ∉ WTrip2) :
    after (opsTrip2 (F := F)) V (Proc.devRef .tc r) = V (Proc.devRef .tc r) :=
  after_of_writes_sub _ V (forall_writes_sub_of_map (W := WTrip2) rfl) h

abbrev WSum2 : List (Ref sig .tc) := [main_v99]
theorem keepSum2 (V : Valuation τ sig (Elt F)) (r : Ref sig .tc) (h : r ∉ WSum2) :
    after (opsSum2 (F := F)) V (Proc.devRef .tc r) = V (Proc.devRef .tc r) :=
  after_of_writes_sub _ V (forall_writes_sub_of_map (W := WSum2) rfl) h

abbrev WTrip3 : List (Ref sig .tc) := [main_v100, main_cst_7, main_v101, main_v102, main_cst_8, main_v103, main_v104, main_cst_9, main_v105, main_v106, main_v107, main_v108, main_v109, main_v110, main_v111, main_v112, main_v113, main_cst_10, main_v114, main_v115, main_v116, main_v117]
theorem keepTrip3 (V : Valuation τ sig (Elt F)) (r : Ref sig .tc) (h : r ∉ WTrip3) :
    after (opsTrip3 (F := F)) V (Proc.devRef .tc r) = V (Proc.devRef .tc r) :=
  after_of_writes_sub _ V (forall_writes_sub_of_map (W := WTrip3) rfl) h

abbrev WOut : List (Ref sig .tc) := [main_v118, main_v119]
theorem keepOut (V : Valuation τ sig (Elt F)) (r : Ref sig .tc) (h : r ∉ WOut) :
    after (opsOut (F := F)) V (Proc.devRef .tc r) = V (Proc.devRef .tc r) :=
  after_of_writes_sub _ V (forall_writes_sub_of_map (W := WOut) rfl) h

/-! ## What each line leaves -/

section Lines

variable (V : Valuation τ sig (Elt F))

theorem readOwn : after (opsOwn (F := F)) V (Proc.devRef .tc main_v13) = ownPart (V (Proc.devRef .tc main_arg0)) (V (Proc.devRef .tc main_arg1)) := by
  simp only [opsOwn, TRef.unary, TRef.toBuf, TRef.ofBuf, cast_eq]; after_results_simp <;> rfl

theorem readAfter : after (opsAfter (F := F)) V (Proc.devRef .tc main_v27) = afterPart (V (Proc.devRef .tc main_arg0)) (V (Proc.devRef .tc main_arg1)) := by
  simp only [opsAfter, TRef.unary, TRef.toBuf, TRef.ofBuf, cast_eq]; after_results_simp <;> rfl

theorem readOpposite : after (opsOpposite (F := F)) V (Proc.devRef .tc main_v41) = oppositePart (V (Proc.devRef .tc main_arg0)) (V (Proc.devRef .tc main_arg1)) := by
  simp only [opsOpposite, TRef.unary, TRef.toBuf, TRef.ofBuf, cast_eq]; after_results_simp <;> rfl

theorem readBefore : after (opsBefore (F := F)) V (Proc.devRef .tc main_v55) = beforePart (V (Proc.devRef .tc main_arg0)) (V (Proc.devRef .tc main_arg1)) := by
  simp only [opsBefore, TRef.unary, TRef.toBuf, TRef.ofBuf, cast_eq]; after_results_simp <;> rfl

theorem readDirect : after (opsHalves (F := F)) V (Proc.devRef .tc main_v58) = halves (V (Proc.devRef .tc main_v55)) (V (Proc.devRef .tc main_v27)) := by
  simp only [opsHalves, TRef.unary, TRef.toBuf, TRef.ofBuf, cast_eq]; after_results_simp <;> rfl

theorem readRelay : after (opsHalves (F := F)) V (Proc.devRef .tc main_v61) = halves (V (Proc.devRef .tc main_v27)) (V (Proc.devRef .tc main_v55)) := by
  simp only [opsHalves, TRef.unary, TRef.toBuf, TRef.ofBuf, cast_eq]; after_results_simp <;> rfl

theorem readTrip1 : after (opsTrip1 (F := F)) V (Proc.devRef .tc main_v79) = roundTrip (V (Proc.devRef .tc main_v58)) := by
  simp only [opsTrip1, TRef.unary, TRef.toBuf, TRef.ofBuf, cast_eq]; after_results_simp <;> rfl

theorem readSum1 : after (opsSum1 (F := F)) V (Proc.devRef .tc main_v80) = addf (V (Proc.devRef .tc main_v79)) (V (Proc.devRef .tc main_v13)) := by
  simp only [opsSum1, TRef.unary, TRef.toBuf, TRef.ofBuf, cast_eq]; after_results_simp <;> rfl

theorem readTrip2 : after (opsTrip2 (F := F)) V (Proc.devRef .tc main_v98) = roundTrip (V (Proc.devRef .tc main_v41)) := by
  simp only [opsTrip2, TRef.unary, TRef.toBuf, TRef.ofBuf, cast_eq]; after_results_simp <;> rfl

theorem readSum2 : after (opsSum2 (F := F)) V (Proc.devRef .tc main_v99) = addf (V (Proc.devRef .tc main_v98)) (V (Proc.devRef .tc main_v61)) := by
  simp only [opsSum2, TRef.unary, TRef.toBuf, TRef.ofBuf, cast_eq]; after_results_simp <;> rfl

theorem readTrip3 : after (opsTrip3 (F := F)) V (Proc.devRef .tc main_v117) = roundTrip (V (Proc.devRef .tc main_v99)) := by
  simp only [opsTrip3, TRef.unary, TRef.toBuf, TRef.ofBuf, cast_eq]; after_results_simp <;> rfl

theorem readOut : after (opsOut (F := F)) V (Proc.devRef .tc main_v119) = shapeCast S2048x2048 (addf (V (Proc.devRef .tc main_v80)) (V (Proc.devRef .tc main_v117))) shapeCasts_S2048x2x1024_S2048x2048 := by
  simp only [opsOut, TRef.unary, TRef.toBuf, TRef.ofBuf, cast_eq]; after_results_simp <;> rfl

end Lines

/-! ## The whole -/

section Whole

variable (V : Valuation τ sig (Elt F))

/-- The contents after the first lines. -/
def VOwn : Valuation τ sig (Elt F) := after opsOwn V
def VAfter : Valuation τ sig (Elt F) := after opsAfter (VOwn V)
def VOpposite : Valuation τ sig (Elt F) := after opsOpposite (VAfter V)
def VBefore : Valuation τ sig (Elt F) := after opsBefore (VOpposite V)
def VHalves : Valuation τ sig (Elt F) := after opsHalves (VBefore V)
def VTrip1 : Valuation τ sig (Elt F) := after opsTrip1 (VHalves V)
def VSum1 : Valuation τ sig (Elt F) := after opsSum1 (VTrip1 V)
def VTrip2 : Valuation τ sig (Elt F) := after opsTrip2 (VSum1 V)
def VSum2 : Valuation τ sig (Elt F) := after opsSum2 (VTrip2 V)
def VTrip3 : Valuation τ sig (Elt F) := after opsTrip3 (VSum2 V)
def VOut : Valuation τ sig (Elt F) := after opsOut (VTrip3 V)

theorem after_ops : after ops V = VOut V := by
  simp only [ops, after_append]; rfl

theorem arg0_Own : VOwn V (Proc.devRef .tc main_arg0) = (V (Proc.devRef .tc main_arg0)) :=
  keepOwn V main_arg0 (by decide)

theorem arg0_After : VAfter V (Proc.devRef .tc main_arg0) = (V (Proc.devRef .tc main_arg0)) :=
  (keepAfter _ main_arg0 (by decide)).trans (arg0_Own V)

theorem arg0_Opposite : VOpposite V (Proc.devRef .tc main_arg0) = (V (Proc.devRef .tc main_arg0)) :=
  (keepOpposite _ main_arg0 (by decide)).trans (arg0_After V)

theorem arg1_Own : VOwn V (Proc.devRef .tc main_arg1) = (V (Proc.devRef .tc main_arg1)) :=
  keepOwn V main_arg1 (by decide)

theorem arg1_After : VAfter V (Proc.devRef .tc main_arg1) = (V (Proc.devRef .tc main_arg1)) :=
  (keepAfter _ main_arg1 (by decide)).trans (arg1_Own V)

theorem arg1_Opposite : VOpposite V (Proc.devRef .tc main_arg1) = (V (Proc.devRef .tc main_arg1)) :=
  (keepOpposite _ main_arg1 (by decide)).trans (arg1_After V)

theorem before_Before : VBefore V (Proc.devRef .tc main_v55) = (beforePart (V (Proc.devRef .tc main_arg0)) (V (Proc.devRef .tc main_arg1))) :=
  ((readBefore _).trans (by rw [arg0_Opposite V, arg1_Opposite V]))

theorem after_After : VAfter V (Proc.devRef .tc main_v27) = (afterPart (V (Proc.devRef .tc main_arg0)) (V (Proc.devRef .tc main_arg1))) :=
  ((readAfter _).trans (by rw [arg0_Own V, arg1_Own V]))

theorem after_Opposite : VOpposite V (Proc.devRef .tc main_v27) = (afterPart (V (Proc.devRef .tc main_arg0)) (V (Proc.devRef .tc main_arg1))) :=
  (keepOpposite _ main_v27 (by decide)).trans (after_After V)

theorem after_Before : VBefore V (Proc.devRef .tc main_v27) = (afterPart (V (Proc.devRef .tc main_arg0)) (V (Proc.devRef .tc main_arg1))) :=
  (keepBefore _ main_v27 (by decide)).trans (after_Opposite V)

theorem direct_Halves : VHalves V (Proc.devRef .tc main_v58) = (halves (beforePart (V (Proc.devRef .tc main_arg0)) (V (Proc.devRef .tc main_arg1))) (afterPart (V (Proc.devRef .tc main_arg0)) (V (Proc.devRef .tc main_arg1)))) :=
  ((readDirect _).trans (by rw [before_Before V, after_Before V]))

theorem trip1_Trip1 : VTrip1 V (Proc.devRef .tc main_v79) = (roundTrip (halves (beforePart (V (Proc.devRef .tc main_arg0)) (V (Proc.devRef .tc main_arg1))) (afterPart (V (Proc.devRef .tc main_arg0)) (V (Proc.devRef .tc main_arg1))))) :=
  ((readTrip1 _).trans (by rw [direct_Halves V]))

theorem own_Own : VOwn V (Proc.devRef .tc main_v13) = (ownPart (V (Proc.devRef .tc main_arg0)) (V (Proc.devRef .tc main_arg1))) :=
  readOwn V

theorem own_After : VAfter V (Proc.devRef .tc main_v13) = (ownPart (V (Proc.devRef .tc main_arg0)) (V (Proc.devRef .tc main_arg1))) :=
  (keepAfter _ main_v13 (by decide)).trans (own_Own V)

theorem own_Opposite : VOpposite V (Proc.devRef .tc main_v13) = (ownPart (V (Proc.devRef .tc main_arg0)) (V (Proc.devRef .tc main_arg1))) :=
  (keepOpposite _ main_v13 (by decide)).trans (own_After V)

theorem own_Before : VBefore V (Proc.devRef .tc main_v13) = (ownPart (V (Proc.devRef .tc main_arg0)) (V (Proc.devRef .tc main_arg1))) :=
  (keepBefore _ main_v13 (by decide)).trans (own_Opposite V)

theorem own_Halves : VHalves V (Proc.devRef .tc main_v13) = (ownPart (V (Proc.devRef .tc main_arg0)) (V (Proc.devRef .tc main_arg1))) :=
  (keepHalves _ main_v13 (by decide)).trans (own_Before V)

theorem own_Trip1 : VTrip1 V (Proc.devRef .tc main_v13) = (ownPart (V (Proc.devRef .tc main_arg0)) (V (Proc.devRef .tc main_arg1))) :=
  (keepTrip1 _ main_v13 (by decide)).trans (own_Halves V)

theorem sum1_Sum1 : VSum1 V (Proc.devRef .tc main_v80) = (addf (roundTrip (halves (beforePart (V (Proc.devRef .tc main_arg0)) (V (Proc.devRef .tc main_arg1))) (afterPart (V (Proc.devRef .tc main_arg0)) (V (Proc.devRef .tc main_arg1))))) (ownPart (V (Proc.devRef .tc main_arg0)) (V (Proc.devRef .tc main_arg1)))) :=
  ((readSum1 _).trans (by rw [trip1_Trip1 V, own_Trip1 V]))

theorem sum1_Trip2 : VTrip2 V (Proc.devRef .tc main_v80) = (addf (roundTrip (halves (beforePart (V (Proc.devRef .tc main_arg0)) (V (Proc.devRef .tc main_arg1))) (afterPart (V (Proc.devRef .tc main_arg0)) (V (Proc.devRef .tc main_arg1))))) (ownPart (V (Proc.devRef .tc main_arg0)) (V (Proc.devRef .tc main_arg1)))) :=
  (keepTrip2 _ main_v80 (by decide)).trans (sum1_Sum1 V)

theorem sum1_Sum2 : VSum2 V (Proc.devRef .tc main_v80) = (addf (roundTrip (halves (beforePart (V (Proc.devRef .tc main_arg0)) (V (Proc.devRef .tc main_arg1))) (afterPart (V (Proc.devRef .tc main_arg0)) (V (Proc.devRef .tc main_arg1))))) (ownPart (V (Proc.devRef .tc main_arg0)) (V (Proc.devRef .tc main_arg1)))) :=
  (keepSum2 _ main_v80 (by decide)).trans (sum1_Trip2 V)

theorem sum1_Trip3 : VTrip3 V (Proc.devRef .tc main_v80) = (addf (roundTrip (halves (beforePart (V (Proc.devRef .tc main_arg0)) (V (Proc.devRef .tc main_arg1))) (afterPart (V (Proc.devRef .tc main_arg0)) (V (Proc.devRef .tc main_arg1))))) (ownPart (V (Proc.devRef .tc main_arg0)) (V (Proc.devRef .tc main_arg1)))) :=
  (keepTrip3 _ main_v80 (by decide)).trans (sum1_Sum2 V)

theorem opposite_Opposite : VOpposite V (Proc.devRef .tc main_v41) = (oppositePart (V (Proc.devRef .tc main_arg0)) (V (Proc.devRef .tc main_arg1))) :=
  ((readOpposite _).trans (by rw [arg0_After V, arg1_After V]))

theorem opposite_Before : VBefore V (Proc.devRef .tc main_v41) = (oppositePart (V (Proc.devRef .tc main_arg0)) (V (Proc.devRef .tc main_arg1))) :=
  (keepBefore _ main_v41 (by decide)).trans (opposite_Opposite V)

theorem opposite_Halves : VHalves V (Proc.devRef .tc main_v41) = (oppositePart (V (Proc.devRef .tc main_arg0)) (V (Proc.devRef .tc main_arg1))) :=
  (keepHalves _ main_v41 (by decide)).trans (opposite_Before V)

theorem opposite_Trip1 : VTrip1 V (Proc.devRef .tc main_v41) = (oppositePart (V (Proc.devRef .tc main_arg0)) (V (Proc.devRef .tc main_arg1))) :=
  (keepTrip1 _ main_v41 (by decide)).trans (opposite_Halves V)

theorem opposite_Sum1 : VSum1 V (Proc.devRef .tc main_v41) = (oppositePart (V (Proc.devRef .tc main_arg0)) (V (Proc.devRef .tc main_arg1))) :=
  (keepSum1 _ main_v41 (by decide)).trans (opposite_Trip1 V)

theorem trip2_Trip2 : VTrip2 V (Proc.devRef .tc main_v98) = (roundTrip (oppositePart (V (Proc.devRef .tc main_arg0)) (V (Proc.devRef .tc main_arg1)))) :=
  ((readTrip2 _).trans (by rw [opposite_Sum1 V]))

theorem relay_Halves : VHalves V (Proc.devRef .tc main_v61) = (halves (afterPart (V (Proc.devRef .tc main_arg0)) (V (Proc.devRef .tc main_arg1))) (beforePart (V (Proc.devRef .tc main_arg0)) (V (Proc.devRef .tc main_arg1)))) :=
  ((readRelay _).trans (by rw [after_Before V, before_Before V]))

theorem relay_Trip1 : VTrip1 V (Proc.devRef .tc main_v61) = (halves (afterPart (V (Proc.devRef .tc main_arg0)) (V (Proc.devRef .tc main_arg1))) (beforePart (V (Proc.devRef .tc main_arg0)) (V (Proc.devRef .tc main_arg1)))) :=
  (keepTrip1 _ main_v61 (by decide)).trans (relay_Halves V)

theorem relay_Sum1 : VSum1 V (Proc.devRef .tc main_v61) = (halves (afterPart (V (Proc.devRef .tc main_arg0)) (V (Proc.devRef .tc main_arg1))) (beforePart (V (Proc.devRef .tc main_arg0)) (V (Proc.devRef .tc main_arg1)))) :=
  (keepSum1 _ main_v61 (by decide)).trans (relay_Trip1 V)

theorem relay_Trip2 : VTrip2 V (Proc.devRef .tc main_v61) = (halves (afterPart (V (Proc.devRef .tc main_arg0)) (V (Proc.devRef .tc main_arg1))) (beforePart (V (Proc.devRef .tc main_arg0)) (V (Proc.devRef .tc main_arg1)))) :=
  (keepTrip2 _ main_v61 (by decide)).trans (relay_Sum1 V)

theorem sum2_Sum2 : VSum2 V (Proc.devRef .tc main_v99) = (addf (roundTrip (oppositePart (V (Proc.devRef .tc main_arg0)) (V (Proc.devRef .tc main_arg1)))) (halves (afterPart (V (Proc.devRef .tc main_arg0)) (V (Proc.devRef .tc main_arg1))) (beforePart (V (Proc.devRef .tc main_arg0)) (V (Proc.devRef .tc main_arg1))))) :=
  ((readSum2 _).trans (by rw [trip2_Trip2 V, relay_Trip2 V]))

theorem trip3_Trip3 : VTrip3 V (Proc.devRef .tc main_v117) = (roundTrip (addf (roundTrip (oppositePart (V (Proc.devRef .tc main_arg0)) (V (Proc.devRef .tc main_arg1)))) (halves (afterPart (V (Proc.devRef .tc main_arg0)) (V (Proc.devRef .tc main_arg1))) (beforePart (V (Proc.devRef .tc main_arg0)) (V (Proc.devRef .tc main_arg1)))))) :=
  ((readTrip3 _).trans (by rw [sum2_Sum2 V]))

theorem out_Out : VOut V (Proc.devRef .tc main_v119) = (refVal (V (Proc.devRef .tc main_arg0)) (V (Proc.devRef .tc main_arg1))) :=
  ((readOut _).trans (by rw [sum1_Trip3 V, trip3_Trip3 V]; rfl))

theorem arg0_Before : VBefore V (Proc.devRef .tc main_arg0) = (V (Proc.devRef .tc main_arg0)) :=
  (keepBefore _ main_arg0 (by decide)).trans (arg0_Opposite V)

theorem arg0_Halves : VHalves V (Proc.devRef .tc main_arg0) = (V (Proc.devRef .tc main_arg0)) :=
  (keepHalves _ main_arg0 (by decide)).trans (arg0_Before V)

theorem arg0_Trip1 : VTrip1 V (Proc.devRef .tc main_arg0) = (V (Proc.devRef .tc main_arg0)) :=
  (keepTrip1 _ main_arg0 (by decide)).trans (arg0_Halves V)

theorem arg0_Sum1 : VSum1 V (Proc.devRef .tc main_arg0) = (V (Proc.devRef .tc main_arg0)) :=
  (keepSum1 _ main_arg0 (by decide)).trans (arg0_Trip1 V)

theorem arg0_Trip2 : VTrip2 V (Proc.devRef .tc main_arg0) = (V (Proc.devRef .tc main_arg0)) :=
  (keepTrip2 _ main_arg0 (by decide)).trans (arg0_Sum1 V)

theorem arg0_Sum2 : VSum2 V (Proc.devRef .tc main_arg0) = (V (Proc.devRef .tc main_arg0)) :=
  (keepSum2 _ main_arg0 (by decide)).trans (arg0_Trip2 V)

theorem arg0_Trip3 : VTrip3 V (Proc.devRef .tc main_arg0) = (V (Proc.devRef .tc main_arg0)) :=
  (keepTrip3 _ main_arg0 (by decide)).trans (arg0_Sum2 V)

theorem arg0_Out : VOut V (Proc.devRef .tc main_arg0) = (V (Proc.devRef .tc main_arg0)) :=
  (keepOut _ main_arg0 (by decide)).trans (arg0_Trip3 V)

theorem arg1_Before : VBefore V (Proc.devRef .tc main_arg1) = (V (Proc.devRef .tc main_arg1)) :=
  (keepBefore _ main_arg1 (by decide)).trans (arg1_Opposite V)

theorem arg1_Halves : VHalves V (Proc.devRef .tc main_arg1) = (V (Proc.devRef .tc main_arg1)) :=
  (keepHalves _ main_arg1 (by decide)).trans (arg1_Before V)

theorem arg1_Trip1 : VTrip1 V (Proc.devRef .tc main_arg1) = (V (Proc.devRef .tc main_arg1)) :=
  (keepTrip1 _ main_arg1 (by decide)).trans (arg1_Halves V)

theorem arg1_Sum1 : VSum1 V (Proc.devRef .tc main_arg1) = (V (Proc.devRef .tc main_arg1)) :=
  (keepSum1 _ main_arg1 (by decide)).trans (arg1_Trip1 V)

theorem arg1_Trip2 : VTrip2 V (Proc.devRef .tc main_arg1) = (V (Proc.devRef .tc main_arg1)) :=
  (keepTrip2 _ main_arg1 (by decide)).trans (arg1_Sum1 V)

theorem arg1_Sum2 : VSum2 V (Proc.devRef .tc main_arg1) = (V (Proc.devRef .tc main_arg1)) :=
  (keepSum2 _ main_arg1 (by decide)).trans (arg1_Trip2 V)

theorem arg1_Trip3 : VTrip3 V (Proc.devRef .tc main_arg1) = (V (Proc.devRef .tc main_arg1)) :=
  (keepTrip3 _ main_arg1 (by decide)).trans (arg1_Sum2 V)

theorem arg1_Out : VOut V (Proc.devRef .tc main_arg1) = (V (Proc.devRef .tc main_arg1)) :=
  (keepOut _ main_arg1 (by decide)).trans (arg1_Trip3 V)

end Whole

/-- Every run of the reference leaves its result at `refVal` of the arguments, and the arguments as they were. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v119)
          = refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c =>
      ⟨(h c main_v119).trans ((congrFun (after_ops _) _).trans (out_Out _)),
        (h c main_arg0).trans ((congrFun (after_ops _) _).trans (arg0_Out _)),
        (h c main_arg1).trans ((congrFun (after_ops _) _).trans (arg1_Out _))⟩,
      sem_eq_zero_of_no_sems (by decide) r.2⟩)
    (run_seq scopedRefs_eq scopedSems_eq defs main (fun _ => ops) main_eq (fun _ => ops_sub) m ρ)

end Cert.Rf

end
-- ==== Proof.Quant.lean ====
/- 01_k — the quantiser on one row of 1024 extended reals: the row's scale, the code of an entry and what the code stands
   for. The kernel rounds to int8 at once, the reference to int32 and then narrows: the two agree because an entry is at
   most the row's largest magnitude, so its code lies between -127 and 127. -/
module

public import Idealize.ShloMosaic.PureOps.Ideal
public import Idealize.ShloMosaic.PureOps.Ideal.Laws

@[expose] public section

noncomputable section

namespace Cert.Qt

open Idealize.ShloMosaic

/-- The row's largest magnitude, or 1e-20 if that is larger. -/
def top (f : Fin 1024 → EReal) : EReal :=
  max (Finset.univ.fold max (Ideal.ofBits .f32 0xFF800000#32) fun k => FloatOps.absf (F := Ideal) (φ := .f32) (f k))
    (Ideal.ofBits .f32 0x1E3CE508#32)

/-- The entry in units of the scale, rounded. -/
def rounded (x t : EReal) : EReal :=
  Ideal.liftRound Ideal.roundHalfEven (x * Ideal.div (Ideal.ofBits .f32 0x42FE0000#32) t)

/-- One unit of the scale. -/
def unit (t : EReal) : EReal := t * Ideal.ofBits .f32 0x3C010204#32

/-- An entry's round trip as the kernel makes it. -/
def trip (f : Fin 1024 → EReal) (j : Fin 1024) : EReal :=
  FloatOps.sitofp (F := Ideal) .f32 (FloatOps.fptosi (F := Ideal) (φ := .f32) 8 (rounded (f j) (top f))) * unit (top f)

theorem ofBits_127 : Ideal.ofBits .f32 0x42FE0000#32 = ((127 : ℝ) : EReal) := by
  simp [Ideal.ofBits, Ideal.ieee, -EReal.coe_mul]; norm_num

theorem ofBits_small_pos : 0 < Ideal.ofBits .f32 0x1E3CE508#32 := by
  simp [Ideal.ofBits, Ideal.ieee, -EReal.coe_mul]

theorem top_pos (f : Fin 1024 → EReal) : 0 < top f := lt_max_of_lt_right ofBits_small_pos

theorem le_top (f : Fin 1024 → EReal) (j : Fin 1024) : max (f j) (-(f j)) ≤ top f :=
  le_max_of_le_left ((Finset.le_fold_max _).2 (.inr ⟨j, Finset.mem_univ j, le_rfl⟩))

/-- A real of magnitude at most 127 rounds to an integer of magnitude at most 127. -/
theorem roundHalfEven_mem (y : ℝ) (h₁ : -127 ≤ y) (h₂ : y ≤ 127) : -127 ≤ Ideal.roundHalfEven y ∧ Ideal.roundHalfEven y ≤ 127 := by
  have a : (-127 : ℤ) ≤ ⌊y⌋ := Int.le_floor.2 (by push_cast; exact h₁)
  have b : ⌊y⌋ ≤ 127 := by exact_mod_cast (Int.floor_le y).trans h₂
  have e : ⌊y⌋ = 127 → y - ⌊y⌋ < 1 / 2 := fun h => by rw [h]; push_cast; linarith
  unfold Ideal.roundHalfEven
  dsimp only
  split
  · exact ⟨a, b⟩
  · rename_i h
    have : ⌊y⌋ < 127 := lt_of_le_of_ne b fun hh => h (e hh)
    (repeat' split) <;> omega

/-- The rounded entry is an integer between -127 and 127. -/
theorem rounded_mem (x t : EReal) (ht : 0 < t) (hx : max x (-x) ≤ t) :
    ∃ n : ℤ, -127 ≤ n ∧ n ≤ 127 ∧ rounded x t = ((n : ℝ) : EReal) := by
  have h₁ : x ≤ t := (le_max_left _ _).trans hx
  have h₂ : -x ≤ t := (le_max_right _ _).trans hx
  unfold rounded Ideal.div
  rw [if_neg ht.ne', ofBits_127]
  induction t with
  | bot => simp at ht
  | top =>
    refine ⟨0, by norm_num, by norm_num, ?_⟩
    rw [EReal.inv_top, mul_zero, mul_zero, ← EReal.coe_zero, Ideal.liftRound_coe]
    simp [Ideal.roundHalfEven]
  | coe t =>
    have ht' : 0 < t := by exact_mod_cast ht
    induction x with
    | bot => simp at h₂
    | top => simp at h₁
    | coe x =>
      have h₁' : x ≤ t := by exact_mod_cast h₁
      have h₂' : -x ≤ t := by exact_mod_cast h₂
      rw [← EReal.coe_inv, ← EReal.coe_mul, ← EReal.coe_mul]
      refine ⟨Ideal.roundHalfEven (x * (127 * t⁻¹)), (roundHalfEven_mem _ ?_ ?_).1, (roundHalfEven_mem _ ?_ ?_).2, rfl⟩ <;>
      · rw [show x * (127 * t⁻¹) = x * 127 / t by ring]
        first | rw [le_div_iff₀ ht']; linarith | rw [div_le_iff₀ ht']; linarith

/-- The conversion of a small integer is that integer. -/
theorem fptosi_int (w : Nat) (n : ℤ) (h₁ : -(2 ^ (w - 1) : Nat) ≤ n) (h₂ : n ≤ (2 ^ (w - 1) : Nat) - 1) :
    Ideal.fptosi w ((n : ℝ) : EReal) = BitVec.ofInt w n := by
  unfold Ideal.fptosi
  rw [Ideal.toIntClamped_coe]
  congr 1
  have : (if (0:ℝ) ≤ (n:ℝ) then ⌊(n:ℝ)⌋ else ⌈(n:ℝ)⌉) = n := by split <;> simp
  rw [this]; omega

/-- The same code at int8 and at int32 narrowed to int8 and widened again. -/
theorem code_eq (x t : EReal) (ht : 0 < t) (hx : max x (-x) ≤ t) :
    FloatOps.sitofp (F := Ideal) .f32 (((FloatOps.fptosi (F := Ideal) (φ := .f32) 32 (rounded x t)).setWidth 8).signExtend 32)
      = FloatOps.sitofp (F := Ideal) .f32 (FloatOps.fptosi (F := Ideal) (φ := .f32) 8 (rounded x t)) := by
  obtain ⟨n, a, b, e⟩ := rounded_mem x t ht hx
  have e8 : FloatOps.fptosi (F := Ideal) (φ := .f32) 8 (rounded x t) = BitVec.ofInt 8 n := by
    rw [e]; exact fptosi_int 8 n (by norm_num; omega) (by norm_num; omega)
  have e32 : FloatOps.fptosi (F := Ideal) (φ := .f32) 32 (rounded x t) = BitVec.ofInt 32 n := by
    rw [e]; exact fptosi_int 32 n (by norm_num; omega) (by norm_num; omega)
  rw [e8, e32]
  have : (((BitVec.ofInt 32 n).setWidth 8).signExtend 32).toInt = (BitVec.ofInt 8 n).toInt := by
    rw [BitVec.toInt_signExtend_of_le (by norm_num)]
    congr 1
    interval_cases n <;> rfl
  show (((_ : ℤ) : ℝ) : EReal) = (((_ : ℤ) : ℝ) : EReal)
  rw [this]

end Cert.Qt
-- ==== Proof.KerVal.lean ====
/- 01_k — the kernel's two halves at an index, over the extended reals: each message is a round trip of a partial product,
   so a half is the sum that `Qt.trip` names. -/
module

public import proofs.«01_k».proof.Proof.Protocol
public import proofs.«01_k».proof.Proof.Quant
public import Idealize.ShloMosaic.Lib.Pointwise

@[expose] public section

set_option maxRecDepth 16384

noncomputable section

namespace Cert.Mk

open Cert.KernelIdeal Cert.KernelIdeal.Gen Idealize.ShloMosaic

/-! ## The messages as round trips -/

/-- The product of two bf16 blocks. -/
def prodK (a : FVec Ideal S512x1024 .bf16) (b : FVec Ideal S1024x1024 .bf16) : FVec Ideal S512x1024 .f32 :=
  matmul dot_S512x1024_S1024x1024_S512x1024_1_0_0_1_n_n none a b (constant S512x1024 .f32 0x00000000#32)

/-- Each row's largest magnitude, or 1e-20 if that is larger. -/
def topK (x : FVec Ideal S512x1024 .f32) : FVec Ideal S512 .f32 :=
  maximumf (multiReduction .maximumf [1] S512 (absf x) 0xFF800000#32 reduces_S512x1024_S512 (.inl rfl) rfl)
    (broadcast S512 (Scalar.ofBits .f32 0x1E3CE508#32))

/-- The int8 codes that are sent. -/
def codesK (x : FVec Ideal S512x1024 .f32) : IVec S1x512x1024 8 :=
  shapeCast S1x512x1024 (fptosi 8 (roundeven (mulf x (broadcastTo S512x1024 (shapeCast S512x1
    (divf (broadcast S512 (Scalar.ofBits .f32 0x42FE0000#32)) (topK x)) shapeCasts_S512_S512x1) broadcasts_S512x1_S512x1024))))
    shapeCasts_S512x1024_S1x512x1024

/-- The scales that are sent. -/
def scalesK (x : FVec Ideal S512x1024 .f32) : FVec Ideal S1x512 .f32 :=
  shapeCast S1x512 (mulf (topK x) (broadcast S512 (Scalar.ofBits .f32 0x3C010204#32))) shapeCasts_S512_S1x512

/-- What the receiver makes of them. -/
def decodedK (d : IVec S1x512x1024 8) (s : FVec Ideal S1x512 .f32) : FVec Ideal S512x1024 .f32 :=
  mulf (sitofp .f32 (shapeCast S512x1024 d shapeCasts_S1x512x1024_S512x1024)) (broadcastTo S512x1024 (shapeCast S512x1
    (shapeCast S512 s shapeCasts_S1x512_S512) shapeCasts_S512_S512x1) broadcasts_S512x1_S512x1024)

def tripK (x : FVec Ideal S512x1024 .f32) : FVec Ideal S512x1024 .f32 := decodedK (codesK x) (scalesK x)

theorem topK_apply (x : FVec Ideal S512x1024 .f32) (i : Fin 512) : topK x (ix1 i) = Qt.top fun k => x (ix2 i k) := by
  pointwise [topK, Qt.top]

theorem codesK_apply (x : FVec Ideal S512x1024 .f32) (i : Fin 512) (j : Fin 1024) :
    codesK x (ix3 0 i j) = FloatOps.fptosi (F := Ideal) (φ := .f32) 8 (Qt.rounded (x (ix2 i j)) (topK x (ix1 i))) := by
  pointwise [codesK, Qt.rounded]

theorem scalesK_apply (x : FVec Ideal S512x1024 .f32) (i : Fin 512) : scalesK x (ix2 0 i) = Qt.unit (topK x (ix1 i)) := by
  pointwise [scalesK, Qt.unit]

theorem decodedK_apply (d : IVec S1x512x1024 8) (s : FVec Ideal S1x512 .f32) (i : Fin 512) (j : Fin 1024) :
    decodedK d s (ix2 i j) = FloatOps.sitofp (F := Ideal) .f32 (d (ix3 0 i j)) * s (ix2 0 i) := by
  pointwise [decodedK]

theorem tripK_apply (x : FVec Ideal S512x1024 .f32) (i : Fin 512) (j : Fin 1024) :
    tripK x (ix2 i j) = Qt.trip (fun k => x (ix2 i k)) j := by
  unfold tripK Qt.trip
  rw [decodedK_apply, codesK_apply, scalesK_apply, topK_apply]

/-! ## The halves -/

section
variable (m : (ℓ : Loc nD τ sig) → Buf (Elt Ideal) ℓ)

/-- Device `c`'s part of row block `j`, half `h`. -/
def partK (c j : Dev nD) (h : Fin 2) : FVec Ideal S512x1024 .f32 := prodK (Ab m c j) (Bb m c h)

theorem partK_apply (c j : Dev nD) (h : Fin 2) (r : Fin 512) (l : Fin 1024) :
    partK m c j h (ix2 r l) = ∑ x, Am m c j (ix2 r x) * Bm m c h (ix2 x l) := by
  pointwise [partK, prodK, Ab, Bb, k0_pay3, k0_pay2]

theorem D0_eq (c : Dev nD) : D0 m c = codesK (partK m c (opp c) 1) := rfl
theorem S0_eq (c : Dev nD) : S0 m c = scalesK (partK m c (opp c) 1) := rfl
theorem D1_eq (c : Dev nD) : D1 m c = codesK (partK m c (opp c) 0) := rfl
theorem S1_eq (c : Dev nD) : S1' m c = scalesK (partK m c (opp c) 0) := rfl
theorem D2_eq (c : Dev nD) : D2 m c = codesK (partK m c (nxt c) 0) := rfl
theorem S2_eq (c : Dev nD) : S2 m c = scalesK (partK m c (nxt c) 0) := rfl
theorem D3_eq (c : Dev nD) : D3 m c = codesK (partK m c (prv c) 1) := rfl
theorem S3_eq (c : Dev nD) : S3 m c = scalesK (partK m c (prv c) 1) := rfl

theorem relayHi_codes (p : FVec Ideal S512x1024 .f32) (d : IVec S1x512x1024 8) (s : FVec Ideal S1x512 .f32) :
    k0_pay33 p d s = codesK (addf (decodedK d s) p) := rfl
theorem relayHi_scales (p : FVec Ideal S512x1024 .f32) (d : IVec S1x512x1024 8) (s : FVec Ideal S1x512 .f32) :
    k0_pay34 p d s = scalesK (addf (decodedK d s) p) := rfl
theorem relayLo_codes (p : FVec Ideal S512x1024 .f32) (d : IVec S1x512x1024 8) (s : FVec Ideal S1x512 .f32) :
    k0_pay38 (k0_pay37 p d s) = codesK (addf (decodedK d s) p) := rfl
theorem relayLo_scales (p : FVec Ideal S512x1024 .f32) (d : IVec S1x512x1024 8) (s : FVec Ideal S1x512 .f32) :
    k0_pay39 (k0_pay36 p d s) = scalesK (addf (decodedK d s) p) := rfl
theorem directLo (p : FVec Ideal S512x1024 .f32) (d : IVec S1x512x1024 8) (s : FVec Ideal S1x512 .f32) :
    k0_pay40 p d s = addf (decodedK d s) p := rfl
theorem directHi (p : FVec Ideal S512x1024 .f32) (d : IVec S1x512x1024 8) (s : FVec Ideal S1x512 .f32) :
    k0_pay41 p d s = addf (decodedK d s) p := rfl
theorem lastLo (x : FVec Ideal S512x1024 .f32) (d : IVec S1x512x1024 8) (s : FVec Ideal S1x512 .f32) :
    k0_pay45 (k0_pay42 x) (k0_pay43 d) (k0_pay44 s) = addf x (decodedK d s) := by
  unfold k0_pay42
  dsimp only
  rw [shapeCast_id]
  rfl
theorem lastHi (x : FVec Ideal S512x1024 .f32) (d : IVec S1x512x1024 8) (s : FVec Ideal S1x512 .f32) :
    k0_pay1 x d s = addf x (decodedK d s) := by
  unfold k0_pay1
  dsimp only
  rw [shapeCast_id]
  rfl

theorem prv_prv (c : Dev nD) : prv (prv c) = opp c := by revert c; decide
theorem nxt_nxt (c : Dev nD) : nxt (nxt c) = opp c := by revert c; decide
theorem opp_opp (c : Dev nD) : opp (opp c) = c := by revert c; decide

theorem D4_eq (c : Dev nD) : D4 m c = codesK (addf (tripK (partK m (prv c) (nxt c) 1)) (partK m c (nxt c) 1)) := by
  unfold D4
  rw [relayHi_codes, D0_eq, S0_eq, show opp (prv c) = nxt c by revert c; decide]
  rfl

theorem S4_eq (c : Dev nD) : S4 m c = scalesK (addf (tripK (partK m (prv c) (nxt c) 1)) (partK m c (nxt c) 1)) := by
  unfold S4
  rw [relayHi_scales, D0_eq, S0_eq, show opp (prv c) = nxt c by revert c; decide]
  rfl

theorem D5_eq (c : Dev nD) : D5 m c = codesK (addf (tripK (partK m (nxt c) (prv c) 0)) (partK m c (prv c) 0)) := by
  unfold D5
  rw [relayLo_codes, D1_eq, S1_eq, show opp (nxt c) = prv c by revert c; decide]
  rfl

theorem S5_eq (c : Dev nD) : S5 m c = scalesK (addf (tripK (partK m (nxt c) (prv c) 0)) (partK m c (prv c) 0)) := by
  unfold S5
  rw [relayLo_scales, D1_eq, S1_eq, show opp (nxt c) = prv c by revert c; decide]
  rfl

theorem lo_eq (c : Dev nD) :
    lo m c = addf (addf (tripK (partK m (prv c) c 0)) (partK m c c 0))
      (tripK (addf (tripK (partK m (opp c) c 0)) (partK m (nxt c) c 0))) := by
  unfold lo lo0
  rw [lastLo, directLo, D2_eq, S2_eq, D5_eq, S5_eq, nxt_prv, prv_nxt, nxt_nxt]
  rfl

theorem hi_eq (c : Dev nD) :
    hi m c = addf (addf (tripK (partK m (nxt c) c 1)) (partK m c c 1))
      (tripK (addf (tripK (partK m (opp c) c 1)) (partK m (prv c) c 1))) := by
  unfold hi hi0
  rw [lastHi, directHi, D3_eq, S3_eq, D4_eq, S4_eq, nxt_prv, prv_nxt, prv_prv]
  rfl

theorem sumK_apply (x y : FVec Ideal S512x1024 .f32) (r : Fin 512) (j : Fin 1024) :
    addf x y (ix2 r j) = x (ix2 r j) + y (ix2 r j) := by rw [addf_apply, Ideal.addf_def]

/-- Half `h` of a row of device `c`, where `d` sends its part directly and `e` relays that of `opp c`. -/
def entryK (c d e : Dev nD) (h : Fin 2) (r : Fin 512) (j : Fin 1024) : EReal :=
  Qt.trip (fun k => partK m d c h (ix2 r k)) j + partK m c c h (ix2 r j)
    + Qt.trip (fun k => Qt.trip (fun l => partK m (opp c) c h (ix2 r l)) k + partK m e c h (ix2 r k)) j

theorem sums_apply (c d e : Dev nD) (h : Fin 2) (r : Fin 512) (j : Fin 1024) :
    addf (addf (tripK (partK m d c h)) (partK m c c h)) (tripK (addf (tripK (partK m (opp c) c h)) (partK m e c h))) (ix2 r j)
      = entryK m c d e h r j := by
  have e₁ : (fun k => addf (tripK (partK m (opp c) c h)) (partK m e c h) (ix2 r k))
      = fun k => Qt.trip (fun l => partK m (opp c) c h (ix2 r l)) k + partK m e c h (ix2 r k) :=
    funext fun k => by rw [sumK_apply, tripK_apply]
  unfold entryK
  rw [sumK_apply, sumK_apply, tripK_apply, tripK_apply, e₁]

theorem lo_apply (c : Dev nD) (r : Fin 512) (j : Fin 1024) : lo m c (ix2 r j) = entryK m c (prv c) (nxt c) 0 r j := by
  rw [lo_eq, sums_apply]

theorem hi_apply (c : Dev nD) (r : Fin 512) (j : Fin 1024) : hi m c (ix2 r j) = entryK m c (nxt c) (prv c) 1 r j := by
  rw [hi_eq, sums_apply]
end

end Cert.Mk
-- ==== Proof.RefVal.lean ====
/- 01_k — the reference's result at an index, over the extended reals: `refVal_apply` names an entry by its row, its half
   and its place in the half. -/
module

public import proofs.«01_k».proof.Proof.RefRun
public import proofs.«01_k».proof.Proof.Quant
public import Idealize.ShloMosaic.Lib.Pointwise

@[expose] public section

set_option maxRecDepth 16384

noncomputable section

namespace Cert.Rf

open Cert.ReferenceIdeal Cert.ReferenceIdeal.Gen Idealize.ShloMosaic

/-! ## The round trip -/

theorem largest_apply (x : FVec Ideal S2048x2x1024 .f32) (r : Fin 2048) (h : Fin 2) :
    Host.reduce FloatOps.maximumf x (constant S_ .f32 0xFF800000#32) reducesTo_S2048x2x1024_S2048x2_d2 h_S_ (ix2 r h)
      = Finset.univ.fold max (Ideal.ofBits .f32 0xFF800000#32) fun k => x (ix3 r h k) := by
  pointwise []

theorem column_apply (y : FVec Ideal S2048x2 .f32) (r : Fin 2048) (h : Fin 2) :
    broadcastInDim S2048x2x1 ![0, 1] bcast_S2048x2_S2048x2x1_0_1 y (ix3 r h 0) = y (ix2 r h) := by
  pointwise []

theorem const_apply (b : BitVec 32) (r : Fin 2048) (h : Fin 2) :
    broadcastInDim S2048x2x1 ![] bcast_S_S2048x2x1 (constant (F := Ideal) S_ .f32 b) (ix3 r h 0) = Ideal.ofBits .f32 b := by
  pointwise []

theorem top_apply (x : FVec Ideal S2048x2x1024 .f32) (r : Fin 2048) (h : Fin 2) :
    top x (ix3 r h 0) = Qt.top fun k => x (ix3 r h k) := by
  unfold top
  rw [maximumf_apply, column_apply, const_apply, largest_apply]
  rfl

theorem decoded_apply (x : FVec Ideal S2048x2x1024 .f32) (t : FVec Ideal S2048x2x1 .f32) (r : Fin 2048) (h : Fin 2) (j : Fin 1024) :
    decoded x t (ix3 r h j)
      = FloatOps.sitofp (F := Ideal) .f32 (((FloatOps.fptosi (F := Ideal) (φ := .f32) 32
          (Qt.rounded (x (ix3 r h j)) (t (ix3 r h 0)))).setWidth 8).signExtend 32) * Qt.unit (t (ix3 r h 0)) := by
  pointwise [decoded, Qt.rounded, Qt.unit]

theorem roundTrip_apply (x : FVec Ideal S2048x2x1024 .f32) (r : Fin 2048) (h : Fin 2) (j : Fin 1024) :
    roundTrip x (ix3 r h j) = Qt.trip (fun k => x (ix3 r h k)) j := by
  unfold roundTrip Qt.trip
  rw [decoded_apply, top_apply, Qt.code_eq _ _ (Qt.top_pos _) (Qt.le_top (fun k => x (ix3 r h k)) j)]

/-! ## The partial products -/

/-- Entry of the product of row `c * 512 + r` of A and column `h * 1024 + j` of B, taken over the 1024 places of device `d`. -/
def part (A : FVec Ideal S2048x4096 .f32) (B : FVec Ideal S4096x2048 .f32) (c d : Fin 4) (r : Fin 512) (h : Fin 2) (j : Fin 1024) :
    EReal :=
  ∑ x : Fin 1024, A (ix2 ⟨512 * c.val + r.val, by omega⟩ ⟨1024 * d.val + x.val, by omega⟩)
    * B (ix2 ⟨1024 * d.val + x.val, by omega⟩ ⟨1024 * h.val + j.val, by omega⟩)

section
variable (A : FVec Ideal S2048x4096 .f32) (B : FVec Ideal S4096x2048 .f32)

/-- The row of device `c`'s block. -/
abbrev row (c : Fin 4) (r : Fin 512) : Fin 2048 := ⟨512 * c.val + r.val, by omega⟩

theorem stackRows_apply (u0 u1 u2 u3 : FVec Ideal S512x2048 .f32) (c : Fin 4) (r : Fin 512) (h : Fin 2) (j : Fin 1024) :
    shapeCast S2048x2x1024 (stackRows u0 u1 u2 u3) shapeCasts_S2048x2048_S2048x2x1024 (ix3 (row c r) h j)
      = (![u0, u1, u2, u3] c) (ix2 r ⟨1024 * h.val + j.val, by omega⟩) := by
  have e : 1024 * h.val + j.val = h.val * 1024 + j.val := by omega
  simp only [e]
  pointwise [stackRows]
  have hr := r.isLt
  match c with
  | 0 => rw [dif_pos (by simp)]; simp
  | 1 => rw [dif_neg (by simp), dif_pos (by simp)]; simp
  | 2 => rw [dif_neg (by simp; omega), dif_neg (by simp; omega), dif_pos (by simp; omega)]; congr 2; apply Fin.ext; simp; omega
  | 3 => rw [dif_neg (by simp; omega), dif_neg (by simp; omega), dif_neg (by simp; omega)]; congr 2; apply Fin.ext; simp; omega

theorem prod_apply (c d : Fin 4) (n k : Nat) (hn : n = 512 * c.val) (hk : k = 1024 * d.val) (hA hB) (r : Fin 512) (h : Fin 2) (j : Fin 1024) :
    prod A B n k hA hB (ix2 r ⟨1024 * h.val + j.val, by omega⟩) = part A B c d r h j := by
  subst hn hk
  pointwise [prod, part]

theorem halves_apply (x y : FVec Ideal S2048x2x1024 .f32) (r : Fin 2048) (h : Fin 2) (j : Fin 1024) :
    halves x y (ix3 r h j) = if h = 0 then x (ix3 r h j) else y (ix3 r h j) := by
  pointwise [halves, sideBySide]
  match h with
  | 0 => rfl
  | 1 => rfl

theorem ownPart_apply (c : Fin 4) (r : Fin 512) (h : Fin 2) (j : Fin 1024) :
    ownPart A B (ix3 (row c r) h j) = part A B c c r h j := by
  unfold ownPart
  rw [stackRows_apply]
  match c with
  | 0 => exact prod_apply A B 0 0 _ _ rfl rfl _ _ r h j
  | 1 => exact prod_apply A B 1 1 _ _ rfl rfl _ _ r h j
  | 2 => exact prod_apply A B 2 2 _ _ rfl rfl _ _ r h j
  | 3 => exact prod_apply A B 3 3 _ _ rfl rfl _ _ r h j

theorem afterPart_apply (c : Fin 4) (r : Fin 512) (h : Fin 2) (j : Fin 1024) :
    afterPart A B (ix3 (row c r) h j) = part A B c (c + 1) r h j := by
  unfold afterPart
  rw [stackRows_apply]
  match c with
  | 0 => exact prod_apply A B 0 1 _ _ rfl rfl _ _ r h j
  | 1 => exact prod_apply A B 1 2 _ _ rfl rfl _ _ r h j
  | 2 => exact prod_apply A B 2 3 _ _ rfl rfl _ _ r h j
  | 3 => exact prod_apply A B 3 0 _ _ rfl rfl _ _ r h j

theorem oppositePart_apply (c : Fin 4) (r : Fin 512) (h : Fin 2) (j : Fin 1024) :
    oppositePart A B (ix3 (row c r) h j) = part A B c (c + 2) r h j := by
  unfold oppositePart
  rw [stackRows_apply]
  match c with
  | 0 => exact prod_apply A B 0 2 _ _ rfl rfl _ _ r h j
  | 1 => exact prod_apply A B 1 3 _ _ rfl rfl _ _ r h j
  | 2 => exact prod_apply A B 2 0 _ _ rfl rfl _ _ r h j
  | 3 => exact prod_apply A B 3 1 _ _ rfl rfl _ _ r h j

theorem beforePart_apply (c : Fin 4) (r : Fin 512) (h : Fin 2) (j : Fin 1024) :
    beforePart A B (ix3 (row c r) h j) = part A B c (c + 3) r h j := by
  unfold beforePart
  rw [stackRows_apply]
  match c with
  | 0 => exact prod_apply A B 0 3 _ _ rfl rfl _ _ r h j
  | 1 => exact prod_apply A B 1 0 _ _ rfl rfl _ _ r h j
  | 2 => exact prod_apply A B 2 1 _ _ rfl rfl _ _ r h j
  | 3 => exact prod_apply A B 3 2 _ _ rfl rfl _ _ r h j

theorem flat_apply (x : FVec Ideal S2048x2x1024 .f32) (r : Fin 2048) (l : Fin 2048) :
    shapeCast S2048x2048 x shapeCasts_S2048x2x1024_S2048x2048 (ix2 r l) = x (ix3 r ⟨l.val / 1024, by omega⟩ ⟨l.val % 1024, by omega⟩) := by
  pointwise []

/-! ## The result -/

/-- Half `h` of a row of device `c`'s block, where device `d` sends its part directly and device `e` relays that of
    device `c + 2`. -/
def entry (c d e : Fin 4) (r : Fin 512) (h : Fin 2) (j : Fin 1024) : EReal :=
  Qt.trip (fun k => part A B c d r h k) j + part A B c c r h j
    + Qt.trip (fun k => Qt.trip (fun l => part A B c (c + 2) r h l) k + part A B c e r h k) j

theorem flat_half (x : FVec Ideal S2048x2x1024 .f32) (r : Fin 2048) (h : Fin 2) (j : Fin 1024) :
    shapeCast S2048x2048 x shapeCasts_S2048x2x1024_S2048x2048 (ix2 r ⟨1024 * h.val + j.val, by omega⟩) = x (ix3 r h j) := by
  have e : (⟨(1024 * h.val + j.val) / 1024, by omega⟩ : Fin 2) = h := Fin.ext (by simp; omega)
  have e' : (⟨(1024 * h.val + j.val) % 1024, by omega⟩ : Fin 1024) = j := Fin.ext (by simp)
  rw [flat_apply, e, e']

theorem sum_apply (x y : FVec Ideal S2048x2x1024 .f32) (r : Fin 2048) (h : Fin 2) (j : Fin 1024) :
    addf x y (ix3 r h j) = x (ix3 r h j) + y (ix3 r h j) := by rw [addf_apply, Ideal.addf_def]

theorem refVal_apply (c : Fin 4) (r : Fin 512) (h : Fin 2) (j : Fin 1024) :
    refVal A B (ix2 (row c r) ⟨1024 * h.val + j.val, by omega⟩)
      = if h = 0 then entry A B c (c + 3) (c + 1) r h j else entry A B c (c + 1) (c + 3) r h j := by
  have e₁ : (fun k => halves (beforePart A B) (afterPart A B) (ix3 (row c r) h k))
      = fun k => if h = 0 then part A B c (c + 3) r h k else part A B c (c + 1) r h k :=
    funext fun k => by rw [halves_apply, beforePart_apply, afterPart_apply]
  have e₃ : (fun k => oppositePart A B (ix3 (row c r) h k)) = fun k => part A B c (c + 2) r h k :=
    funext fun k => by rw [oppositePart_apply]
  have e₂ : (fun k => addf (roundTrip (oppositePart A B)) (halves (afterPart A B) (beforePart A B)) (ix3 (row c r) h k))
      = fun k => Qt.trip (fun l => part A B c (c + 2) r h l) k
          + if h = 0 then part A B c (c + 1) r h k else part A B c (c + 3) r h k :=
    funext fun k => by rw [sum_apply, roundTrip_apply, e₃, halves_apply, beforePart_apply, afterPart_apply]
  unfold refVal entry
  rw [flat_half, sum_apply, sum_apply, roundTrip_apply, roundTrip_apply, ownPart_apply, e₁, e₂]
  by_cases hh : h = 0 <;> simp only [hh, ↓reduceIte]
end

end Cert.Rf
-- ==== Proof.Value.lean ====
/- 01_k — the two programs' values: each device's block of the result is its block of the reference's. -/
module

public import proofs.«01_k».proof.Proof.Split
public import proofs.«01_k».proof.Proof.KerVal
public import proofs.«01_k».proof.Proof.RefVal
public import Idealize.ShloMosaic.Lib.Layout
public import Idealize.ShloMosaic.Lib.Pointwise.IndexBridge

@[expose] public section

set_option maxRecDepth 16384

noncomputable section

namespace Cert.Mk

open Cert.KernelIdeal Cert.KernelIdeal.Gen Idealize.ShloMosaic Idealize.ShloMosaic.TcCoe

variable (m : (ℓ : Loc nD τ sig) → Buf (Elt Ideal) ℓ)
variable (A : FVec Ideal ⟨2, ![2048, 4096]⟩ .f32) (B : FVec Ideal ⟨2, ![4096, 2048]⟩ .f32)

/-- A row block of a device's columns of A. -/
theorem Am_apply (d c : Dev nD) (hA : m ((d : Thread nD τ).loc main_arg0) = Layout.block ⟨2, ![2048, 1024]⟩ ⟨2, ![2048, 4096]⟩ 1 4 d A)
    (r : Fin 512) (x : Fin 1024) :
    Am m d c (ix2 r x) = A (ix2 (Cert.Rf.row c r) ⟨1024 * d.val + x.val, by have := d.isLt; have : nD = 4 := rfl; omega⟩) := by
  unfold Am
  rw [hA]
  refine congrArg A (funext fun a => Fin.ext ?_)
  match a with
  | 0 => show 512 * c.val + 1 * r.val = 512 * c.val + r.val; omega
  | 1 => show d.val * 1024 + (0 + 1 * x.val) = 1024 * d.val + x.val; omega

/-- A column half of a device's rows of B. -/
theorem Bm_apply (d : Dev nD) (h : Fin 2) (hB : m ((d : Thread nD τ).loc main_arg1) = Layout.block ⟨2, ![1024, 2048]⟩ ⟨2, ![4096, 2048]⟩ 0 4 d B)
    (x l : Fin 1024) :
    Bm m d h (ix2 x l) = B (ix2 ⟨1024 * d.val + x.val, by have := d.isLt; have : nD = 4 := rfl; omega⟩ ⟨1024 * h.val + l.val, by omega⟩) := by
  unfold Bm
  rw [hB]
  refine congrArg B (funext fun a => Fin.ext ?_)
  match a with
  | 0 => show d.val * 1024 + (0 + 1 * x.val) = 1024 * d.val + x.val; omega
  | 1 => show 1024 * h.val + 1 * l.val = 1024 * h.val + l.val; omega

section
variable (hA : ∀ c : Dev nD, m ((c : Thread nD τ).loc main_arg0) = Layout.block ⟨2, ![2048, 1024]⟩ ⟨2, ![2048, 4096]⟩ 1 4 c A)
variable (hB : ∀ c : Dev nD, m ((c : Thread nD τ).loc main_arg1) = Layout.block ⟨2, ![1024, 2048]⟩ ⟨2, ![4096, 2048]⟩ 0 4 c B)
include hA hB

theorem partK_eq (d c : Dev nD) (h : Fin 2) (r : Fin 512) (l : Fin 1024) : partK m d c h (ix2 r l) = Cert.Rf.part A B c d r h l := by
  rw [partK_apply]
  exact Finset.sum_congr rfl fun x _ => congrArg₂ (· * ·) (Am_apply m A d c (hA d) r x) (Bm_apply m B d h (hB d) x l)

theorem entryK_eq (c d e : Dev nD) (h : Fin 2) (r : Fin 512) (j : Fin 1024) :
    entryK m c d e h r j = Cert.Rf.entry A B c d e r h j := by
  have p : ∀ d : Dev nD, (fun k => partK m d c h (ix2 r k)) = fun k => Cert.Rf.part A B c d r h k :=
    fun d => funext fun k => partK_eq m A B hA hB d c h r k
  have q : (fun k => Qt.trip (fun l => partK m (opp c) c h (ix2 r l)) k + partK m e c h (ix2 r k))
      = fun k => Qt.trip (fun l => Cert.Rf.part A B c (opp c) r h l) k + Cert.Rf.part A B c e r h k :=
    funext fun k => by rw [p, partK_eq m A B hA hB]
  unfold entryK Cert.Rf.entry
  rw [p, q, partK_eq m A B hA hB]
  rfl

theorem outAt_eq (c : Dev nD) : outAt c m = Layout.block ⟨2, ![512, 2048]⟩ ⟨2, ![2048, 2048]⟩ 0 4 c (Cert.Rf.refVal A B) := by
  funext i
  have key : ∀ (h : Fin 2) (j : Fin 1024), (i 1 : ℕ) = 1024 * h.val + j.val →
      (Layout.block ⟨2, ![512, 2048]⟩ ⟨2, ![2048, 2048]⟩ 0 4 c (Cert.Rf.refVal A B)) i
        = Cert.Rf.refVal A B (ix2 (Cert.Rf.row c ⟨(i 0 : ℕ), (i 0).isLt⟩) ⟨1024 * h.val + j.val, by omega⟩) := fun h j e => by
    refine congrArg (Cert.Rf.refVal A B) (funext fun a => Fin.ext ?_)
    match a with
    | 0 => show c.val * 512 + (i 0 : ℕ) = 512 * c.val + (i 0 : ℕ); omega
    | 1 => exact e
  have hi1 : (i 1 : ℕ) < 2048 := (i 1).isLt
  unfold outAt
  by_cases h : (i 1 : ℕ) < 1024
  · rw [dif_pos h, key 0 ⟨(i 1 : ℕ), h⟩ (by simp), Cert.Rf.refVal_apply, if_pos rfl, ← ix2_eq_valueIdx, lo_apply, entryK_eq m A B hA hB]
    rfl
  · rw [dif_neg h, key 1 ⟨(i 1 : ℕ) - 1024, by omega⟩ (by simp; omega), Cert.Rf.refVal_apply, if_neg Fin.zero_ne_one.symm,
      ← ix2_eq_valueIdx, hi_apply, entryK_eq m A B hA hB]
    rfl
end

end Cert.Mk
-- ==== Proof.lean ====
/- 01_k — the claims: the frames of the three programs, the idealization, and the result's value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Same
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_p : @Cert.quiescent_Kernel Cert.Kernel.Gen.facts := fun m ρ _ => by
  rw [Cert.Mk.defs_same]
  exact (θ_run Cert.KernelIdeal.defs _ _).mono (fun _ h => ⟨fun c => (h.1 c).2, h.2⟩) (Cert.Mk.run_main (F := Bits) m ρ)

theorem frame_pi : @Cert.quiescent_KernelIdeal Cert.KernelIdeal.Gen.facts := fun m ρ _ =>
  (θ_run Cert.KernelIdeal.defs _ _).mono (fun _ h => ⟨fun c => (h.1 c).2, h.2⟩) (Cert.Mk.run_main (F := Ideal) m ρ)

theorem frame_ri : @Cert.quiescent_ReferenceIdeal Cert.ReferenceIdeal.Gen.facts := fun m ρ _ =>
  (θ_run Cert.ReferenceIdeal.defs _ _).mono (fun _ h => ⟨fun c => (h.1 c).2, h.2⟩) (Cert.Rf.run (F := Ideal) m ρ)

theorem value : @Cert.algebraic_KernelIdeal_ReferenceIdeal Cert.KernelIdeal.Gen.facts Cert.ReferenceIdeal.Gen.facts :=
  fun m ρ m' ρ' _ hm => by
    refine ⟨Cert.Rf.refVal (F := Ideal) (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)), ?_, ?_⟩
    · exact (θ_run Cert.KernelIdeal.defs _ _).mono
        (fun _ h c => ⟨(h.1 c).1.trans (Cert.Mk.outAt_eq m _ _ (fun d => (hm d).1) (fun d => (hm d).2) c), (h.1 c).2⟩)
        (Cert.Mk.run_main (F := Ideal) m ρ)
    · exact (θ_run Cert.ReferenceIdeal.defs _ _).mono (fun _ h => h.1 0) (Cert.Rf.run (F := Ideal) m' ρ')

theorem claim : Cert.Claim := ⟨Cert.Kernel.Gen.facts, Cert.KernelIdeal.Gen.facts, Cert.ReferenceIdeal.Gen.facts,
  frame_p, frame_pi, frame_ri, trivial, value⟩

end Cert.Proof

end
